-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_ReferenceIdeal_on_in_clip_range [hKernelIdeal : Cert.KernelIdeal.Facts] [hReferenceIdeal : Cert.ReferenceIdeal.Facts] [hOn_in_clip_range : Cert.On_in_clip_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Layout.block ⟨2, ![4096, 2048]⟩ ⟨2, ![4096, 8192]⟩ 1 4 c ((Cert.On_in_clip_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 2048]⟩ : Shape).Idx → _) i = 1#1 → r.2.mem ((c.tc : Thread Cert.KernelIdeal.nD Cert.KernelIdeal.τ).loc Cert.KernelIdeal.main_v1) i = (Layout.block ⟨2, ![4096, 2048]⟩ ⟨2, ![4096, 8192]⟩ 1 4 c v0 : (⟨2, ![4096, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_in_clip_range.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v11) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v10) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_in_clip_range : Cert.On_in_clip_range.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_ReferenceIdeal_on_in_clip_range (hKernelIdeal := hKernelIdeal) (hReferenceIdeal := hReferenceIdeal) (hOn_in_clip_range := hOn_in_clip_range)
    ∧ algebraic_KernelIdeal_UnclippedIdeal (hKernelIdeal := hKernelIdeal) (hUnclippedIdeal := hUnclippedIdeal)
-- ==== On_in_clip_range.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_v5 : FVec F S4096x8192 .f32 := Host.absf main_v4
  let main_cst : FVec F S_ .f32 := constant S_ .f32 0x42700000#32
  let main_v6 : FVec F S4096x8192 .f32 := broadcastInDim S4096x8192 ![] bcast_S_S4096x8192 main_cst
  let main_v7 : IVec S4096x8192 1 := cmpf .ole main_v5 main_v6
  main_v7
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S2x512x4096 : Shape := ⟨3, ![2, 512, 4096]⟩
abbrev S3x1024x4096 : Shape := ⟨3, ![3, 1024, 4096]⟩
abbrev S2x4096x256 : Shape := ⟨3, ![2, 4096, 256]⟩
abbrev S2x512x2048 : Shape := ⟨3, ![2, 512, 2048]⟩
abbrev S10 : Shape := ⟨1, ![10]⟩
abbrev S4 : Shape := ⟨1, ![4]⟩
abbrev S2 : Shape := ⟨1, ![2]⟩
abbrev S_ : Shape := ⟨0, ![]⟩
abbrev S1x256x4096 : Shape := ⟨3, ![1, 256, 4096]⟩
abbrev S256x4096 : Shape := ⟨2, ![256, 4096]⟩
abbrev S1x4096x256 : Shape := ⟨3, ![1, 4096, 256]⟩
abbrev S4096x256 : Shape := ⟨2, ![4096, 256]⟩
abbrev S1x512x4096 : Shape := ⟨3, ![1, 512, 4096]⟩
abbrev S512x4096 : Shape := ⟨2, ![512, 4096]⟩
abbrev S512x2048 : Shape := ⟨2, ![512, 2048]⟩
abbrev S1x512x2048 : Shape := ⟨3, ![1, 512, 2048]⟩
abbrev S256x2048 : Shape := ⟨2, ![256, 2048]⟩
abbrev S1x256x2048 : Shape := ⟨3, ![1, 256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S2x512x4096, .f32⟩
  | .local _ .vmem, ⟨1, _⟩ => ⟨S1024x4096, .fp8e4m3⟩
  | .local _ .vmem, ⟨2, _⟩ => ⟨S3x1024x4096, .fp8e4m3⟩
  | .local _ .vmem, ⟨3, _⟩ => ⟨S4096x2048, .fp8e5m2⟩
  | .local _ .vmem, ⟨4, _⟩ => ⟨S2x4096x256, .f32⟩
  | .local _ .vmem, ⟨5, _⟩ => ⟨S2x512x2048, .bf16⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c0_i32_40 : BitVec 32) : Fin 2 → Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v57 : BitVec 32 := Scalar.muli v2 c2048_i32
  let v58 : BitVec 32 := Scalar.addi v57 c0_i32_40
  ![0, v58.toNat]
def k0_dev1 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_53 : BitVec 32 := 1#32
  let v71 : BitVec 32 := Scalar.muli v14 c1_i32_53
  let v72 : BitVec 32 := Scalar.addi c0_i32_54 v71
  v72.toNat
def k0_dev2 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_56 : BitVec 32 := 1#32
  let v73 : BitVec 32 := Scalar.muli v25 c1_i32_56
  let v74 : BitVec 32 := Scalar.addi c0_i32_57 v73
  v74.toNat
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_72 : BitVec 32 := 1#32
  let v86 : BitVec 32 := Scalar.muli v25 c1_i32_72
  let v87 : BitVec 32 := Scalar.addi c0_i32_73 v86
  v87.toNat
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_90 : BitVec 32 := 1#32
  let v106 : BitVec 32 := Scalar.muli v14 c1_i32_90
  let v107 : BitVec 32 := Scalar.addi c0_i32_91 v106
  v107.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_109 : BitVec 32 := 1#32
  let v126 : BitVec 32 := Scalar.muli v25 c1_i32_109
  let v127 : BitVec 32 := Scalar.addi c0_i32_110 v126
  v127.toNat
def k0_dev6 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_128 : BitVec 32 := 1#32
  let v146 : BitVec 32 := Scalar.muli v14 c1_i32_128
  let v147 : BitVec 32 := Scalar.addi c0_i32_129 v146
  v147.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_137 : BitVec 32 := 1#32
  let v155 : BitVec 32 := Scalar.muli v25 c1_i32_137
  let v156 : BitVec 32 := Scalar.addi c0_i32_138 v155
  v156.toNat
def k0_dev8 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_145 : BitVec 32 := 1#32
  let v164 : BitVec 32 := Scalar.muli v14 c1_i32_145
  let v165 : BitVec 32 := Scalar.addi c0_i32_146 v164
  v165.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_263 : BitVec 32 := 1024#32
  let v301 : BitVec 32 := Scalar.muli v2 c1024_i32_263
  let c0_i32_274 : BitVec 32 := 0#32
  ![v301.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_279 : BitVec 32 := 1024#32
  let v324 : BitVec 32 := Scalar.muli v2 c1024_i32_279
  let c512_i32_280 : BitVec 32 := 512#32
  let v325 : BitVec 32 := Scalar.addi v324 c512_i32_280
  let c0_i32_292 : BitVec 32 := 0#32
  ![v325.toNat, 0]
def k0_dev9 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_316 : BitVec 32 := 1#32
  let v361 : BitVec 32 := Scalar.muli v25 c1_i32_316
  let v362 : BitVec 32 := Scalar.addi c0_i32_317 v361
  v362.toNat
def k0_dev10 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_325 : BitVec 32 := 1#32
  let v371 : BitVec 32 := Scalar.muli v25 c1_i32_325
  let v372 : BitVec 32 := Scalar.addi c0_i32_326 v371
  v372.toNat
def k0_dev11 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_352 : BitVec 32 := 1#32
  let v395 : BitVec 32 := Scalar.muli v14 c1_i32_352
  let v396 : BitVec 32 := Scalar.addi c0_i32_353 v395
  v396.toNat
def k0_dev12 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_361 : BitVec 32 := 1#32
  let v405 : BitVec 32 := Scalar.muli v14 c1_i32_361
  let v406 : BitVec 32 := Scalar.addi c0_i32_362 v405
  v406.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1024_i32_370 : BitVec 32 := 1024#32
  let v417 : BitVec 32 := Scalar.muli v14 c1024_i32_370
  let c0_i32_387 : BitVec 32 := 0#32
  ![v417.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1024_i32_393 : BitVec 32 := 1024#32
  let v446 : BitVec 32 := Scalar.muli v25 c1024_i32_393
  let c512_i32_394 : BitVec 32 := 512#32
  let v447 : BitVec 32 := Scalar.addi v446 c512_i32_394
  let c0_i32_411 : BitVec 32 := 0#32
  ![v447.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1024_i32_426 : BitVec 32 := 1024#32
  let v483 : BitVec 32 := Scalar.muli v14 c1024_i32_426
  let c512_i32_427 : BitVec 32 := 512#32
  let v484 : BitVec 32 := Scalar.addi v483 c512_i32_427
  let c0_i32_444 : BitVec 32 := 0#32
  ![v484.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1024_i32_459 : BitVec 32 := 1024#32
  let v520 : BitVec 32 := Scalar.muli v25 c1024_i32_459
  let c0_i32_476 : BitVec 32 := 0#32
  ![v520.toNat, 0]
def k0_off8 (d0 : Dev nD) (c0_i32_492 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1024_i32_491 : BitVec 32 := 1024#32
  let v557 : BitVec 32 := Scalar.muli v36 c1024_i32_491
  let v558 : BitVec 32 := Scalar.addi v557 c0_i32_492
  let c0_i32_509 : BitVec 32 := 0#32
  ![v558.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.RunKernelIdeal.Base.lean ====
/-
The four-device kernel's protocol: the resource algebra, the neighbours, what every buffer holds at each stage of the
run, and the semaphores' schedule.

Device `c` has the left neighbour `lft c` and the right neighbour `rgt c`; `opp c` is the remaining device. The ten
remote copies are numbered as the kernel numbers their semaphores: 0, 1, 2, 6, 7 go to the right, 3, 4, 5, 8, 9 to the
left; 0 to 5 send rows of the device's own quantized block, 6 to 9 pass on rows received from a neighbour.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Tactic

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The cells' rounds, beside the counters the local transfers take their tokens from. -/
abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds in the middle factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters of the local transfers. -/
abbrev EC : UEmb Counters (MT nD τ sig Unit (Elt F) ℕ UU ℕ) := countersEmb

abbrev 𝒱₀ : Variants := Variants.none

variable (m : (ℓ : Loc nD τ sig) → Buf (Elt F) ℓ)

/-! ## The neighbours -/

set_option backward.proofsInPublic true in
def lft (c : Dev nD) : Dev nD := ⟨(c.val + 3) % 4, Nat.mod_lt _ (by decide)⟩
set_option backward.proofsInPublic true in
def rgt (c : Dev nD) : Dev nD := ⟨(c.val + 1) % 4, Nat.mod_lt _ (by decide)⟩
set_option backward.proofsInPublic true in
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem lft_lft (c : Dev nD) : lft (lft c) = opp c := by revert c; decide
theorem rgt_rgt (c : Dev nD) : rgt (rgt c) = opp c := by revert c; decide

/-- The device copy `i` of device `c` goes to. -/
def tgt (i : Fin 10) (c : Dev nD) : Dev nD := if i ∈ ([0, 1, 2, 6, 7] : List (Fin 10)) then rgt c else lft c
/-- The device copy `i` into device `c` comes from. -/
def org (i : Fin 10) (c : Dev nD) : Dev nD := if i ∈ ([0, 1, 2, 6, 7] : List (Fin 10)) then lft c else rgt c
theorem org_tgt (i : Fin 10) (c : Dev nD) : org i (tgt i c) = c := by revert i c; decide
theorem tgt_org (i : Fin 10) (c : Dev nD) : tgt i (org i c) = c := by revert i c; decide

/-! ## Index sets -/

/-- The indices of a shape whose coordinates lie in the given ranges. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by
  simp [box]

theorem unit_set {s : Shape} (off size : Fin s.rank → ℕ) (h : ∀ a, off a + size a ≤ s.size a) :
    (Rect.unit (s := s) off size h).set = box off size := by
  ext i; rw [mem_box, Rect.mem_set_unit]

/-- The index of a shape with the given coordinates (taken modulo the extents). -/
def wrap (s : Shape) (h : ∀ a, 0 < s.size a) (v : Fin s.rank → ℕ) : s.Idx := fun a => ⟨v a % s.size a, Nat.mod_lt _ (h a)⟩

theorem eq_wrap {s : Shape} {h : ∀ a, 0 < s.size a} {v : Fin s.rank → ℕ} {i : s.Idx} (e : ∀ a, (i a).val = v a) : i = wrap s h v := by
  funext a; apply Fin.ext; show (i a).val = v a % s.size a; rw [Nat.mod_eq_of_lt (e a ▸ (i a).isLt), e a]

/-! ## Contents -/

/-- Device `c`'s rows of `x`, as launched. -/
def X (c : Dev nD) : (main_arg0 : Ref sig .tc).ty.Contents (Elt F) := m ((c : Thread nD τ).loc main_arg0)
/-- Device `c`'s `w`, as launched. -/
def W (c : Dev nD) : (main_arg1 : Ref sig .tc).ty.Contents (Elt F) := m ((c : Thread nD τ).loc main_arg1)
/-- Device `c`'s two scales, as launched. -/
def SX (c : Dev nD) : (main_arg2 : Ref sig .tc).ty.Contents (Elt F) := m ((c : Thread nD τ).loc main_arg2)
def SW (c : Dev nD) : (main_arg3 : Ref sig .tc).ty.Contents (Elt F) := m ((c : Thread nD τ).loc main_arg3)

/-- An index of a device's rows of `x`. -/
def xIdx (r k : ℕ) : S1024x4096.Idx := wrap S1024x4096 (by decide) ![r, k]
/-- An index of `w`. -/
def wIdx (k n : ℕ) : S4096x8192.Idx := wrap S4096x8192 (by decide) ![k, n]

/-- The quantized rows of device `c`. -/
def XQ (c : Dev nD) : (cc0_scratch1 : Ref sig .tc).ty.Contents (Elt F) := fun i => (truncf .fp8e4m3 (X m c : FVec F S1024x4096 .f32) bitsLt_fp8e4m3_f32 : FVec F S1024x4096 .fp8e4m3) i
/-- The staging buffer of the rows: the device's rows, 512 to a slot. -/
def XS (c : Dev nD) : (cc0_scratch0 : Ref sig .tc).ty.Contents (Elt F) := fun i => X m c (xIdx (512 * (i 0).val + (i 1).val) (i 2).val)
/-- The gathered rows: slot 0 the left neighbour's, slot 1 the right neighbour's, slot 2 the opposite device's. -/
def XG (c : Dev nD) : (cc0_scratch2 : Ref sig .tc).ty.Contents (Elt F) := fun i =>
  XQ m (if (i 0).val = 0 then lft c else if (i 0).val = 1 then rgt c else opp c) (xIdx (i 1).val (i 2).val)
/-- The device's 2048 columns of `w`, quantized. -/
def WQ (c : Dev nD) : (cc0_scratch3 : Ref sig .tc).ty.Contents (Elt F) := fun i =>
  (truncf .fp8e5m2 (W m c : FVec F S4096x8192 .f32) bitsLt_fp8e5m2_f32 : FVec F S4096x8192 .fp8e5m2) (wIdx (i 0).val (2048 * c.val + (i 1).val))
/-- Chunk `j` of 256 of those columns, as staged. -/
def WS (c : Dev nD) (j : ℕ) : (cc0_scratch4 : Ref sig .tc).ty.Contents (Elt F) := fun i =>
  W m c (wIdx (i 1).val (2048 * c.val + 256 * j + (i 2).val))

/-- The product of the device's two scales. -/
def scale (c : Dev nD) : F .f32 := Scalar.mulf (SX m c (wrap S1 (by decide) ![0])) (SW m c (wrap S1 (by decide) ![0]))

/-- The kernel's activation: `y` times the reciprocal of one plus `exp (0 - y)`, in bf16. -/
def act {s : Shape} (y : FVec F s .f32) : FVec F s .bf16 :=
  truncf .bf16 (mulf y (divf (broadcast s (Scalar.ofBits .f32 0x3F800000#32))
    (addf (broadcast s (Scalar.ofBits .f32 0x3F800000#32)) (exp (subf (broadcast s (Scalar.ofBits .f32 0x00000000#32)) y))))) bitsLt_bf16_f32

/-- The result of a block of 512 rows: their product with the columns, scaled, through the activation. -/
def blk512 (s : F .f32) (x : FVec F S512x4096 .fp8e4m3) (w : FVec F S4096x2048 .fp8e5m2) : FVec F S512x2048 .bf16 :=
  act (mulf (matmul dot_S512x4096_S4096x2048_S512x2048_1_0_0_1_n_n none x w (constant S512x2048 .f32 0x00000000#32)) (broadcast S512x2048 s))
/-- The result of a block of 256 rows. -/
def blk256 (s : F .f32) (x : FVec F S256x4096 .fp8e4m3) (w : FVec F S4096x2048 .fp8e5m2) : FVec F S256x2048 .bf16 :=
  act (mulf (matmul dot_S256x4096_S4096x2048_S256x2048_1_0_0_1_n_n none x w (constant S256x2048 .f32 0x00000000#32)) (broadcast S256x2048 s))

/-- 512 quantized rows of device `d`, from row `b`. -/
def rows512 (d : Dev nD) (b : ℕ) : FVec F S512x4096 .fp8e4m3 := fun i => XQ m d (xIdx (b + (i 0).val) (i 1).val)
/-- 256 quantized rows of device `d`, from row `b`. -/
def rows256 (d : Dev nD) (b : ℕ) : FVec F S256x4096 .fp8e4m3 := fun i => XQ m d (xIdx (b + (i 0).val) (i 1).val)

/-- The device holding row `r` of the gathered `x`. -/
def devOf (r : ℕ) : Dev nD := ⟨r / 1024 % 4, Nat.mod_lt _ (by decide)⟩

/-- Device `c`'s result, by global row: the opposite device's rows in blocks of 256, the others in blocks of 512. -/
def OUT (c : Dev nD) : (main_v1 : Ref sig .tc).ty.Contents (Elt F) := fun i =>
  if devOf (i 0).val = opp c
  then blk256 (scale m c) (rows256 m (devOf (i 0).val) ((i 0).val % 1024 / 256 * 256)) (WQ m c) (wrap S256x2048 (by decide) ![(i 0).val % 256, (i 1).val])
  else blk512 (scale m c) (rows512 m (devOf (i 0).val) ((i 0).val % 1024 / 512 * 512)) (WQ m c) (wrap S512x2048 (by decide) ![(i 0).val % 512, (i 1).val])

/-! ## Held pieces of buffers -/

/-- Part `S` of device `c`'s buffer `b`, held at share `q` with contents `f`. -/
def At (c : Dev nD) (b : Ref sig .tc) (S : Finset b.ty.shape.Idx) (q : PosShare TreeShare) (f : b.ty.Contents (Elt F)) : sProp 𝕄 :=
  ((c : Thread nD τ).loc b) ↦[S]{q} f

omit [FloatOps F] in
instance At_storable (c : Dev nD) (b : Ref sig .tc) (S : Finset b.ty.shape.Idx) (q : PosShare TreeShare) (f : b.ty.Contents (Elt F)) :
    BI.Storable (upEmb : UEmb _ 𝕄) (At c b S q f) := by unfold At; infer_instance

/-- Part `S` of device `c`'s buffer `b`, held outright at some contents. -/
def Some (c : Dev nD) (b : Ref sig .tc) (S : Finset b.ty.shape.Idx) : sProp 𝕄 := iprop(∃ f, At (F := F) c b S fullShare f)

omit [FloatOps F] in
instance Some_storable (c : Dev nD) (b : Ref sig .tc) (S : Finset b.ty.shape.Idx) :
    BI.Storable (upEmb : UEmb _ 𝕄) (Some (F := F) c b S) := by unfold Some; infer_instance

/-- A third of the whole share: for the copies of a quarter, for the copies of a half, for the loads. -/
abbrev qA : PosShare TreeShare := fullShare.left
abbrev qB : PosShare TreeShare := fullShare.right.left
abbrev qC : PosShare TreeShare := fullShare.right.right

/-! ## The ten remote copies -/

/-- The slot of the gathered rows copy `i` lands in, its first row there, and its number of rows. -/
def slotOf : Fin 10 → ℕ := ![0, 0, 0, 1, 1, 1, 2, 2, 2, 2]
def rowOf : Fin 10 → ℕ := ![0, 256, 512, 512, 768, 0, 0, 256, 512, 768]
def lenOf : Fin 10 → ℕ := ![256, 256, 512, 256, 256, 512, 256, 256, 256, 256]

/-- Where copy `i` lands. -/
def landBox (i : Fin 10) : Finset S3x1024x4096.Idx := box (s := S3x1024x4096) ![slotOf i, rowOf i, 0] ![1, lenOf i, 4096]

/-- What device `c` lends copy `i`, and gets back when it has been sent. -/
def sendPay (c : Dev nD) (i : Fin 10) : sProp 𝕄 :=
  if i.val < 6 then At c cc0_scratch1 (box (s := S1024x4096) ![rowOf i, 0] ![lenOf i, 4096]) (if lenOf i = 256 then qA else qB) (XQ m c)
  else At c cc0_scratch2 (box (s := S3x1024x4096) ![(if i.val < 8 then 0 else 1), rowOf i, 0] ![1, lenOf i, 4096]) fullShare.left (XG m c)

/-- What device `c` holds when copy `i` into it has landed. -/
def recvPay (c : Dev nD) (i : Fin 10) : sProp 𝕄 := At c cc0_scratch2 (landBox i) fullShare (XG m c)

/-- The landing place of copy `i` from device `c`, on the device it goes to. -/
def land (c : Dev nD) (i : Fin 10) : sProp 𝕄 := Some (F := F) (tgt i c) cc0_scratch2 (landBox i)

/-- What the right (`true`) and left (`false`) neighbour's signal hands device `c`: the landing places there. -/
def barPay (c : Dev nD) (d : Bool) : sProp 𝕄 :=
  if d then iprop(land (F := F) c 0 ∗ land (F := F) c 1 ∗ land (F := F) c 2 ∗ land (F := F) c 6 ∗ land (F := F) c 7)
  else iprop(land (F := F) c 3 ∗ land (F := F) c 4 ∗ land (F := F) c 5 ∗ land (F := F) c 8 ∗ land (F := F) c 9)

omit [FloatOps F] in
instance land_storable (c : Dev nD) (i : Fin 10) : BI.Storable (upEmb : UEmb _ 𝕄) (land (F := F) c i) := by unfold land; infer_instance
omit [FloatOps F] in
instance barPay_storable (c : Dev nD) (d : Bool) : BI.Storable (upEmb : UEmb _ 𝕄) (barPay (F := F) c d) := by unfold barPay; split <;> infer_instance
instance sendPay_storable (c : Dev nD) (i : Fin 10) : BI.Storable (upEmb : UEmb _ 𝕄) (sendPay m c i) := by unfold sendPay; split <;> infer_instance
instance recvPay_storable (c : Dev nD) (i : Fin 10) : BI.Storable (upEmb : UEmb _ 𝕄) (recvPay m c i) := by unfold recvPay; infer_instance

/-! ## The semaphores -/

/-- The runtime's barrier semaphore; the copies' send and receive semaphores. -/
abbrev barS : Sem sig := (SemArray.scalar (sig.barrier 0 rfl) : Sems sig S_).sem
def sendSem (i : Fin 10) : DmaSem sig := ⟨2 + i.val, Nat.lt_of_lt_of_le (Nat.add_lt_add_left i.isLt 2) (by decide)⟩
def recvSem (i : Fin 10) : DmaSem sig := ⟨12 + i.val, Nat.lt_of_lt_of_le (Nat.add_lt_add_left i.isLt 12) (by decide)⟩

abbrev barCell (c : Dev nD) : GSem nD τ sig := ((c : Thread nD τ), .reg barS)
abbrev sendCell (c : Dev nD) (i : Fin 10) : GSem nD τ sig := ((c : Thread nD τ), .dma (sendSem i))
abbrev recvCell (c : Dev nD) (i : Fin 10) : GSem nD τ sig := ((c : Thread nD τ), .dma (recvSem i))

/-- The credit of a copy of 256 rows, and of one of 512 rows. -/
abbrev gM : Memref sig .tc .vmem S3x1024x4096 .fp8e4m3 := Memref.whole cc0_scratch2
abbrev N256 : ℕ := ((gM.slice (Rect.unit (s := S3x1024x4096) ![0, 0, 0] S1x256x4096.size inb_S3x1024x4096_S1x256x4096_0_0_0) (fun _ => rfl)).squeeze S256x4096 squeezes_S1x256x4096_S256x4096).view.dmaCredit
abbrev N512 : ℕ := ((gM.slice (Rect.unit (s := S3x1024x4096) ![0, 0, 0] S1x512x4096.size inb_S3x1024x4096_S1x512x4096_0_0_0) (fun _ => rfl)).squeeze S512x4096 squeezes_S1x512x4096_S512x4096).view.dmaCredit
def NN (i : Fin 10) : ℕ := if lenOf i = 256 then N256 else N512
theorem N256_pos : 0 < N256 := View.dmaCredit_pos _ (by decide)
theorem N512_pos : 0 < N512 := View.dmaCredit_pos _ (by decide)
theorem NN_pos (i : Fin 10) : 0 < NN i := by unfold NN; split; exacts [N256_pos, N512_pos]

/-- The copy a send or receive semaphore belongs to. -/
def copyOf (q : DmaSem sig) : Fin 10 := ⟨(q.val + 8) % 10, Nat.mod_lt _ (by decide)⟩
theorem copyOf_send (i : Fin 10) : copyOf (sendSem i) = i := by revert i; decide
theorem copyOf_recv (i : Fin 10) : copyOf (recvSem i) = i := by revert i; decide

abbrev IsBar (g : GSem nD τ sig) : Prop := g.1.2 = .tc ∧ g.2 = .reg barS
abbrev IsSend (q : DmaSem sig) : Prop := 2 ≤ q.val ∧ q.val < 12
abbrev IsRecv (q : DmaSem sig) : Prop := 12 ≤ q.val ∧ q.val < 22
theorem isSend (i : Fin 10) : IsSend (sendSem i) := by revert i; decide
theorem isRecv (i : Fin 10) : IsRecv (recvSem i) := by revert i; decide
theorem not_isSend (i : Fin 10) : ¬ IsSend (recvSem i) := by revert i; decide

/-- One round. A barrier cell has two duties of one unit, one for each neighbour; a send or receive cell one, of its
    copy's credit. -/
def rd : Rounds.Schedule (GSem nD τ sig) Bool 𝕄 where
  duties g r := if r = 0 ∧ g.1.2 = .tc then (match g.2 with | .reg s => if s = barS then Finset.univ else ∅ | .dma q => if IsSend q ∨ IsRecv q then {false} else ∅) else ∅
  unitless _ := False
  amount g _ _ := match g.2 with | .reg _ => 1 | .dma q => NN (copyOf q)
  payload g _ d := match g.2 with
    | .reg _ => barPay (F := F) g.1.1 d
    | .dma q => if IsSend q then sendPay m g.1.1 (copyOf q) else recvPay m g.1.1 (copyOf q)
  amount_pos g _ _ _ := by
    rcases g with ⟨t, s | q⟩
    · exact Nat.one_pos
    · exact NN_pos _

instance rd_payload_storable (g : GSem nD τ sig) (r : ℕ) (d : Bool) : BI.Storable (upEmb : UEmb _ 𝕄) ((rd m).payload g r d) := by
  rcases g with ⟨t, s | q⟩
  · show BI.Storable upEmb (barPay (F := F) t.1 d); infer_instance
  · show BI.Storable upEmb (if IsSend q then sendPay m t.1 (copyOf q) else recvPay m t.1 (copyOf q)); split <;> infer_instance

section Sched
variable (c : Dev nD) (i : Fin 10)

theorem duties_bar : (rd m).duties (barCell c) 0 = Finset.univ := by
  dsimp only [rd]; rw [if_pos ⟨rfl, rfl⟩]; exact if_pos rfl
theorem duties_send : (rd m).duties (sendCell c i) 0 = {false} := by
  dsimp only [rd]; rw [if_pos ⟨rfl, rfl⟩]; exact if_pos (.inl (isSend i))
theorem duties_recv : (rd m).duties (recvCell c i) 0 = {false} := by
  dsimp only [rd]; rw [if_pos ⟨rfl, rfl⟩]; exact if_pos (.inr (isRecv i))
theorem duties_later (g : GSem nD τ sig) : ∀ r, 1 ≤ r → (rd m).duties g r = ∅ := fun r hr => by
  dsimp only [rd]; rw [if_neg fun h => by omega]

theorem amount_bar (d : Bool) : (rd m).amount (barCell c) 0 d = 1 := rfl
theorem amount_send (d : Bool) : (rd m).amount (sendCell c i) 0 d = NN i := congrArg NN (copyOf_send i)
theorem amount_recv (d : Bool) : (rd m).amount (recvCell c i) 0 d = NN i := congrArg NN (copyOf_recv i)

theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (rd m).expect (sendCell c i) 0 = NN i := by
  unfold Schedule.expect Schedule.amountOf; rw [duties_send, Finset.sum_singleton, amount_send]
theorem expect_recv : (rd m).expect (recvCell c i) 0 = NN i := by
  unfold Schedule.expect Schedule.amountOf; rw [duties_recv, Finset.sum_singleton, amount_recv]

theorem payload_bar (d : Bool) : (rd m).payload (barCell c) 0 d = barPay (F := F) c d := rfl
theorem payload_send (d : Bool) : (rd m).payload (sendCell c i) 0 d = sendPay m c i := by
  show (if IsSend (sendSem i) then sendPay m c (copyOf (sendSem i)) else recvPay m c (copyOf (sendSem i))) = _
  rw [if_pos (isSend i), copyOf_send]
theorem payload_recv (d : Bool) : (rd m).payload (recvCell c i) 0 d = recvPay m c i := by
  show (if IsSend (recvSem i) then sendPay m c (copyOf (recvSem i)) else recvPay m c (copyOf (recvSem i))) = _
  rw [if_neg (not_isSend i), copyOf_recv]

/-- What a barrier cell's round hands over: both neighbours' landing places. -/
theorem rest_bar : bigSep ((rd m).duties (barCell c) 0 \ ∅) (fun d => (rd m).payload (barCell c) 0 d) = iprop(barPay (F := F) c false ∗ barPay (F := F) c true) := by
  rw [Finset.sdiff_empty, duties_bar, bigSep_univ_eq_bigSepL [false, true] (by decide) (by decide), bigSepL_cons_cons, bigSepL_singleton]
  rfl
theorem rest_send : bigSep ((rd m).duties (sendCell c i) 0 \ ∅) (fun d => (rd m).payload (sendCell c i) 0 d) = sendPay m c i := by
  rw [Finset.sdiff_empty, duties_send, bigSep_singleton, payload_send]
theorem rest_recv : bigSep ((rd m).duties (recvCell c i) 0 \ ∅) (fun d => (rd m).payload (recvCell c i) 0 d) = recvPay m c i := by
  rw [Finset.sdiff_empty, duties_recv, bigSep_singleton, payload_recv]

end Sched

/-! ## Debts and levels -/

/-- What device `c` owes while the copies in `l` are still to be issued, in that order. -/
def owedL (c : Dev nD) : List (Fin 10) → CellTallies nD τ sig Unit
  | [] => 0
  | i :: l => owedL c l + tallyAt (recvCell (tgt i c) i) () (NN i)

/-- The copies in the order the program issues them. -/
abbrev sends : List (Fin 10) := [0, 3, 1, 4, 2, 5, 6, 7, 8, 9]

/-- What device `c` owes at launch: its ten copies and a unit to each neighbour's barrier cell. -/
def O₁ (c : Dev nD) : CellTallies nD τ sig Unit := owedL c sends + tallyAt (barCell (rgt c)) () 1
def O₀ (c : Dev nD) : CellTallies nD τ sig Unit := O₁ c + tallyAt (barCell (lft c)) () 1

def L (g : GSem nD τ sig) : Finset Unit := if g.1.2 = .tc then {()} else ∅
/-- The level of a semaphore: the barrier's below the receive semaphores', those of the copies passed on highest. -/
def lvS : SemLoc sig → ℕ
  | .reg _ => 1
  | .dma q => if 18 ≤ q.val ∧ q.val < 22 then 3 else if 12 ≤ q.val ∧ q.val < 18 then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {l : List (Fin 10)} {g : GSem nD τ sig} {u : Unit} (h : 0 < owedL c l g u) :
    ∃ i ∈ l, g = recvCell (tgt i c) i := by
  induction l with
  | nil => exact absurd h (Nat.lt_irrefl 0)
  | cons i l ih =>
    unfold owedL at h
    rw [Pi.add_apply, Finsupp.add_apply, tallyAt_apply] at h
    by_cases hg : g = recvCell (tgt i c) i
    · exact ⟨i, List.mem_cons_self, hg⟩
    · rw [if_neg (fun h' => hg h'.1), Nat.add_zero] at h
      obtain ⟨i', hi, h'⟩ := ih h
      exact ⟨i', List.mem_cons_of_mem _ hi, h'⟩

theorem O₀_pos {c : Dev nD} {g : GSem nD τ sig} {u : Unit} (h : 0 < O₀ c g u) :
    (∃ i ∈ sends, g = recvCell (tgt i c) i) ∨ g = barCell (rgt c) ∨ g = barCell (lft c) := by
  unfold O₀ O₁ at h
  rw [Pi.add_apply, Finsupp.add_apply, Pi.add_apply, Finsupp.add_apply, tallyAt_apply, tallyAt_apply] at h
  by_cases h1 : g = barCell (rgt c)
  · exact .inr (.inl h1)
  by_cases h2 : g = barCell (lft c)
  · exact .inr (.inr h2)
  rw [if_neg (fun h' => h1 h'.1), if_neg (fun h' => h2 h'.1), Nat.add_zero] at h
  exact .inl (owedL_pos h)

/-- A device may wait on a semaphore below all the receive cells it still owes. -/
theorem mayWait (c : Dev nD) (sm : SemLoc sig) (l : List (Fin 10)) (h : ∀ i ∈ l, lvS sm < lvS (.dma (recvSem i))) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨i, _, rfl⟩ := owedL_pos hg; exact Finset.mem_singleton_self _)
    (fun p hp => by rw [Finset.mem_singleton.mp hp]; exact le_refl _)
    (fun g u hg => by obtain ⟨i, hi, rfl⟩ := owedL_pos hg; exact h i hi)

/-- The staging semaphores lie below everything owed at launch. -/
theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · have hpos : ∀ i ∈ sends, 0 < lvS (.dma (recvSem i)) := by decide
    exact MayOwe.of_cut (L := L) (lev := lv) 0 (fun p hp => by rw [Finset.mem_singleton.mp hp, L_tc]; exact Finset.mem_singleton_self _)
      (fun g u hg => by rcases O₀_pos hg with ⟨i, _, rfl⟩ | rfl | rfl <;> exact Finset.mem_singleton_self _)
      (fun p hp => by rw [Finset.mem_singleton.mp hp]; exact le_of_eq hq)
      (fun g u hg => by
        rcases O₀_pos hg with ⟨i, hi, rfl⟩ | rfl | rfl
        · exact hpos i hi
        · exact Nat.one_pos
        · exact Nat.one_pos)
  · rw [MayWait_zero]; iintro -; iempintro

end Cert.RunKernelIdeal

end
-- ==== Proof.RunKernelIdeal.Views.lean ====
/-
The kernel's views into its buffers: where an index of a slice lies in the buffer, and which elements the slice has.
-/
module

public import proofs.«01_k».proof.Proof.RunKernelIdeal.Base

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The value at coordinate `a` of an index of a unit-stride rectangle. -/
theorem unit_emb_val {s : Shape} (off size : Fin s.rank → ℕ) (h : ∀ a, off a + size a ≤ s.size a)
    (x : (Rect.unit (s := s) off size h).shape.Idx) (a : Fin s.rank) :
    ((Rect.unit (s := s) off size h).emb x a).val = off a + (x a).val := by
  show off a + 1 * (x a).val = _
  rw [Nat.one_mul]

/-- Squeezing a leading axis of extent one away: the index with a zero put in front. -/
theorem squeeze_val {n : ℕ} {d : Fin n → ℕ} (h : (⟨n, d⟩ : Shape).numel = (⟨n + 1, Matrix.vecCons 1 d⟩ : Shape).numel) (x : (⟨n, d⟩ : Shape).Idx) :
    (Shape.reshapeEquiv h x : (⟨n + 1, Matrix.vecCons 1 d⟩ : Shape).Idx) = Fin.cons (⟨0, Nat.one_pos⟩ : Fin 1) x := Shape.reshapeEquiv_cons_one h x

/-- Where an index of a slice with its unit axis squeezed away lies in the buffer. -/
theorem sq_emb {D : Fin 3 → ℕ} {hD : ∀ a, 0 < D a} {n k : ℕ} (o : Fin 3 → ℕ) (h : ∀ a, o a + (![1, n, k] : Fin 3 → ℕ) a ≤ (⟨3, D⟩ : Shape).size a)
    (hh : (⟨2, ![n, k]⟩ : Shape).numel = (⟨3, ![1, n, k]⟩ : Shape).numel) (x : (⟨2, ![n, k]⟩ : Shape).Idx) :
    (Rect.unit (s := ⟨3, D⟩) o ![1, n, k] h).emb (Shape.reshapeEquiv hh x) = wrap ⟨3, D⟩ hD ![o 0, o 1 + (x 0).val, o 2 + (x 1).val] := by
  refine eq_wrap fun a => ?_
  rw [unit_emb_val, show Shape.reshapeEquiv hh x = Fin.cons (⟨0, Nat.one_pos⟩ : Fin 1) x from squeeze_val hh x]
  fin_cases a <;> rfl

/-- Where an index of a slice of a matrix lies in it. -/
theorem sl_emb {D : Fin 2 → ℕ} {hD : ∀ a, 0 < D a} {S : Fin 2 → ℕ} (o : Fin 2 → ℕ) (h : ∀ a, o a + S a ≤ (⟨2, D⟩ : Shape).size a)
    (x : (Rect.unit (s := ⟨2, D⟩) o S h).shape.Idx) :
    (Rect.unit (s := ⟨2, D⟩) o S h).emb x = wrap ⟨2, D⟩ hD ![o 0 + (x 0).val, o 1 + (x 1).val] := by
  refine eq_wrap fun a => ?_
  rw [unit_emb_val]
  fin_cases a <;> rfl

/-- Where an index of a slice of a stack of matrices lies in it. -/
theorem sl3_emb {D : Fin 3 → ℕ} {hD : ∀ a, 0 < D a} {S : Fin 3 → ℕ} (o : Fin 3 → ℕ) (h : ∀ a, o a + S a ≤ (⟨3, D⟩ : Shape).size a)
    (x : (Rect.unit (s := ⟨3, D⟩) o S h).shape.Idx) :
    (Rect.unit (s := ⟨3, D⟩) o S h).emb x = wrap ⟨3, D⟩ hD ![o 0 + (x 0).val, o 1 + (x 1).val, o 2 + (x 2).val] := by
  refine eq_wrap fun a => ?_
  rw [unit_emb_val]
  fin_cases a <;> rfl

/-! ## The views -/

/-- 256 rows of `x`; of its staging buffer; of the quantized rows. -/
abbrev xV (o : Fin 2 → ℕ) (h : ∀ a, o a + S256x4096.size a ≤ S1024x4096.size a) : Memref sig .tc .hbm S256x4096 .f32 :=
  (Memref.whole main_arg0).slice (Rect.unit (s := S1024x4096) o S256x4096.size h) (fun _ => rfl)
abbrev xsV (o : Fin 3 → ℕ) (h : ∀ a, o a + S1x256x4096.size a ≤ S2x512x4096.size a) : Memref sig .tc .vmem S256x4096 .f32 :=
  ((Memref.whole cc0_scratch0).slice (Rect.unit (s := S2x512x4096) o S1x256x4096.size h) (fun _ => rfl)).squeeze S256x4096 squeezes_S1x256x4096_S256x4096
abbrev qV (o : Fin 2 → ℕ) (h : ∀ a, o a + S256x4096.size a ≤ S1024x4096.size a) : Memref sig .tc .vmem S256x4096 .fp8e4m3 :=
  (Memref.whole cc0_scratch1).slice (Rect.unit (s := S1024x4096) o S256x4096.size h) (fun _ => rfl)
/-- 512 quantized rows. -/
abbrev qqV (o : Fin 2 → ℕ) (h : ∀ a, o a + S512x4096.size a ≤ S1024x4096.size a) : Memref sig .tc .vmem S512x4096 .fp8e4m3 :=
  (Memref.whole cc0_scratch1).slice (Rect.unit (s := S1024x4096) o S512x4096.size h) (fun _ => rfl)
/-- 256, or 512, gathered rows. -/
abbrev gV (o : Fin 3 → ℕ) (h : ∀ a, o a + S1x256x4096.size a ≤ S3x1024x4096.size a) : Memref sig .tc .vmem S256x4096 .fp8e4m3 :=
  ((Memref.whole cc0_scratch2).slice (Rect.unit (s := S3x1024x4096) o S1x256x4096.size h) (fun _ => rfl)).squeeze S256x4096 squeezes_S1x256x4096_S256x4096
abbrev ggV (o : Fin 3 → ℕ) (h : ∀ a, o a + S1x512x4096.size a ≤ S3x1024x4096.size a) : Memref sig .tc .vmem S512x4096 .fp8e4m3 :=
  ((Memref.whole cc0_scratch2).slice (Rect.unit (s := S3x1024x4096) o S1x512x4096.size h) (fun _ => rfl)).squeeze S512x4096 squeezes_S1x512x4096_S512x4096
/-- 256 columns of `w`; a slot of their staging buffer. -/
abbrev wV (o : Fin 2 → ℕ) (h : ∀ a, o a + S4096x256.size a ≤ S4096x8192.size a) : Memref sig .tc .hbm S4096x256 .f32 :=
  (Memref.whole main_arg1).slice (Rect.unit (s := S4096x8192) o S4096x256.size h) (fun _ => rfl)
abbrev wsV (o : Fin 3 → ℕ) (h : ∀ a, o a + S1x4096x256.size a ≤ S2x4096x256.size a) : Memref sig .tc .vmem S4096x256 .f32 :=
  ((Memref.whole cc0_scratch4).slice (Rect.unit (s := S2x4096x256) o S1x4096x256.size h) (fun _ => rfl)).squeeze S4096x256 squeezes_S1x4096x256_S4096x256
/-- 256, or 512, rows of the result; of a slot of its staging buffer. -/
abbrev oV (o : Fin 2 → ℕ) (h : ∀ a, o a + S256x2048.size a ≤ S4096x2048.size a) : Memref sig .tc .hbm S256x2048 .bf16 :=
  (Memref.whole main_v1).slice (Rect.unit (s := S4096x2048) o S256x2048.size h) (fun _ => rfl)
abbrev ooV (o : Fin 2 → ℕ) (h : ∀ a, o a + S512x2048.size a ≤ S4096x2048.size a) : Memref sig .tc .hbm S512x2048 .bf16 :=
  (Memref.whole main_v1).slice (Rect.unit (s := S4096x2048) o S512x2048.size h) (fun _ => rfl)
abbrev osV (o : Fin 3 → ℕ) (h : ∀ a, o a + S1x256x2048.size a ≤ S2x512x2048.size a) : Memref sig .tc .vmem S256x2048 .bf16 :=
  ((Memref.whole cc0_scratch5).slice (Rect.unit (s := S2x512x2048) o S1x256x2048.size h) (fun _ => rfl)).squeeze S256x2048 squeezes_S1x256x2048_S256x2048
abbrev oosV (o : Fin 3 → ℕ) (h : ∀ a, o a + S1x512x2048.size a ≤ S2x512x2048.size a) : Memref sig .tc .vmem S512x2048 .bf16 :=
  ((Memref.whole cc0_scratch5).slice (Rect.unit (s := S2x512x2048) o S1x512x2048.size h) (fun _ => rfl)).squeeze S512x2048 squeezes_S1x512x2048_S512x2048

/-! ### Their elements -/

/-- A slice of a whole buffer has the elements of its rectangle's box. -/
theorem sl_set (b : Ref sig .tc) (o size : Fin b.ty.shape.rank → ℕ) (h : ∀ a, o a + size a ≤ b.ty.shape.size a) (hs) :
    ((Memref.whole b).slice (Rect.unit (s := b.ty.shape) o size h) hs).view.set = box o size :=
  (View.set_slice_whole b _).trans (unit_set o size h)
/-- Squeezed, it has the same. -/
theorem sq_set (b : Ref sig .tc) (o size : Fin b.ty.shape.rank → ℕ) (h : ∀ a, o a + size a ≤ b.ty.shape.size a) (hs) (s' : Shape) (hq) :
    (((Memref.whole b).slice (Rect.unit (s := b.ty.shape) o size h) hs).squeeze s' hq).view.set = box o size :=
  (View.set_reshape _ _).trans (sl_set b o size h hs)
/-- So has the access to it. -/
theorem ac_set (b : Ref sig .tc) (o size : Fin b.ty.shape.rank → ℕ) (h : ∀ a, o a + size a ≤ b.ty.shape.size a) :
    ((Memref.whole b).access (Rect.unit (s := b.ty.shape) o size h)).set = box o size :=
  (View.set_slice_whole b _).trans (unit_set o size h)

theorem xV_set (o h) : (xV o h).view.set = box (s := S1024x4096) o S256x4096.size := sl_set main_arg0 o _ h _
theorem xsV_set (o h) : (xsV o h).view.set = box (s := S2x512x4096) o S1x256x4096.size := sq_set cc0_scratch0 o _ h _ _ _
theorem qV_set (o h) : (qV o h).view.set = box (s := S1024x4096) o S256x4096.size := sl_set cc0_scratch1 o _ h _
theorem qqV_set (o h) : (qqV o h).view.set = box (s := S1024x4096) o S512x4096.size := sl_set cc0_scratch1 o _ h _
theorem gV_set (o h) : (gV o h).view.set = box (s := S3x1024x4096) o S1x256x4096.size := sq_set cc0_scratch2 o _ h _ _ _
theorem ggV_set (o h) : (ggV o h).view.set = box (s := S3x1024x4096) o S1x512x4096.size := sq_set cc0_scratch2 o _ h _ _ _
theorem wV_set (o h) : (wV o h).view.set = box (s := S4096x8192) o S4096x256.size := sl_set main_arg1 o _ h _
theorem wsV_set (o h) : (wsV o h).view.set = box (s := S2x4096x256) o S1x4096x256.size := sq_set cc0_scratch4 o _ h _ _ _
theorem oV_set (o h) : (oV o h).view.set = box (s := S4096x2048) o S256x2048.size := sl_set main_v1 o _ h _
theorem ooV_set (o h) : (ooV o h).view.set = box (s := S4096x2048) o S512x2048.size := sl_set main_v1 o _ h _
theorem osV_set (o h) : (osV o h).view.set = box (s := S2x512x2048) o S1x256x2048.size := sq_set cc0_scratch5 o _ h _ _ _
theorem oosV_set (o h) : (oosV o h).view.set = box (s := S2x512x2048) o S1x512x2048.size := sq_set cc0_scratch5 o _ h _ _ _

/-! ### Their reads -/

section Reads
variable (o : Fin 2 → ℕ) (p : Fin 3 → ℕ)

theorem xV_read (h) (f : (main_arg0 : Ref sig .tc).ty.Contents (Elt F)) (x : S256x4096.Idx) :
    (xV o h).view.read (Elt F) f x = f (wrap S1024x4096 (by decide) ![o 0 + (x 0).val, o 1 + (x 1).val]) := congrArg f (sl_emb o h x)
theorem xsV_read (h) (f : (cc0_scratch0 : Ref sig .tc).ty.Contents (Elt F)) (x : S256x4096.Idx) :
    (xsV p h).view.read (Elt F) f x = f (wrap S2x512x4096 (by decide) ![p 0, p 1 + (x 0).val, p 2 + (x 1).val]) := congrArg f (sq_emb p h _ x)
theorem qV_read (h) (f : (cc0_scratch1 : Ref sig .tc).ty.Contents (Elt F)) (x : S256x4096.Idx) :
    (qV o h).view.read (Elt F) f x = f (wrap S1024x4096 (by decide) ![o 0 + (x 0).val, o 1 + (x 1).val]) := congrArg f (sl_emb o h x)
theorem qqV_read (h) (f : (cc0_scratch1 : Ref sig .tc).ty.Contents (Elt F)) (x : S512x4096.Idx) :
    (qqV o h).view.read (Elt F) f x = f (wrap S1024x4096 (by decide) ![o 0 + (x 0).val, o 1 + (x 1).val]) := congrArg f (sl_emb o h x)
theorem gV_read (h) (f : (cc0_scratch2 : Ref sig .tc).ty.Contents (Elt F)) (x : S256x4096.Idx) :
    (gV p h).view.read (Elt F) f x = f (wrap S3x1024x4096 (by decide) ![p 0, p 1 + (x 0).val, p 2 + (x 1).val]) := congrArg f (sq_emb p h _ x)
theorem ggV_read (h) (f : (cc0_scratch2 : Ref sig .tc).ty.Contents (Elt F)) (x : S512x4096.Idx) :
    (ggV p h).view.read (Elt F) f x = f (wrap S3x1024x4096 (by decide) ![p 0, p 1 + (x 0).val, p 2 + (x 1).val]) := congrArg f (sq_emb p h _ x)
theorem wV_read (h) (f : (main_arg1 : Ref sig .tc).ty.Contents (Elt F)) (x : S4096x256.Idx) :
    (wV o h).view.read (Elt F) f x = f (wrap S4096x8192 (by decide) ![o 0 + (x 0).val, o 1 + (x 1).val]) := congrArg f (sl_emb o h x)
theorem wsV_read (h) (f : (cc0_scratch4 : Ref sig .tc).ty.Contents (Elt F)) (x : S4096x256.Idx) :
    (wsV p h).view.read (Elt F) f x = f (wrap S2x4096x256 (by decide) ![p 0, p 1 + (x 0).val, p 2 + (x 1).val]) := congrArg f (sq_emb p h _ x)
theorem oV_read (h) (f : (main_v1 : Ref sig .tc).ty.Contents (Elt F)) (x : S256x2048.Idx) :
    (oV o h).view.read (Elt F) f x = f (wrap S4096x2048 (by decide) ![o 0 + (x 0).val, o 1 + (x 1).val]) := congrArg f (sl_emb o h x)
theorem ooV_read (h) (f : (main_v1 : Ref sig .tc).ty.Contents (Elt F)) (x : S512x2048.Idx) :
    (ooV o h).view.read (Elt F) f x = f (wrap S4096x2048 (by decide) ![o 0 + (x 0).val, o 1 + (x 1).val]) := congrArg f (sl_emb o h x)
theorem osV_read (h) (f : (cc0_scratch5 : Ref sig .tc).ty.Contents (Elt F)) (x : S256x2048.Idx) :
    (osV p h).view.read (Elt F) f x = f (wrap S2x512x2048 (by decide) ![p 0, p 1 + (x 0).val, p 2 + (x 1).val]) := congrArg f (sq_emb p h _ x)
theorem oosV_read (h) (f : (cc0_scratch5 : Ref sig .tc).ty.Contents (Elt F)) (x : S512x2048.Idx) :
    (oosV p h).view.read (Elt F) f x = f (wrap S2x512x2048 (by decide) ![p 0, p 1 + (x 0).val, p 2 + (x 1).val]) := congrArg f (sq_emb p h _ x)

end Reads

/-! ### Contents on the elements a view writes -/

/-- A write through a whole view, on the view's own elements, leaves any contents that the view reads as what was written. -/
theorem write_at (c : Dev nD) {sp : Space} {s : Shape} {e : EltTy} (v : View sig .tc sp s e) (f G : v.ty.Contents (Elt F)) (w : s.Idx → Elt F e)
    (q : PosShare TreeShare) (h : ∀ x, v.read (Elt F) G x = w x) :
    ((v.loc (c : Thread nD τ) ↦[v.set]{q} v.write (Elt F) f w Finset.univ) : sProp (MT nD τ sig Unit (Elt F) ℕ UU ℕ)) = (v.loc (c : Thread nD τ) ↦[v.set]{q} G) := by
  refine pointsTo_congr fun i hi => ?_
  obtain ⟨x, -, rfl⟩ := Finset.mem_map.mp hi
  rw [View.write_emb_of_mem _ _ (Finset.mem_univ x), ← h x, View.read_apply, cast_cast, cast_eq]

/-! ### Splitting and joining held pieces -/

section Pieces
variable {c : Dev nD} {b : Ref sig .tc} {S T : Finset b.ty.shape.Idx} {q : PosShare TreeShare} {f : b.ty.Contents (Elt F)}

theorem At_split (h : S ⊆ T) : (At c b T q f : sProp (MT nD τ sig Unit (Elt F) ℕ UU ℕ)) ⊢ iprop(At c b S q f ∗ At c b (T \ S) q f) := (pointsTo_split_subset h).1
theorem At_join (h : S ⊆ T) : iprop(At c b S q f ∗ At c b (T \ S) q f) ⊢ (At c b T q f : sProp (MT nD τ sig Unit (Elt F) ℕ UU ℕ)) := (pointsTo_split_subset h).2

end Pieces

end Cert.RunKernelIdeal

end
-- ==== Proof.RunKernelIdeal.Local.lean ====
/-
Local copies: the rules for issuing and awaiting them, and the copies of `x`, of `w` and of the result.
-/
module

public import proofs.«01_k».proof.Proof.RunKernelIdeal.Views

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The weakest precondition of a program on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes while the copies in `l` are still to be issued, whatever it has waited for. -/
def Ow (c : Dev nD) (l : List (Fin 10)) : sProp 𝕄 := iprop(∃ W, owes (c : Thread nD τ) (owedL c l) W)

/-! ## Local copies -/

/-- Issue of a local copy: the flight delivers the destination at any contents that read there as the source does. -/
theorem start (c : Dev nD) {sp sp' : Space} {s : Shape} {e : EltTy} {src : Memref sig .tc sp s e} {dst : Memref sig .tc sp' s e} {q q' : DmaSem sig}
    {hsrc : src.view.WordExact} {hdst : dst.view.WordExact} {hsem : DmaTarget.Typed (nD := nD) sp (.dma q') (DmaTarget.here (p := (c : Thread nD τ).2) dst)} {α : Type}
    {k : PUnit → Prog (TpuEff nD τ sig (Elt F) Λ₀ .tc) α} {Q : α → sProp 𝕄} {qs : PosShare TreeShare} {fs : src.view.ty.Contents (Elt F)} (N : ℕ)
    (hq : q' = q) (hN : dst.view.amount (.dma q') = N) (hN0 : 0 < N) (G : dst.view.ty.Contents (Elt F))
    (hG : ∀ x, dst.view.read (Elt F) G x = src.view.read (Elt F) fs x) :
    iprop((src.view.loc (c : Thread nD τ) ↦[src.view.set]{qs} fs)
        ∗ (∃ fd : dst.view.ty.Contents (Elt F), dst.view.loc (c : Thread nD τ) ↦[dst.view.set]{fullShare} fd) ∗ semVal ((c : Thread nD τ), .dma q) 0)
      ⊢ iprop((Transfers.Flight EC (c : Thread nD τ) (.dma q) () N iprop((dst.view.loc (c : Thread nD τ) ↦[dst.view.set]{fullShare} G)
                ∗ (src.view.loc (c : Thread nD τ) ↦[src.view.set]{qs} fs)) -∗ Wp c (k ⟨⟩) Q)
          -∗ Wp c (.op (.enqueueDma src (.here dst) (.dma q') hsrc hdst hsem) k) Q) := by
  subst hq
  iintro ⟨Hs, ⟨%fd, Hd⟩, Hv⟩ Hk
  iapply (Transfers.wp_dmaLocal EC 𝒱₀ (c : Thread nD τ) none (src := src) (dst := dst) (fs := fs) (fd := fd) () N hN hN0 (Finset.Subset.refl _)) $$ [Hs Hd Hv]
  · isplitl [Hs]; · iexact Hs
    isplitl [Hd]; · iexact Hd
    iexact Hv
  iintro Hf
  iapply Hk
  iapply (Transfers.Flight_mono EC (c : Thread nD τ) (sep_mono_left (Entails.of_eq (write_at c dst.view fd G _ fullShare hG)))) $$ Hf

theorem lvS_recv_pos (i : Fin 10) : 0 < lvS (.dma (recvSem i)) := by revert i; decide

/-- The wait for a local copy: what it delivers, and its semaphore at zero. -/
theorem wait (c : Dev nD) {sp sp' : Space} {s s' : Shape} {e e' : EltTy} {srcw : Memref sig .tc sp' s' e'} {dstw : Memref sig .tc sp s e}
    {hsrc : srcw.view.WordExact} {hdst : dstw.view.WordExact} {q q' : DmaSem sig} {α : Type}
    {k : PUnit → Prog (TpuEff nD τ sig (Elt F) Λ₀ .tc) α} {Q : α → sProp 𝕄} {N : ℕ} {D : sProp 𝕄} (l : List (Fin 10))
    (hq : q' = q) (hN : dstw.view.dmaCredit = N) (hlv : lvS (.dma q) = 0) :
    iprop(Transfers.Flight EC (c : Thread nD τ) (.dma q) () N D ∗ Ow (F := F) c l ∗ levAts L lv)
      ⊢ iprop((iprop(D ∗ semVal ((c : Thread nD τ), .dma q) 0 ∗ Ow (F := F) c l) -∗ Wp c (k ⟨⟩) Q)
          -∗ Wp c (.op (.waitDma2 q' srcw dstw hsrc hdst) k) Q) := by
  subst hq
  unfold Ow
  iintro ⟨Hf, ⟨%W, Ho⟩, Hlev⟩ Hk
  iapply (Transfers.wp_waitLocalO EC 𝒱₀ (c : Thread nD τ) none (srcw := srcw) (dstw := dstw) () hN (O := owedL c l) (W := W)) $$ [Hf Ho Hlev]
  · isplitl [Hf]; · iexact Hf
    isplitl [Ho]; · iexact Ho
    iapply (mayWait c (.dma q') l fun i _ => by rw [hlv]; exact lvS_recv_pos i) $$ Hlev
  iintro ⟨HD, Hz, Ho⟩
  iapply Hk
  isplitl [HD]; · iexact HD
  isplitl [Hz]; · iexact Hz
  iexists _; iexact Ho

/-! ### Their credits -/

abbrev NX : ℕ := (cc0_scratch0 : Ref sig .tc).dmaCredit S256x4096 .f32
abbrev NW : ℕ := (cc0_scratch4 : Ref sig .tc).dmaCredit S4096x256 .f32
abbrev NO : ℕ := (main_v1 : Ref sig .tc).dmaCredit S256x2048 .bf16
abbrev NOO : ℕ := (main_v1 : Ref sig .tc).dmaCredit S512x2048 .bf16

theorem NX_pos : 0 < NX := View.dmaCredit_pos (xsV ![0, 0, 0] inb_S2x512x4096_S1x256x4096_0_0_0).view (by decide)
theorem NW_pos : 0 < NW := View.dmaCredit_pos (wsV ![0, 0, 0] inb_S2x4096x256_S1x4096x256_0_0_0).view (by decide)

/-- The semaphores of the copies of `x`, of `w`, and of the result. -/
abbrev xSem (i : Fin 4) : DmaSem sig := ⟨22 + i.val, Nat.lt_of_lt_of_le (Nat.add_lt_add_left i.isLt 22) (by decide)⟩
abbrev wSem (i : Fin 2) : DmaSem sig := ⟨26 + i.val, Nat.lt_of_lt_of_le (Nat.add_lt_add_left i.isLt 26) (by decide)⟩
abbrev oSem (i : Fin 2) : DmaSem sig := ⟨28 + i.val, Nat.lt_of_lt_of_le (Nat.add_lt_add_left i.isLt 28) (by decide)⟩

/-! ### The copies of `x` -/

/-- 256 rows of `x`, from row `o 0`, in flight to the staging buffer's place `p`. -/
def FlX (c : Dev nD) (q : DmaSem sig) (o : Fin 2 → ℕ) (p : Fin 3 → ℕ) : sProp 𝕄 :=
  Transfers.Flight EC (c : Thread nD τ) (.dma q) () NX
    iprop(At c cc0_scratch0 (box p S1x256x4096.size) fullShare (XS m c) ∗ At c main_arg0 (box o S256x4096.size) fullShare (X m c))

theorem start_x (c : Dev nD) (q : DmaSem sig) (o : Fin 2 → ℕ) (p : Fin 3 → ℕ) {h1 h2} {q' : DmaSem sig}
    {hsrc hdst hsem} {α : Type} {k : PUnit → Prog (TpuEff nD τ sig (Elt F) Λ₀ .tc) α} {Q : α → sProp 𝕄}
    (hq : q' = q) (hr : p 2 = 0 ∧ o 1 = 0 ∧ o 0 = 512 * p 0 + p 1) :
    iprop(At c main_arg0 (box o S256x4096.size) fullShare (X m c) ∗ Some (F := F) c cc0_scratch0 (box p S1x256x4096.size) ∗ semVal ((c : Thread nD τ), .dma q) 0)
      ⊢ iprop((FlX m c q o p -∗ Wp c (k ⟨⟩) Q)
          -∗ Wp c (.op (.enqueueDma (xV o h1) (.here (xsV p h2)) (.dma q') hsrc hdst hsem) k) Q) := by
  have h := start (F := F) c (src := xV o h1) (dst := xsV p h2) (hsrc := hsrc) (hdst := hdst) (hsem := hsem) (k := k) (Q := Q) (qs := fullShare)
    (fs := X m c) NX hq rfl NX_pos (XS m c) fun x => by
      rw [xsV_read, xV_read]
      have hb0 : p 0 + 1 ≤ 2 := h2 0
      have hb1 : p 1 + 256 ≤ 512 := h2 1
      have h0 : (x 0).val < 256 := (x 0).isLt
      have h1 : (x 1).val < 4096 := (x 1).isLt
      unfold XS xIdx
      congr 1
      refine eq_wrap fun a => ?_
      fin_cases a
      · show (512 * (p 0 % 2) + (p 1 + (x 0).val) % 512) % 1024 = o 0 + (x 0).val
        omega
      · show ((p 2 + (x 1).val) % 4096) % 4096 = o 1 + (x 1).val
        omega
  rw [xV_set, xsV_set] at h
  exact h

/-! ### The copies of `w` -/

/-- 256 columns of `w`, from column `o 1`, chunk `j`, in flight to the staging buffer's place `p`; half of their share is lent. -/
def FlW (c : Dev nD) (q : DmaSem sig) (j : ℕ) (p : Fin 3 → ℕ) (qs : PosShare TreeShare) : sProp 𝕄 :=
  iprop(Transfers.Flight EC (c : Thread nD τ) (.dma q) () NW
      iprop(At c cc0_scratch4 (box p S1x4096x256.size) fullShare (WS m c j) ∗ At c main_arg1 (box (s := S4096x8192) ![0, 2048 * c.val + 256 * j] S4096x256.size) qs (W m c))
    ∗ At c main_arg1 (Finset.univ \ box (s := S4096x8192) ![0, 2048 * c.val + 256 * j] S4096x256.size) qs (W m c))

theorem start_w (c : Dev nD) (q : DmaSem sig) (j : ℕ) (p : Fin 3 → ℕ) (qs : PosShare TreeShare) {o : Fin 2 → ℕ} {h1 h2} {q' : DmaSem sig}
    {hsrc hdst hsem} {α : Type} {k : PUnit → Prog (TpuEff nD τ sig (Elt F) Λ₀ .tc) α} {Q : α → sProp 𝕄}
    (hq : q' = q) (ho : o = ![0, 2048 * c.val + 256 * j]) (hr : p 1 = 0 ∧ p 2 = 0) :
    iprop(At c main_arg1 Finset.univ qs (W m c) ∗ Some (F := F) c cc0_scratch4 (box p S1x4096x256.size) ∗ semVal ((c : Thread nD τ), .dma q) 0)
      ⊢ iprop((FlW m c q j p qs -∗ Wp c (k ⟨⟩) Q)
          -∗ Wp c (.op (.enqueueDma (wV o h1) (.here (wsV p h2)) (.dma q') hsrc hdst hsem) k) Q) := by
  subst hq; subst ho
  have hG : ∀ x, (wsV p h2).view.read (Elt F) (WS m c j) x = (wV _ h1).view.read (Elt F) (W m c) x := fun x => by
      rw [wsV_read, wV_read]
      have h0 : (x 0).val < 4096 := (x 0).isLt
      have h1' : (x 1).val < 256 := (x 1).isLt
      have hb : 2048 * c.val + 256 * j + 256 ≤ 8192 := h1 1
      unfold WS wIdx
      congr 1
      refine eq_wrap fun a => ?_
      fin_cases a
      · show ((p 1 + (x 0).val) % 4096) % 4096 = 0 + (x 0).val
        omega
      · show (2048 * c.val + 256 * j + (p 2 + (x 1).val) % 256) % 8192 = 2048 * c.val + 256 * j + (x 1).val
        omega
  iintro ⟨Hw, Hd, Hz⟩ Hk
  unfold At
  ihave Hw := (pointsTo_split_subset (Finset.subset_univ (wV _ h1).view.set)).1 $$ Hw
  icases Hw with ⟨Hw, Hrest⟩
  iapply (start (F := F) c (q := q') (src := wV _ h1) (dst := wsV p h2) (hsrc := hsrc) (hdst := hdst) (hsem := hsem) (k := k) (Q := Q) (qs := qs)
    (fs := W m c) NW rfl rfl NW_pos (WS m c j) hG) $$ [Hw Hd Hz]
  · isplitl [Hw]; · iexact Hw
    isplitl [Hd]
    · unfold Some At
      rw [wsV_set]
      iexact Hd
    iexact Hz
  iintro Hf
  iapply Hk
  unfold FlW At
  rw [wsV_set, wV_set]
  isplitl [Hf]; · iexact Hf
  iexact Hrest

theorem wait_w (c : Dev nD) (q : DmaSem sig) (j : ℕ) (p : Fin 3 → ℕ) (qs : PosShare TreeShare) {o : Fin 2 → ℕ} {p' : Fin 3 → ℕ} {h1 h2} {q' : DmaSem sig}
    {hsrc hdst} {α : Type} {k : PUnit → Prog (TpuEff nD τ sig (Elt F) Λ₀ .tc) α} {Q : α → sProp 𝕄} (l : List (Fin 10))
    (hq : q' = q) (hlv : lvS (.dma q) = 0) :
    iprop(FlW m c q j p qs ∗ Ow (F := F) c l ∗ levAts L lv)
      ⊢ iprop((iprop(At c cc0_scratch4 (box p S1x4096x256.size) fullShare (WS m c j) ∗ At c main_arg1 Finset.univ qs (W m c)
            ∗ semVal ((c : Thread nD τ), .dma q) 0 ∗ Ow (F := F) c l) -∗ Wp c (k ⟨⟩) Q)
          -∗ Wp c (.op (.waitDma2 q' (wV o h1) (wsV p' h2) hsrc hdst) k) Q) := by
  unfold FlW
  iintro ⟨⟨Hf, Hrest⟩, Ho, Hlev⟩ Hk
  iapply (wait (F := F) c (srcw := wV o h1) (dstw := wsV p' h2) l hq rfl hlv) $$ [Hf Ho Hlev]
  · isplitl [Hf]; · iexact Hf
    isplitl [Ho]; · iexact Ho
    iexact Hlev
  iintro ⟨⟨Hd, Hw⟩, Hz, Ho⟩
  iapply Hk
  isplitl [Hd]; · iexact Hd
  isplitl [Hw Hrest]
  · iapply (At_join (F := F) (c := c) (b := main_arg1) (Finset.subset_univ (box (s := S4096x8192) ![0, 2048 * c.val + 256 * j] S4096x256.size)))
    isplitl [Hw]; · iexact Hw
    iexact Hrest
  isplitl [Hz]; · iexact Hz
  iexact Ho

/-! ### The copies of the result -/

/-- A slot of the result's staging buffer holding a block of 512 rows, or its first 256 rows' place. -/
def os512 (v : FVec F S512x2048 .bf16) : (cc0_scratch5 : Ref sig .tc).ty.Contents (Elt F) := fun i => v (wrap S512x2048 (by decide) ![(i 1).val, (i 2).val])
def os256 (v : FVec F S256x2048 .bf16) : (cc0_scratch5 : Ref sig .tc).ty.Contents (Elt F) := fun i => v (wrap S256x2048 (by decide) ![(i 1).val, (i 2).val])

/-- 512 rows of the result, from row `r`, in flight from the staging buffer's place `p`. -/
def FlOO (c : Dev nD) (q : DmaSem sig) (r : ℕ) (p : Fin 3 → ℕ) : sProp 𝕄 :=
  iprop(∃ f, Transfers.Flight EC (c : Thread nD τ) (.dma q) () NOO
    iprop(At c main_v1 (box (s := S4096x2048) ![r, 0] S512x2048.size) fullShare (OUT m c) ∗ At c cc0_scratch5 (box p S1x512x2048.size) fullShare f))
/-- 256 rows of it. -/
def FlO (c : Dev nD) (q : DmaSem sig) (r : ℕ) (p : Fin 3 → ℕ) : sProp 𝕄 :=
  iprop(∃ f, Transfers.Flight EC (c : Thread nD τ) (.dma q) () NO
    iprop(At c main_v1 (box (s := S4096x2048) ![r, 0] S256x2048.size) fullShare (OUT m c) ∗ At c cc0_scratch5 (box p S1x256x2048.size) fullShare f))

theorem NOO_pos : 0 < NOO := View.dmaCredit_pos (ooV ![0, 0] (by decide)).view (by decide)
theorem NO_pos : 0 < NO := View.dmaCredit_pos (oV ![0, 0] (by decide)).view (by decide)

set_option maxRecDepth 8000 in
theorem start_oo (c : Dev nD) (q : DmaSem sig) (d : Dev nD) (b : ℕ) (p : Fin 3 → ℕ) {o : Fin 2 → ℕ} {h1 h2} {q' : DmaSem sig}
    {hsrc hdst hsem} {α : Type} {k : PUnit → Prog (TpuEff nD τ sig (Elt F) Λ₀ .tc) α} {Q : α → sProp 𝕄}
    (hq : q' = q) (ho : o = ![1024 * d.val + b, 0]) (hd : d ≠ opp c) (hb : b = 0 ∨ b = 512) (hp : p 1 = 0 ∧ p 2 = 0) :
    iprop(At c cc0_scratch5 (box p S1x512x2048.size) fullShare (os512 (blk512 (scale m c) (rows512 m d b) (WQ m c)))
        ∗ Some (F := F) c main_v1 (box (s := S4096x2048) ![1024 * d.val + b, 0] S512x2048.size) ∗ semVal ((c : Thread nD τ), .dma q) 0)
      ⊢ iprop((FlOO m c q (1024 * d.val + b) p -∗ Wp c (k ⟨⟩) Q)
          -∗ Wp c (.op (.enqueueDma (oosV p h2) (.here (ooV o h1)) (.dma q') hsrc hdst hsem) k) Q) := by
  subst ho
  have h := start (F := F) c (src := oosV p h2) (dst := ooV _ h1) (hsrc := hsrc) (hdst := hdst) (hsem := hsem) (k := k) (Q := Q) (qs := fullShare)
    (fs := os512 (blk512 (scale m c) (rows512 m d b) (WQ m c))) NOO hq rfl NOO_pos (OUT m c) fun x => by
      rw [oosV_read, ooV_read]
      have h0 : (x 0).val < 512 := (x 0).isLt
      have h1 : (x 1).val < 2048 := (x 1).isLt
      have hd4 : d.val < 4 := d.isLt
      have er : (1024 * d.val + b + (x 0).val) % 4096 = 1024 * d.val + b + (x 0).val := by omega
      have ed : devOf ((1024 * d.val + b + (x 0).val) % 4096) = d := Fin.ext (by
        show ((1024 * d.val + b + (x 0).val) % 4096) / 1024 % 4 = d.val
        omega)
      have eb : (1024 * d.val + b + (x 0).val) % 4096 % 1024 / 512 * 512 = b := by omega
      show (if devOf ((1024 * d.val + b + (x 0).val) % 4096) = opp c then _ else blk512 (scale m c) (rows512 m (devOf ((1024 * d.val + b + (x 0).val) % 4096))
        ((1024 * d.val + b + (x 0).val) % 4096 % 1024 / 512 * 512)) (WQ m c) (wrap S512x2048 _ ![(1024 * d.val + b + (x 0).val) % 4096 % 512, (0 + (x 1).val) % 2048]))
        = blk512 (scale m c) (rows512 m d b) (WQ m c) (wrap S512x2048 _ ![(p 1 + (x 0).val) % 512, (p 2 + (x 1).val) % 2048])
      rw [ed, if_neg hd, eb]
      congr 1
      refine eq_wrap fun a => ?_
      fin_cases a
      · show (1024 * d.val + b + (x 0).val) % 4096 % 512 % 512 = (p 1 + (x 0).val) % 512
        omega
      · show (0 + (x 1).val) % 2048 % 2048 = (p 2 + (x 1).val) % 2048
        omega
  rw [ooV_set, oosV_set] at h
  refine h.trans (wand_mono_left (wand_mono_left ?_))
  iintro Hf
  unfold FlOO
  iexists _; iexact Hf

set_option maxRecDepth 8000 in
theorem start_o (c : Dev nD) (q : DmaSem sig) (d : Dev nD) (b : ℕ) (p : Fin 3 → ℕ) {o : Fin 2 → ℕ} {h1 h2} {q' : DmaSem sig}
    {hsrc hdst hsem} {α : Type} {k : PUnit → Prog (TpuEff nD τ sig (Elt F) Λ₀ .tc) α} {Q : α → sProp 𝕄}
    (hq : q' = q) (ho : o = ![1024 * d.val + b, 0]) (hd : d = opp c) (hb : b = 0 ∨ b = 256 ∨ b = 512 ∨ b = 768) (hp : p 1 = 0 ∧ p 2 = 0) :
    iprop(At c cc0_scratch5 (box p S1x256x2048.size) fullShare (os256 (blk256 (scale m c) (rows256 m d b) (WQ m c)))
        ∗ Some (F := F) c main_v1 (box (s := S4096x2048) ![1024 * d.val + b, 0] S256x2048.size) ∗ semVal ((c : Thread nD τ), .dma q) 0)
      ⊢ iprop((FlO m c q (1024 * d.val + b) p -∗ Wp c (k ⟨⟩) Q)
          -∗ Wp c (.op (.enqueueDma (osV p h2) (.here (oV o h1)) (.dma q') hsrc hdst hsem) k) Q) := by
  subst ho
  have h := start (F := F) c (src := osV p h2) (dst := oV _ h1) (hsrc := hsrc) (hdst := hdst) (hsem := hsem) (k := k) (Q := Q) (qs := fullShare)
    (fs := os256 (blk256 (scale m c) (rows256 m d b) (WQ m c))) NO hq rfl NO_pos (OUT m c) fun x => by
      rw [osV_read, oV_read]
      have h0 : (x 0).val < 256 := (x 0).isLt
      have h1 : (x 1).val < 2048 := (x 1).isLt
      have hd4 : d.val < 4 := d.isLt
      have ed : devOf ((1024 * d.val + b + (x 0).val) % 4096) = d := Fin.ext (by
        show ((1024 * d.val + b + (x 0).val) % 4096) / 1024 % 4 = d.val
        omega)
      have eb : (1024 * d.val + b + (x 0).val) % 4096 % 1024 / 256 * 256 = b := by omega
      show (if devOf ((1024 * d.val + b + (x 0).val) % 4096) = opp c then blk256 (scale m c) (rows256 m (devOf ((1024 * d.val + b + (x 0).val) % 4096))
        ((1024 * d.val + b + (x 0).val) % 4096 % 1024 / 256 * 256)) (WQ m c) (wrap S256x2048 _ ![(1024 * d.val + b + (x 0).val) % 4096 % 256, (0 + (x 1).val) % 2048]) else _)
        = blk256 (scale m c) (rows256 m d b) (WQ m c) (wrap S256x2048 _ ![(p 1 + (x 0).val) % 512, (p 2 + (x 1).val) % 2048])
      rw [ed, if_pos hd, eb]
      congr 1
      refine eq_wrap fun a => ?_
      fin_cases a
      · show (1024 * d.val + b + (x 0).val) % 4096 % 256 % 256 = (p 1 + (x 0).val) % 512
        omega
      · show (0 + (x 1).val) % 2048 % 2048 = (p 2 + (x 1).val) % 2048
        omega
  rw [oV_set, osV_set] at h
  refine h.trans (wand_mono_left (wand_mono_left ?_))
  iintro Hf
  unfold FlO
  iexists _; iexact Hf

/-- The waits for copies of the result hand back the rows written and the staging place, at some contents. -/
theorem wait_oo (c : Dev nD) (q : DmaSem sig) (r : ℕ) (p : Fin 3 → ℕ) {o : Fin 2 → ℕ} {p' : Fin 3 → ℕ} {h1 h2} {q' : DmaSem sig}
    {hsrc hdst} {α : Type} {k : PUnit → Prog (TpuEff nD τ sig (Elt F) Λ₀ .tc) α} {Q : α → sProp 𝕄} (l : List (Fin 10))
    (hq : q' = q) (hlv : lvS (.dma q) = 0) :
    iprop(FlOO m c q r p ∗ Ow (F := F) c l ∗ levAts L lv)
      ⊢ iprop((iprop(At c main_v1 (box (s := S4096x2048) ![r, 0] S512x2048.size) fullShare (OUT m c) ∗ Some (F := F) c cc0_scratch5 (box p S1x512x2048.size)
            ∗ semVal ((c : Thread nD τ), .dma q) 0 ∗ Ow (F := F) c l) -∗ Wp c (k ⟨⟩) Q)
          -∗ Wp c (.op (.waitDma2 q' (oosV p' h2) (ooV o h1) hsrc hdst) k) Q) := by
  unfold FlOO
  iintro ⟨⟨%f, Hf⟩, Ho, Hlev⟩ Hk
  iapply (wait (F := F) c (srcw := oosV p' h2) (dstw := ooV o h1) l hq rfl hlv) $$ [Hf Ho Hlev]
  · isplitl [Hf]; · iexact Hf
    isplitl [Ho]; · iexact Ho
    iexact Hlev
  iintro ⟨⟨Hd, Hw⟩, Hz, Ho⟩
  iapply Hk
  isplitl [Hd]; · iexact Hd
  isplitl [Hw]; · unfold Some; iexists f; iexact Hw
  isplitl [Hz]; · iexact Hz
  iexact Ho

theorem wait_o (c : Dev nD) (q : DmaSem sig) (r : ℕ) (p : Fin 3 → ℕ) {o : Fin 2 → ℕ} {p' : Fin 3 → ℕ} {h1 h2} {q' : DmaSem sig}
    {hsrc hdst} {α : Type} {k : PUnit → Prog (TpuEff nD τ sig (Elt F) Λ₀ .tc) α} {Q : α → sProp 𝕄} (l : List (Fin 10))
    (hq : q' = q) (hlv : lvS (.dma q) = 0) :
    iprop(FlO m c q r p ∗ Ow (F := F) c l ∗ levAts L lv)
      ⊢ iprop((iprop(At c main_v1 (box (s := S4096x2048) ![r, 0] S256x2048.size) fullShare (OUT m c) ∗ Some (F := F) c cc0_scratch5 (box p S1x256x2048.size)
            ∗ semVal ((c : Thread nD τ), .dma q) 0 ∗ Ow (F := F) c l) -∗ Wp c (k ⟨⟩) Q)
          -∗ Wp c (.op (.waitDma2 q' (osV p' h2) (oV o h1) hsrc hdst) k) Q) := by
  unfold FlO
  iintro ⟨⟨%f, Hf⟩, Ho, Hlev⟩ Hk
  iapply (wait (F := F) c (srcw := osV p' h2) (dstw := oV o h1) l hq rfl hlv) $$ [Hf Ho Hlev]
  · isplitl [Hf]; · iexact Hf
    isplitl [Ho]; · iexact Ho
    iexact Hlev
  iintro ⟨⟨Hd, Hw⟩, Hz, Ho⟩
  iapply Hk
  isplitl [Hd]; · iexact Hd
  isplitl [Hw]; · unfold Some; iexists f; iexact Hw
  isplitl [Hz]; · iexact Hz
  iexact Ho

theorem wait_x (c : Dev nD) (q : DmaSem sig) (o : Fin 2 → ℕ) (p : Fin 3 → ℕ) {o' : Fin 2 → ℕ} {p' : Fin 3 → ℕ} {h1 h2} {q' : DmaSem sig}
    {hsrc hdst} {α : Type} {k : PUnit → Prog (TpuEff nD τ sig (Elt F) Λ₀ .tc) α} {Q : α → sProp 𝕄} (l : List (Fin 10))
    (hq : q' = q) (hlv : lvS (.dma q) = 0) :
    iprop(FlX m c q o p ∗ Ow (F := F) c l ∗ levAts L lv)
      ⊢ iprop((iprop(At c cc0_scratch0 (box p S1x256x4096.size) fullShare (XS m c) ∗ At c main_arg0 (box o S256x4096.size) fullShare (X m c)
            ∗ semVal ((c : Thread nD τ), .dma q) 0 ∗ Ow (F := F) c l) -∗ Wp c (k ⟨⟩) Q)
          -∗ Wp c (.op (.waitDma2 q' (xV o' h1) (xsV p' h2) hsrc hdst) k) Q) := by
  unfold FlX
  iintro ⟨Hf, Ho, Hlev⟩ Hk
  iapply (wait (F := F) c (srcw := xV o' h1) (dstw := xsV p' h2) l hq rfl hlv) $$ [Hf Ho Hlev]
  · isplitl [Hf]; · iexact Hf
    isplitl [Ho]; · iexact Ho
    iexact Hlev
  iintro ⟨⟨Hd, Hw⟩, Hz, Ho⟩
  iapply Hk
  isplitl [Hd]; · iexact Hd
  isplitl [Hw]; · iexact Hw
  isplitl [Hz]; · iexact Hz
  iexact Ho

end Cert.RunKernelIdeal

end
-- ==== Proof.RunKernelIdeal.Access.lean ====
/-
The loads and stores: the values the kernel loads, computes and stores, each a piece of the canonical contents.
-/
module

public import proofs.«01_k».proof.Proof.RunKernelIdeal.Local

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The values the kernel computes -/

/-- 256 staged rows of device `c`, from row `b`; 512 gathered rows of device `d`, from row `b`; 256 of them; chunk `j` of the columns. -/
def xst (c : Dev nD) (b : ℕ) : Vec F S1x256x4096 .f32 := fun i => X m c (xIdx (b + (i 1).val) (i 2).val)
def grows512 (d : Dev nD) (b : ℕ) : Vec F S1x512x4096 .fp8e4m3 := fun i => XQ m d (xIdx (b + (i 1).val) (i 2).val)
def grows256 (d : Dev nD) (b : ℕ) : Vec F S1x256x4096 .fp8e4m3 := fun i => XQ m d (xIdx (b + (i 1).val) (i 2).val)
def wst (c : Dev nD) (j : ℕ) : Vec F S1x4096x256 .f32 := fun i => W m c (wIdx (i 1).val (2048 * c.val + 256 * j + (i 2).val))
/-- Chunk `j` of the columns, quantized. -/
def wcols (c : Dev nD) (j : ℕ) : FVec F S4096x256 .fp8e5m2 := fun i => WQ m c (wrap S4096x2048 (by decide) ![(i 0).val, 256 * j + (i 1).val])

omit [FloatOps F] in
/-- Dropping the leading unit axis of a stack of one matrix. -/
theorem drop_apply {n k : ℕ} {e : EltTy} (v : Vec F ⟨3, ![1, n, k]⟩ e) (h) (x : (⟨2, ![n, k]⟩ : Shape).Idx) :
    shapeCast ⟨2, ![n, k]⟩ v h x = v (Fin.cons (⟨0, Nat.one_pos⟩ : Fin 1) x) := congrArg v (squeeze_val _ x)
omit [FloatOps F] in
/-- A reshape to the same shape is the identity. -/
theorem same_apply {s : Shape} {e : EltTy} (v : Vec F s e) (h) (x : s.Idx) : shapeCast s v h x = v x := congrArg v (by rw [Shape.reshapeEquiv_self])

section Pays
variable (c d : Dev nD) (b j : ℕ)

theorem drop_xst : shapeCast S256x4096 (xst m c b) shapeCasts_S1x256x4096_S256x4096 = (fun i => X m c (xIdx (b + (i 0).val) (i 1).val) : FVec F S256x4096 .f32) :=
  funext fun x => drop_apply (n := 256) (k := 4096) (xst m c b) _ x
theorem drop_wst : shapeCast S4096x256 (wst m c j) shapeCasts_S1x4096x256_S4096x256 = (fun i => W m c (wIdx (i 0).val (2048 * c.val + 256 * j + (i 1).val)) : FVec F S4096x256 .f32) :=
  funext fun x => drop_apply (n := 4096) (k := 256) (wst m c j) _ x
theorem drop_grows512 : shapeCast S512x4096 (grows512 m d b) shapeCasts_S1x512x4096_S512x4096 = rows512 m d b :=
  funext fun x => drop_apply (n := 512) (k := 4096) (grows512 m d b) _ x
theorem drop_grows256 : shapeCast S256x4096 (grows256 m d b) shapeCasts_S1x256x4096_S256x4096 = rows256 m d b :=
  funext fun x => drop_apply (n := 256) (k := 4096) (grows256 m d b) _ x

theorem pay1_eq : k0_pay1 (xst m c b) = rows256 m c b := by
  unfold k0_pay1
  rw [drop_xst]
  exact funext fun x => same_apply (s := S256x4096) (e := .fp8e4m3) _ _ x
theorem pay2_eq : k0_pay2 (xst m c b) = rows256 m c b := pay1_eq m c b
theorem pay3_eq : k0_pay3 (xst m c b) = rows256 m c b := pay1_eq m c b
theorem pay5_eq : k0_pay5 (k0_pay4 (xst m c b)) = rows256 m c b := pay1_eq m c b

theorem pay6_eq (hj : j < 8) : k0_pay6 (wst m c j) = wcols m c j := by
  unfold k0_pay6
  rw [drop_wst]
  refine funext fun x => (same_apply (s := S4096x256) (e := .fp8e5m2) _ _ x).trans ?_
  have h0 : (x 0).val < 4096 := (x 0).isLt
  have h1 : (x 1).val < 256 := (x 1).isLt
  have hc : c.val < 4 := c.isLt
  refine congrArg (fun y : F .f32 => FloatOps.truncf .fp8e5m2 bitsLt_fp8e5m2_f32 y) (congrArg (W m c) ?_)
  show wIdx (x 0).val (2048 * c.val + 256 * j + (x 1).val) = wIdx ((x 0).val % 4096) (2048 * c.val + (256 * j + (x 1).val) % 2048)
  rw [Nat.mod_eq_of_lt h0, Nat.mod_eq_of_lt (show 256 * j + (x 1).val < 2048 by omega), Nat.add_assoc]
theorem pay8_eq (hj : j < 8) : k0_pay8 (k0_pay7 (wst m c j)) = wcols m c j := pay6_eq m c j hj
theorem pay9_eq (hj : j < 8) : k0_pay9 (wst m c j) = wcols m c j := pay6_eq m c j hj
theorem pay10_eq (hj : j < 8) : k0_pay10 (wst m c j) = wcols m c j := pay6_eq m c j hj
theorem pay11_eq (hj : j < 8) : k0_pay11 (wst m c j) = wcols m c j := pay6_eq m c j hj
theorem pay12_eq (hj : j < 8) : k0_pay12 (wst m c j) = wcols m c j := pay6_eq m c j hj
theorem pay14_eq (hj : j < 8) : k0_pay14 (k0_pay13 (wst m c j)) = wcols m c j := pay6_eq m c j hj
theorem pay15_eq (hj : j < 8) : k0_pay15 (wst m c j) = wcols m c j := pay6_eq m c j hj

/-- A block of results behind a leading unit axis, as it is stored. -/
def up512 (v : FVec F S512x2048 .bf16) : FVec F S1x512x2048 .bf16 := shapeCast S1x512x2048 v shapeCasts_S512x2048_S1x512x2048
def up256 (v : FVec F S256x2048 .bf16) : FVec F S1x256x2048 .bf16 := shapeCast S1x256x2048 v shapeCasts_S256x2048_S1x256x2048

variable (s : F .f32) (w : Vec F S4096x2048 .fp8e5m2)

theorem pay17_eq (s₁ s₂ : F .f32) : k0_pay17 s₁ s₂ (rows512 m d b) w = blk512 (Scalar.mulf s₁ s₂) (rows512 m d b) w := rfl
theorem pay18_eq (v : FVec F S512x2048 .bf16) : k0_pay18 v = up512 v := rfl
theorem pay19_eq : k0_pay19 s (rows512 m d b) w = up512 (blk512 s (rows512 m d b) w) := rfl
theorem pay23_eq : k0_pay23 (k0_pay20 s (grows512 m d b) w) (k0_pay21 s (grows512 m d b) w) k0_pay22 = up512 (blk512 s (rows512 m d b) w) := by
  rw [← drop_grows512]; rfl
theorem pay27_eq : k0_pay27 (k0_pay24 s (grows512 m d b) w) (k0_pay25 s (grows512 m d b) w) k0_pay26 = up512 (blk512 s (rows512 m d b) w) := by
  rw [← drop_grows512]; rfl
theorem pay29_eq : k0_pay29 s (k0_pay28 (grows512 m d b)) w = up512 (blk512 s (rows512 m d b) w) := by
  rw [← drop_grows512]; rfl
theorem pay31_eq : k0_pay31 s (k0_pay30 (grows512 m d b)) w = up512 (blk512 s (rows512 m d b) w) := by
  rw [← drop_grows512]; rfl
theorem pay32_eq : k0_pay32 s (grows256 m d b) w = up256 (blk256 s (rows256 m d b) w) := by
  rw [← drop_grows256]; rfl
theorem pay34_eq : k0_pay34 (k0_pay33 s (grows256 m d b) w) = up256 (blk256 s (rows256 m d b) w) := by
  rw [← drop_grows256]; rfl
theorem pay36_eq : k0_pay36 s (k0_pay35 (grows256 m d b)) w = up256 (blk256 s (rows256 m d b) w) := by
  rw [← drop_grows256]; rfl
theorem pay38_eq : k0_pay38 s (k0_pay37 (grows256 m d b)) w = up256 (blk256 s (rows256 m d b) w) := by
  rw [← drop_grows256]; rfl

end Pays

/-! ## Loads -/

section Loads
variable (c : Dev nD) {α : Type}

/-- A load whose rectangle lies within the held elements. -/
theorem load_gen {cs : CoreSpace} {s : Shape} {e : EltTy} {M : Memref sig .tc cs s e} {r : Rect s} {hl : M.view.LoadsAt r.toLoadRect}
    {Q : α → sProp 𝕄} {k : (r.shape.Idx → Elt F e) → Prog (TpuEff nD τ sig (Elt F) Λ₀ .tc) α} {S : Finset (Idx ((M.access r).loc (c : Thread nD τ)))} {q : PosShare TreeShare}
    {f : (M.access r).ty.Contents (Elt F)} (hS : (M.access r).set ⊆ S) (v : r.shape.Idx → Elt F e) (hv : ∀ x, (M.access r).read (Elt F) f x = v x) :
    ((M.access r).loc (c : Thread nD τ) ↦[S]{q} f)
      ⊢ iprop((((M.access r).loc (c : Thread nD τ) ↦[S]{q} f) -∗ Wp c (k v) Q) -∗ Wp c (.op (.load M r.toLoadRect hl) k) Q) := by
  rw [← (funext hv : (M.access r).read (Elt F) f = v)]
  exact wp_load_rect 𝒱₀ (c : Thread nD τ) none Set.univ (m := M) (r := r) hS

theorem load_x (p : Fin 3 → ℕ) (b : ℕ) {h hl} {Q : α → sProp 𝕄} {k : Vec F S1x256x4096 .f32 → Prog (TpuEff nD τ sig (Elt F) Λ₀ .tc) α}
    (hr : p 2 = 0 ∧ b = 512 * p 0 + p 1) :
    At c cc0_scratch0 (box p S1x256x4096.size) fullShare (XS m c)
      ⊢ iprop((At c cc0_scratch0 (box p S1x256x4096.size) fullShare (XS m c) -∗ Wp c (k (xst m c b)) Q)
          -∗ Wp c (.op (.load (Memref.whole cc0_scratch0) (Rect.unit (s := S2x512x4096) p S1x256x4096.size h).toLoadRect hl) k) Q) :=
  load_gen c (M := Memref.whole cc0_scratch0) (r := Rect.unit (s := S2x512x4096) p S1x256x4096.size h) (f := XS m c) (by rw [ac_set]) (xst m c b) fun x => by
    have hb0 : p 0 + 1 ≤ 2 := h 0
    have hb1 : p 1 + 256 ≤ 512 := h 1
    have h0 : (x 0).val < 1 := (x 0).isLt
    have h1 : (x 1).val < 256 := (x 1).isLt
    have h2 : (x 2).val < 4096 := (x 2).isLt
    refine (congrArg (XS m c) (sl3_emb (hD := by decide) p h x)).trans ?_
    unfold XS xst
    congr 1
    unfold xIdx
    refine eq_wrap fun a => ?_
    fin_cases a
    · show (512 * ((p 0 + (x 0).val) % 2) + (p 1 + (x 1).val) % 512) % 1024 = b + (x 1).val
      omega
    · show (p 2 + (x 2).val) % 4096 % 4096 = (x 2).val
      omega

theorem load_xq (S : Finset S1024x4096.Idx) (q : PosShare TreeShare) (b : ℕ) {h hl} {Q : α → sProp 𝕄} {k : Vec F S512x4096 .fp8e4m3 → Prog (TpuEff nD τ sig (Elt F) Λ₀ .tc) α}
    (hS : box (s := S1024x4096) ![b, 0] S512x4096.size ⊆ S) :
    At c cc0_scratch1 S q (XQ m c)
      ⊢ iprop((At c cc0_scratch1 S q (XQ m c) -∗ Wp c (k (rows512 m c b)) Q)
          -∗ Wp c (.op (.load (Memref.whole cc0_scratch1) (Rect.unit (s := S1024x4096) ![b, 0] S512x4096.size h).toLoadRect hl) k) Q) :=
  load_gen c (M := Memref.whole cc0_scratch1) (r := Rect.unit (s := S1024x4096) ![b, 0] S512x4096.size h) (f := XQ m c) (by rw [ac_set]; exact hS) (rows512 m c b) fun x => by
    refine (congrArg (XQ m c) (sl_emb (hD := by decide) ![b, 0] h x)).trans ?_
    unfold rows512 xIdx
    congr 1
    refine eq_wrap fun a => ?_
    have hb : b + 512 ≤ 1024 := h 0
    have h0 : (x 0).val < 512 := (x 0).isLt
    have h1 : (x 1).val < 4096 := (x 1).isLt
    fin_cases a
    · show (b + (x 0).val) % 1024 = b + (x 0).val
      omega
    · show (0 + (x 1).val) % 4096 = (x 1).val
      omega

/-- The device whose rows slot `t` of device `c`'s gathered rows holds. -/
def slotDev (t : ℕ) : Dev nD := if t = 0 then lft c else if t = 1 then rgt c else opp c

theorem XG_at (t b : ℕ) (ht : t < 3) (r : ℕ) (hr : b + r < 1024) (k : ℕ) (hk : k < 4096) (v : Fin 3 → ℕ) (h0 : v 0 = t) (h1 : v 1 = b + r) (h2 : v 2 = k) :
    XG m c (wrap S3x1024x4096 (by decide) v) = XQ m (slotDev c t) (xIdx (b + r) k) := by
  show XQ m (if v 0 % 3 = 0 then lft c else if v 0 % 3 = 1 then rgt c else opp c) (xIdx (v 1 % 1024) (v 2 % 4096)) = _
  rw [h0, h1, h2, Nat.mod_eq_of_lt ht, Nat.mod_eq_of_lt hr, Nat.mod_eq_of_lt hk]
  rfl

theorem load_g512 (S : Finset S3x1024x4096.Idx) (q : PosShare TreeShare) (t b : ℕ) {h hl} {Q : α → sProp 𝕄} {k : Vec F S1x512x4096 .fp8e4m3 → Prog (TpuEff nD τ sig (Elt F) Λ₀ .tc) α}
    (hS : box (s := S3x1024x4096) ![t, b, 0] S1x512x4096.size ⊆ S) :
    At c cc0_scratch2 S q (XG m c)
      ⊢ iprop((At c cc0_scratch2 S q (XG m c) -∗ Wp c (k (grows512 m (slotDev c t) b)) Q)
          -∗ Wp c (.op (.load (Memref.whole cc0_scratch2) (Rect.unit (s := S3x1024x4096) ![t, b, 0] S1x512x4096.size h).toLoadRect hl) k) Q) :=
  load_gen c (M := Memref.whole cc0_scratch2) (r := Rect.unit (s := S3x1024x4096) ![t, b, 0] S1x512x4096.size h) (f := XG m c) (by rw [ac_set]; exact hS)
    (grows512 m (slotDev c t) b) fun x => by
    have hb0 : t + 1 ≤ 3 := h 0
    have hb1 : b + 512 ≤ 1024 := h 1
    have h0 : (x 0).val < 1 := (x 0).isLt
    have h1 : (x 1).val < 512 := (x 1).isLt
    exact (congrArg (XG m c) (sl3_emb (hD := by decide) ![t, b, 0] h x)).trans
      (XG_at m c t b (by omega) (x 1).val (by omega) (x 2).val (x 2).isLt _ (show t + (x 0).val = t by omega) rfl (Nat.zero_add _))

theorem load_g256 (S : Finset S3x1024x4096.Idx) (q : PosShare TreeShare) (t b : ℕ) {h hl} {Q : α → sProp 𝕄} {k : Vec F S1x256x4096 .fp8e4m3 → Prog (TpuEff nD τ sig (Elt F) Λ₀ .tc) α}
    (hS : box (s := S3x1024x4096) ![t, b, 0] S1x256x4096.size ⊆ S) :
    At c cc0_scratch2 S q (XG m c)
      ⊢ iprop((At c cc0_scratch2 S q (XG m c) -∗ Wp c (k (grows256 m (slotDev c t) b)) Q)
          -∗ Wp c (.op (.load (Memref.whole cc0_scratch2) (Rect.unit (s := S3x1024x4096) ![t, b, 0] S1x256x4096.size h).toLoadRect hl) k) Q) :=
  load_gen c (M := Memref.whole cc0_scratch2) (r := Rect.unit (s := S3x1024x4096) ![t, b, 0] S1x256x4096.size h) (f := XG m c) (by rw [ac_set]; exact hS)
    (grows256 m (slotDev c t) b) fun x => by
    have hb0 : t + 1 ≤ 3 := h 0
    have hb1 : b + 256 ≤ 1024 := h 1
    have h0 : (x 0).val < 1 := (x 0).isLt
    have h1 : (x 1).val < 256 := (x 1).isLt
    exact (congrArg (XG m c) (sl3_emb (hD := by decide) ![t, b, 0] h x)).trans
      (XG_at m c t b (by omega) (x 1).val (by omega) (x 2).val (x 2).isLt _ (show t + (x 0).val = t by omega) rfl (Nat.zero_add _))

theorem load_w (p : Fin 3 → ℕ) (j : ℕ) {h hl} {Q : α → sProp 𝕄} {k : Vec F S1x4096x256 .f32 → Prog (TpuEff nD τ sig (Elt F) Λ₀ .tc) α} (hr : p 1 = 0 ∧ p 2 = 0) :
    At c cc0_scratch4 (box p S1x4096x256.size) fullShare (WS m c j)
      ⊢ iprop((At c cc0_scratch4 (box p S1x4096x256.size) fullShare (WS m c j) -∗ Wp c (k (wst m c j)) Q)
          -∗ Wp c (.op (.load (Memref.whole cc0_scratch4) (Rect.unit (s := S2x4096x256) p S1x4096x256.size h).toLoadRect hl) k) Q) :=
  load_gen c (M := Memref.whole cc0_scratch4) (r := Rect.unit (s := S2x4096x256) p S1x4096x256.size h) (f := WS m c j) (by rw [ac_set]) (wst m c j) fun x => by
    have h1 : (x 1).val < 4096 := (x 1).isLt
    have h2 : (x 2).val < 256 := (x 2).isLt
    refine (congrArg (WS m c j) (sl3_emb (hD := by decide) p h x)).trans ?_
    show W m c (wIdx ((p 1 + (x 1).val) % 4096) (2048 * c.val + 256 * j + (p 2 + (x 2).val) % 256)) = W m c (wIdx (x 1).val (2048 * c.val + 256 * j + (x 2).val))
    rw [hr.1, hr.2, Nat.zero_add, Nat.zero_add, Nat.mod_eq_of_lt h1, Nat.mod_eq_of_lt h2]

theorem load_wq {h hl} {Q : α → sProp 𝕄} {k : Vec F S4096x2048 .fp8e5m2 → Prog (TpuEff nD τ sig (Elt F) Λ₀ .tc) α} :
    At c cc0_scratch3 Finset.univ fullShare (WQ m c)
      ⊢ iprop((At c cc0_scratch3 Finset.univ fullShare (WQ m c) -∗ Wp c (k (WQ m c)) Q)
          -∗ Wp c (.op (.load (Memref.whole cc0_scratch3) (Rect.unit (s := S4096x2048) ![0, 0] S4096x2048.size h).toLoadRect hl) k) Q) :=
  load_gen c (M := Memref.whole cc0_scratch3) (r := Rect.unit (s := S4096x2048) ![0, 0] S4096x2048.size h) (f := WQ m c) (Finset.subset_univ _) (WQ m c) fun x => by
    refine congrArg (WQ m c) ((sl_emb (hD := by decide) ![0, 0] h x).trans ?_)
    symm
    refine eq_wrap fun a => ?_
    fin_cases a
    · exact (Nat.zero_add _).symm
    · exact (Nat.zero_add _).symm

/-- A load whose value is not used, from a piece held at some contents. -/
theorem load_dead (b : Ref sig .tc) {cs : CoreSpace} {e : EltTy} {M : Memref sig .tc cs b.ty.shape e} {r : Rect b.ty.shape} {hl : M.view.LoadsAt r.toLoadRect}
    {Q : α → sProp 𝕄} {k : (r.shape.Idx → Elt F e) → Prog (TpuEff nD τ sig (Elt F) Λ₀ .tc) α} {S : Finset (Idx ((M.access r).loc (c : Thread nD τ)))}
    (hS : (M.access r).set ⊆ S) :
    (iprop(∃ f : (M.access r).ty.Contents (Elt F), (M.access r).loc (c : Thread nD τ) ↦[S]{fullShare} f) : sProp 𝕄)
      ⊢ iprop((∀ v, iprop(∃ f : (M.access r).ty.Contents (Elt F), (M.access r).loc (c : Thread nD τ) ↦[S]{fullShare} f) -∗ Wp c (k v) Q)
          -∗ Wp c (.op (.load M r.toLoadRect hl) k) Q) := by
  iintro ⟨%f, H⟩ Hk
  iapply (load_gen c (M := M) (r := r) (f := f) hS _ fun _ => rfl) $$ H
  iintro H
  iapply Hk
  iexists f; iexact H

theorem dead_xq (o : Fin 2 → ℕ) {h hl} {Q : α → sProp 𝕄} {k : Vec F S256x4096 .fp8e4m3 → Prog (TpuEff nD τ sig (Elt F) Λ₀ .tc) α} :
    Some (F := F) c cc0_scratch1 (box o S256x4096.size)
      ⊢ iprop((∀ v, Some (F := F) c cc0_scratch1 (box o S256x4096.size) -∗ Wp c (k v) Q)
          -∗ Wp c (.op (.load (Memref.whole cc0_scratch1) (Rect.unit (s := S1024x4096) o S256x4096.size h).toLoadRect hl) k) Q) :=
  load_dead c cc0_scratch1 (M := Memref.whole cc0_scratch1) (r := Rect.unit (s := S1024x4096) o S256x4096.size h) (by rw [ac_set])
theorem dead_os512 (p : Fin 3 → ℕ) {h hl} {Q : α → sProp 𝕄} {k : Vec F S1x512x2048 .bf16 → Prog (TpuEff nD τ sig (Elt F) Λ₀ .tc) α} :
    Some (F := F) c cc0_scratch5 (box p S1x512x2048.size)
      ⊢ iprop((∀ v, Some (F := F) c cc0_scratch5 (box p S1x512x2048.size) -∗ Wp c (k v) Q)
          -∗ Wp c (.op (.load (Memref.whole cc0_scratch5) (Rect.unit (s := S2x512x2048) p S1x512x2048.size h).toLoadRect hl) k) Q) :=
  load_dead c cc0_scratch5 (M := Memref.whole cc0_scratch5) (r := Rect.unit (s := S2x512x2048) p S1x512x2048.size h) (by rw [ac_set])
theorem dead_os256 (p : Fin 3 → ℕ) {h hl} {Q : α → sProp 𝕄} {k : Vec F S1x256x2048 .bf16 → Prog (TpuEff nD τ sig (Elt F) Λ₀ .tc) α} :
    Some (F := F) c cc0_scratch5 (box p S1x256x2048.size)
      ⊢ iprop((∀ v, Some (F := F) c cc0_scratch5 (box p S1x256x2048.size) -∗ Wp c (k v) Q)
          -∗ Wp c (.op (.load (Memref.whole cc0_scratch5) (Rect.unit (s := S2x512x2048) p S1x256x2048.size h).toLoadRect hl) k) Q) :=
  load_dead c cc0_scratch5 (M := Memref.whole cc0_scratch5) (r := Rect.unit (s := S2x512x2048) p S1x256x2048.size h) (by rw [ac_set])

/-- The quantized columns' buffer with the first `256 * j` columns done. -/
def WQP (j : ℕ) : sProp 𝕄 := iprop(∃ f : (cc0_scratch3 : Ref sig .tc).ty.Contents (Elt F), ⌜∀ i : S4096x2048.Idx, (i 1).val < 256 * j → f i = WQ m c i⌝ ∗ At c cc0_scratch3 Finset.univ fullShare f)

theorem dead_wq (j : ℕ) {o : Fin 2 → ℕ} {h hl} {Q : α → sProp 𝕄} {k : Vec F S4096x256 .fp8e5m2 → Prog (TpuEff nD τ sig (Elt F) Λ₀ .tc) α} :
    WQP m c j
      ⊢ iprop((∀ v, WQP m c j -∗ Wp c (k v) Q)
          -∗ Wp c (.op (.load (Memref.whole cc0_scratch3) (Rect.unit (s := S4096x2048) o S4096x256.size h).toLoadRect hl) k) Q) := by
  unfold WQP At
  iintro ⟨%f, %hf, H⟩ Hk
  iapply (load_gen c (M := Memref.whole cc0_scratch3) (r := Rect.unit (s := S4096x2048) o S4096x256.size h) (f := f) (Finset.subset_univ _) _ fun _ => rfl) $$ H
  iintro H
  iapply Hk
  iexists f
  isplitr; · ipureintro; exact hf
  iexact H

end Loads

/-! ## Stores -/

section Stores
variable (c : Dev nD) {α : Type} {k : PUnit → Prog (TpuEff nD τ sig (Elt F) Λ₀ .tc) α}

/-- A store over the whole of the piece held: any contents that read there as what was stored. -/
theorem store_gen {cs : CoreSpace} {s : Shape} {e : EltTy} {M : Memref sig .tc cs s e} {r : Rect s} {w : r.shape.Idx → Elt F e}
    {Q : α → sProp 𝕄} {hx : (M.access r).Stores Finset.univ} {hm : (Finset.univ : Finset r.shape.Idx) = Finset.univ ∨ ∀ a, r.stride a = 1}
    (G : (M.access r).ty.Contents (Elt F)) (hG : ∀ x, (M.access r).read (Elt F) G x = w x) :
    (iprop(∃ f : (M.access r).ty.Contents (Elt F), (M.access r).loc (c : Thread nD τ) ↦[(M.access r).set]{fullShare} f) : sProp 𝕄)
      ⊢ iprop((((M.access r).loc (c : Thread nD τ) ↦[(M.access r).set]{fullShare} G) -∗ Wp c (k ⟨⟩) Q) -∗ Wp c (.op (.store M r w Finset.univ hx hm) k) Q) := by
  iintro ⟨%f, H⟩ Hk
  iapply (wp_store 𝒱₀ (c : Thread nD τ) none Set.univ (m := M) (r := r) (Mk := Finset.univ) (S := (M.access r).set) (Finset.Subset.refl _)) $$ H
  iintro H
  iapply Hk
  iapply (Entails.of_eq (write_at c (M.access r) f G w fullShare hG)) $$ H

theorem store_xq (b : ℕ) {w : FVec F S256x4096 .fp8e4m3} {Q : α → sProp 𝕄} {h hx hm} (hw : w = rows256 m c b) :
    Some (F := F) c cc0_scratch1 (box (s := S1024x4096) ![b, 0] S256x4096.size)
      ⊢ iprop((At c cc0_scratch1 (box (s := S1024x4096) ![b, 0] S256x4096.size) fullShare (XQ m c) -∗ Wp c (k ⟨⟩) Q)
          -∗ Wp c (.op (.store (Memref.whole cc0_scratch1) (Rect.unit (s := S1024x4096) ![b, 0] S256x4096.size h) w Finset.univ hx hm) k) Q) := by
  subst hw
  have H := store_gen (F := F) c (k := k) (Q := Q) (M := Memref.whole cc0_scratch1) (r := Rect.unit (s := S1024x4096) ![b, 0] S256x4096.size h) (w := rows256 m c b) (hx := hx) (hm := hm) (XQ m c) fun x => by
    refine (congrArg (XQ m c) (sl_emb (hD := by decide) ![b, 0] h x)).trans ?_
    unfold rows256 xIdx
    congr 1
    refine eq_wrap fun a => ?_
    have hb : b + 256 ≤ 1024 := h 0
    have h0 : (x 0).val < 256 := (x 0).isLt
    have h1 : (x 1).val < 4096 := (x 1).isLt
    fin_cases a
    · show (b + (x 0).val) % 1024 = b + (x 0).val
      omega
    · show (0 + (x 1).val) % 4096 = (x 1).val
      omega
  rw [ac_set] at H
  exact H

theorem store_wq (j : ℕ) {w : FVec F S4096x256 .fp8e5m2} {Q : α → sProp 𝕄} {h hx hm} (hw : w = wcols m c j) :
    WQP m c j
      ⊢ iprop((WQP m c (j + 1) -∗ Wp c (k ⟨⟩) Q)
          -∗ Wp c (.op (.store (Memref.whole cc0_scratch3) (Rect.unit (s := S4096x2048) ![0, 256 * j] S4096x256.size h) w Finset.univ hx hm) k) Q) := by
  subst hw
  unfold WQP
  iintro ⟨%f, %hf, H⟩ Hk
  unfold At
  iapply (wp_store 𝒱₀ (c : Thread nD τ) none Set.univ (m := Memref.whole cc0_scratch3) (r := Rect.unit (s := S4096x2048) ![0, 256 * j] S4096x256.size h) (Mk := Finset.univ)
    (S := Finset.univ) (Finset.subset_univ _)) $$ H
  iintro H
  iapply Hk
  iexists _
  isplitr
  · ipureintro
    show ∀ i : S4096x2048.Idx, (i 1).val < 256 * (j + 1) → View.write (Elt F) ((Memref.whole cc0_scratch3).access (Rect.unit (s := S4096x2048) ![0, 256 * j] S4096x256.size h)) f (wcols m c j) Finset.univ i = WQ m c i
    intro i hi
    by_cases hlt : (i 1).val < 256 * j
    · rw [View.write_of_not_mem, hf i hlt]
      intro hmem
      have hmem' := hmem
      rw [View.setOn_univ, ac_set, mem_box] at hmem'
      have := (hmem' 1).1
      have : 256 * j ≤ (i 1).val := this
      omega
    · have hb : 256 * j + 256 ≤ 2048 := h 1
      have hx' : i = ((Memref.whole cc0_scratch3).access (Rect.unit (s := S4096x2048) ![0, 256 * j] S4096x256.size h)).emb
          ((fun a => ⟨![(i 0).val, (i 1).val - 256 * j] a, by
            have h0 : (i 0).val < 4096 := (i 0).isLt
            fin_cases a
            · exact h0
            · show (i 1).val - 256 * j < 256
              omega⟩ : S4096x256.Idx)) := by
        refine (eq_wrap fun a => ?_).trans (sl_emb (hD := by decide) ![0, 256 * j] h _).symm
        fin_cases a
        · exact (Nat.zero_add _).symm
        · show (i 1).val = 256 * j + ((i 1).val - 256 * j)
          omega
      refine (congrArg _ hx').trans ((View.write_emb_of_mem _ _ (Finset.mem_univ _)).trans ?_)
      show WQ m c (wrap S4096x2048 _ ![(i 0).val, 256 * j + ((i 1).val - 256 * j)]) = WQ m c i
      congr 1
      symm
      refine eq_wrap fun a => ?_
      fin_cases a
      · rfl
      · show (i 1).val = 256 * j + ((i 1).val - 256 * j)
        omega
  iexact H

theorem WQP_done : WQP m c 8 ⊢ At c cc0_scratch3 Finset.univ fullShare (WQ m c) := by
  unfold WQP
  iintro ⟨%f, %hf, H⟩
  rw [show f = WQ m c from funext fun i => hf i (i 1).isLt]
  iexact H

theorem WQP_zero (f : (cc0_scratch3 : Ref sig .tc).ty.Contents (Elt F)) : At c cc0_scratch3 Finset.univ fullShare f ⊢ WQP m c 0 := by
  unfold WQP
  iintro H
  iexists f
  isplitr; · ipureintro; intro i hi; exact absurd hi (Nat.not_lt_zero _)
  iexact H

theorem store_os512 (p : Fin 3 → ℕ) (v : FVec F S512x2048 .bf16) {w : FVec F S1x512x2048 .bf16} {Q : α → sProp 𝕄} {h hx hm} (hw : w = up512 v) (hp : p 1 = 0 ∧ p 2 = 0) :
    Some (F := F) c cc0_scratch5 (box p S1x512x2048.size)
      ⊢ iprop((At c cc0_scratch5 (box p S1x512x2048.size) fullShare (os512 v) -∗ Wp c (k ⟨⟩) Q)
          -∗ Wp c (.op (.store (Memref.whole cc0_scratch5) (Rect.unit (s := S2x512x2048) p S1x512x2048.size h) w Finset.univ hx hm) k) Q) := by
  subst hw
  have H := store_gen (F := F) c (k := k) (Q := Q) (M := Memref.whole cc0_scratch5) (r := Rect.unit (s := S2x512x2048) p S1x512x2048.size h) (w := up512 v) (hx := hx) (hm := hm) (os512 v) fun x => by
    refine (congrArg (os512 v) (sl3_emb (hD := by decide) p h x)).trans ?_
    have h1 : (x 1).val < 512 := (x 1).isLt
    have h2 : (x 2).val < 2048 := (x 2).isLt
    refine Eq.trans ?_ (shapeCast_addUnit_apply (d := ![512, 2048]) v _ x).symm
    refine congrArg v (Eq.symm (eq_wrap fun a => ?_))
    fin_cases a
    · show (x 1).val = (p 1 + (x 1).val) % 512
      omega
    · show (x 2).val = (p 2 + (x 2).val) % 2048
      omega
  rw [ac_set] at H
  exact H

theorem store_os256 (p : Fin 3 → ℕ) (v : FVec F S256x2048 .bf16) {w : FVec F S1x256x2048 .bf16} {Q : α → sProp 𝕄} {h hx hm} (hw : w = up256 v) (hp : p 1 = 0 ∧ p 2 = 0) :
    Some (F := F) c cc0_scratch5 (box p S1x256x2048.size)
      ⊢ iprop((At c cc0_scratch5 (box p S1x256x2048.size) fullShare (os256 v) -∗ Wp c (k ⟨⟩) Q)
          -∗ Wp c (.op (.store (Memref.whole cc0_scratch5) (Rect.unit (s := S2x512x2048) p S1x256x2048.size h) w Finset.univ hx hm) k) Q) := by
  subst hw
  have H := store_gen (F := F) c (k := k) (Q := Q) (M := Memref.whole cc0_scratch5) (r := Rect.unit (s := S2x512x2048) p S1x256x2048.size h) (w := up256 v) (hx := hx) (hm := hm) (os256 v) fun x => by
    refine (congrArg (os256 v) (sl3_emb (hD := by decide) p h x)).trans ?_
    have h1 : (x 1).val < 256 := (x 1).isLt
    have h2 : (x 2).val < 2048 := (x 2).isLt
    refine Eq.trans ?_ (shapeCast_addUnit_apply (d := ![256, 2048]) v _ x).symm
    refine congrArg v (Eq.symm (eq_wrap fun a => ?_))
    fin_cases a
    · show (x 1).val = (p 1 + (x 1).val) % 512
      omega
    · show (x 2).val = (p 2 + (x 2).val) % 2048
      omega
  rw [ac_set] at H
  exact H

end Stores

end Cert.RunKernelIdeal

end
-- ==== Proof.RunKernelIdeal.Remote.lean ====
/-
The remote copies and the barrier: the records shared by all devices, and one lemma for each kind of step.
-/
module

public import proofs.«01_k».proof.Proof.RunKernelIdeal.Access

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells' records -/

/-- The cells of a device: its barrier's, and its ten copies' send (`false`) and receive (`true`) cells. -/
abbrev KI : Type := Option (Bool × Fin 10)
abbrev csem : KI → SemLoc sig
  | none => .reg barS
  | some (false, i) => .dma (sendSem i)
  | some (true, i) => .dma (recvSem i)
abbrev kcell (ck : Dev nD × KI) : GSem nD τ sig := ((ck.1 : Thread nD τ), csem ck.2)

/-- Every cell's invariant, that each has reached its first round, and the levels. -/
def Rec (K : Dev nD × KI → ℕ) : sProp 𝕄 :=
  iprop((bigSep Finset.univ fun ck : Dev nD × KI => cellInv ER (rd m) (K ck) (kcell ck))
    ∗ (bigSep Finset.univ fun ck : Dev nD × KI => reached ER (kcell ck) 0) ∗ levAts L lv)

instance Rec_persistent (K : Dev nD × KI → ℕ) : BI.Persistent (Rec m K) := by unfold Rec; infer_instance

section
variable (K : Dev nD × KI → ℕ)

theorem rec_inv (ck : Dev nD × KI) : Rec m K ⊢ cellInv ER (rd m) (K ck) (kcell ck) := by
  unfold Rec
  iintro ⟨H, -, -⟩
  iapply (show (bigSep Finset.univ fun ck : Dev nD × KI => (cellInv ER (rd m) (K ck) (kcell ck) : sProp 𝕄)) ⊢ cellInv ER (rd m) (K ck) (kcell ck) from bigSep_elim (Finset.mem_univ ck)) $$ H
theorem rec_reached (ck : Dev nD × KI) : Rec m K ⊢ reached ER (kcell ck) 0 := by
  unfold Rec
  iintro ⟨-, H, -⟩
  iapply (show (bigSep Finset.univ fun ck : Dev nD × KI => (reached ER (kcell ck) 0 : sProp 𝕄)) ⊢ reached ER (kcell ck) 0 from bigSep_elim (Finset.mem_univ ck)) $$ H
theorem rec_lev : Rec m K ⊢ levAts L lv := by
  unfold Rec
  iintro ⟨-, -, H⟩
  iexact H

/-- What a device holds of copy `i` before it issues it; between issue and the send wait; until the receive wait. -/
def Unsent (c : Dev nD) (i : Fin 10) : sProp 𝕄 :=
  iprop(dutyTok ER (sendCell c i) 0 false ∗ dutyTok ER (recvCell (tgt i c) i) 0 false ∗ atPos ER (sendCell c i) 0 ∅ 0)
def Sent (c : Dev nD) (i : Fin 10) : sProp 𝕄 := iprop(cred (tallyAt (sendCell c i) () (NN i)) ∗ atPos ER (sendCell c i) 0 ∅ 0)
def Await (c : Dev nD) (i : Fin 10) : sProp 𝕄 := iprop(cred (tallyAt (recvCell c i) () (NN i)) ∗ atPos ER (recvCell c i) 0 ∅ 0)
/-- Its semaphores when they have been waited for. -/
def Zs (c : Dev nD) (i : Fin 10) : sProp 𝕄 := semVal (sendCell c i) 0
def Zr (c : Dev nD) (i : Fin 10) : sProp 𝕄 := semVal (recvCell c i) 0

/-! ## Sends -/

theorem slotDev_tgt : ∀ (i : Fin 10) (c : Dev nD), i.val < 6 → slotDev (tgt i c) (slotOf i) = c := by decide
theorem slotDev_fwd : ∀ (i : Fin 10) (c : Dev nD), ¬ i.val < 6 → slotDev (tgt i c) (slotOf i) = slotDev c (if i.val < 8 then 0 else 1) := by decide
theorem slotOf_lt : ∀ i : Fin 10, slotOf i < 3 := by decide
theorem row_len : ∀ i : Fin 10, rowOf i + lenOf i ≤ 1024 := by decide

/-- What a landed copy must read as. -/
theorem landed (i : Fin 10) (c : Dev nD) (r : ℕ) (hr : r < lenOf i) (k : ℕ) (hk : k < 4096) (h) :
    XG m (tgt i c) (wrap S3x1024x4096 h ![slotOf i, rowOf i + r, 0 + k]) = XQ m (slotDev (tgt i c) (slotOf i)) (xIdx (rowOf i + r) k) :=
  XG_at m (tgt i c) (slotOf i) (rowOf i) (slotOf_lt i) r (by have := row_len i; omega) k hk _ rfl rfl (Nat.zero_add k)

/-- Issue of copy `i`, of 256 rows, from any source that reads as it must. -/
theorem send256 (c : Dev nD) (i : Fin 10) (l : List (Fin 10)) (n : Dev nD) (hn : n = tgt i c) {src : Memref sig .tc .vmem S256x4096 .fp8e4m3} (p : Fin 3 → ℕ) {h1}
    {sS sR : DmaSem sig} {hsc : (gV p h1 : Memref sig (Dev.tc n : Thread nD τ).2.kind .vmem S256x4096 .fp8e4m3).view.ref.isScScratch = false} {hsrc : src.view.WordExact} {hdst : (gV p h1 : Memref sig .tc .vmem S256x4096 .fp8e4m3).view.WordExact}
    {hsem : DmaTarget.Typed .vmem (.dma sR) (.remote (Dev.tc n : Thread nD τ) (gV p h1 : Memref sig .tc .vmem S256x4096 .fp8e4m3) (.dma sS) hsc)}
    {α : Type} {k : PUnit → Prog (TpuEff nD τ sig (Elt F) Λ₀ .tc) α} {Q : α → sProp 𝕄} {qs : PosShare TreeShare} {fs : src.view.ty.Contents (Elt F)}
    (hS : sS = sendSem i) (hR : sR = recvSem i) (hp : p = ![slotOf i, rowOf i, 0]) (hlen : lenOf i = 256)
    (hpay : sendPay m c i = (src.view.loc (c : Thread nD τ) ↦[src.view.set]{qs} fs))
    (hr : ∀ x : S256x4096.Idx, src.view.read (Elt F) fs x = XQ m (slotDev (tgt i c) (slotOf i)) (xIdx (rowOf i + (x 0).val) (x 1).val)) :
    iprop(Rec m K ∗ Unsent (F := F) c i ∗ sendPay m c i ∗ land (F := F) c i ∗ Ow (F := F) c (i :: l))
      ⊢ iprop((iprop(Sent (F := F) c i ∗ Ow (F := F) c l) -∗ Wp c (k ⟨⟩) Q)
          -∗ Wp c (.op (.enqueueDma src (.remote (Dev.tc n : Thread nD τ) (gV p h1) (.dma sS) hsc) (.dma sR) hsrc hdst hsem) k) Q) := by
  subst hn hS hR hp
  unfold Unsent Sent Ow land Some
  iintro ⟨#HR, ⟨Ht1, Ht2, Hat⟩, Hs, ⟨%fd, Hd⟩, ⟨%W, Ho⟩⟩ Hk
  ihave Hs := (Entails.of_eq hpay) $$ Hs
  iapply (Rounds.wp_send_pointsTo 𝒱₀ ER (rd m) (c : Thread nD τ) none (κ₁ := K (c, some (false, i))) (κ₂ := K (tgt i c, some (true, i)))
    (c' := (tgt i c : Thread nD τ)) (src := src) (dst := gV ![slotOf i, rowOf i, 0] h1) (fs := fs) (q := qs)
    (r₁ := 0) (r₂ := 0) (d₁ := false) (d₂ := false) (fd := fd)
    (by rw [duties_send]; exact Finset.mem_singleton_self _) (by rw [duties_recv]; exact Finset.mem_singleton_self _)
    () () (NN i) (by unfold NN; rw [if_pos hlen]) (amount_send m c i false) (amount_recv m (tgt i c) i false) (owedL c l) rfl (W := W)
    (by rw [payload_send, hpay])
    (by
      rw [payload_recv, write_at (tgt i c) (gV ![slotOf i, rowOf i, 0] h1).view fd (XG m (tgt i c)) (src.view.read (Elt F) fs) fullShare fun x => by
        rw [gV_read, hr]
        exact landed m i c (x 0).val (by rw [hlen]; exact (x 0).isLt) (x 1).val (x 1).isLt _]
      unfold recvPay At landBox
      rw [gV_set, hlen])) $$ [Hs Hd Ho Ht1 Ht2]
  · isplitr; · iapply (rec_inv m K (c, some (false, i))) $$ HR
    isplitr; · iapply (rec_inv m K (tgt i c, some (true, i))) $$ HR
    isplitl [Hs]; · iexact Hs
    isplitl [Hd]
    · rw [gV_set]; unfold At landBox; rw [hlen]; iexact Hd
    isplitl [Ho]; · iexact Ho
    isplitl [Ht1]; · iexact Ht1
    isplitr; · iapply (rec_reached m K (c, some (false, i))) $$ HR
    isplitl [Ht2]; · iexact Ht2
    iapply (rec_reached m K (tgt i c, some (true, i))) $$ HR
  iintro ⟨Hc, Ho⟩
  iapply Hk
  isplitl [Hc Hat]
  · isplitl [Hc]; · iexact Hc
    iexact Hat
  iexists W; iexact Ho

/-- Issue of copy `i`, of 512 rows. -/
theorem send512 (c : Dev nD) (i : Fin 10) (l : List (Fin 10)) (n : Dev nD) (hn : n = tgt i c) {src : Memref sig .tc .vmem S512x4096 .fp8e4m3} (p : Fin 3 → ℕ) {h1}
    {sS sR : DmaSem sig} {hsc : (ggV p h1 : Memref sig (Dev.tc n : Thread nD τ).2.kind .vmem S512x4096 .fp8e4m3).view.ref.isScScratch = false} {hsrc : src.view.WordExact} {hdst : (ggV p h1 : Memref sig .tc .vmem S512x4096 .fp8e4m3).view.WordExact}
    {hsem : DmaTarget.Typed .vmem (.dma sR) (.remote (Dev.tc n : Thread nD τ) (ggV p h1 : Memref sig .tc .vmem S512x4096 .fp8e4m3) (.dma sS) hsc)}
    {α : Type} {k : PUnit → Prog (TpuEff nD τ sig (Elt F) Λ₀ .tc) α} {Q : α → sProp 𝕄} {qs : PosShare TreeShare} {fs : src.view.ty.Contents (Elt F)}
    (hS : sS = sendSem i) (hR : sR = recvSem i) (hp : p = ![slotOf i, rowOf i, 0]) (hlen : lenOf i = 512)
    (hpay : sendPay m c i = (src.view.loc (c : Thread nD τ) ↦[src.view.set]{qs} fs))
    (hr : ∀ x : S512x4096.Idx, src.view.read (Elt F) fs x = XQ m (slotDev (tgt i c) (slotOf i)) (xIdx (rowOf i + (x 0).val) (x 1).val)) :
    iprop(Rec m K ∗ Unsent (F := F) c i ∗ sendPay m c i ∗ land (F := F) c i ∗ Ow (F := F) c (i :: l))
      ⊢ iprop((iprop(Sent (F := F) c i ∗ Ow (F := F) c l) -∗ Wp c (k ⟨⟩) Q)
          -∗ Wp c (.op (.enqueueDma src (.remote (Dev.tc n : Thread nD τ) (ggV p h1) (.dma sS) hsc) (.dma sR) hsrc hdst hsem) k) Q) := by
  subst hn hS hR hp
  unfold Unsent Sent Ow land Some
  iintro ⟨#HR, ⟨Ht1, Ht2, Hat⟩, Hs, ⟨%fd, Hd⟩, ⟨%W, Ho⟩⟩ Hk
  ihave Hs := (Entails.of_eq hpay) $$ Hs
  iapply (Rounds.wp_send_pointsTo 𝒱₀ ER (rd m) (c : Thread nD τ) none (κ₁ := K (c, some (false, i))) (κ₂ := K (tgt i c, some (true, i)))
    (c' := (tgt i c : Thread nD τ)) (src := src) (dst := ggV ![slotOf i, rowOf i, 0] h1) (fs := fs) (q := qs)
    (r₁ := 0) (r₂ := 0) (d₁ := false) (d₂ := false) (fd := fd)
    (by rw [duties_send]; exact Finset.mem_singleton_self _) (by rw [duties_recv]; exact Finset.mem_singleton_self _)
    () () (NN i) (by unfold NN; rw [if_neg (by rw [hlen]; decide)]) (amount_send m c i false) (amount_recv m (tgt i c) i false) (owedL c l) rfl (W := W)
    (by rw [payload_send, hpay])
    (by
      rw [payload_recv, write_at (tgt i c) (ggV ![slotOf i, rowOf i, 0] h1).view fd (XG m (tgt i c)) (src.view.read (Elt F) fs) fullShare fun x => by
        rw [ggV_read, hr]
        exact landed m i c (x 0).val (by rw [hlen]; exact (x 0).isLt) (x 1).val (x 1).isLt _]
      unfold recvPay At landBox
      rw [ggV_set, hlen])) $$ [Hs Hd Ho Ht1 Ht2]
  · isplitr; · iapply (rec_inv m K (c, some (false, i))) $$ HR
    isplitr; · iapply (rec_inv m K (tgt i c, some (true, i))) $$ HR
    isplitl [Hs]; · iexact Hs
    isplitl [Hd]
    · rw [ggV_set]; unfold At landBox; rw [hlen]; iexact Hd
    isplitl [Ho]; · iexact Ho
    isplitl [Ht1]; · iexact Ht1
    isplitr; · iapply (rec_reached m K (c, some (false, i))) $$ HR
    isplitl [Ht2]; · iexact Ht2
    iapply (rec_reached m K (tgt i c, some (true, i))) $$ HR
  iintro ⟨Hc, Ho⟩
  iapply Hk
  isplitl [Hc Hat]
  · isplitl [Hc]; · iexact Hc
    iexact Hat
  iexists W; iexact Ho

/-- Issue of a copy of 256 of the device's own quantized rows. -/
theorem send_own256 (c : Dev nD) (i : Fin 10) (l : List (Fin 10)) (n : Dev nD) (o : Fin 2 → ℕ) (p : Fin 3 → ℕ) {h0 h1} {sS sR : DmaSem sig} {hsc hsrc hdst hsem}
    {α : Type} {k : PUnit → Prog (TpuEff nD τ sig (Elt F) Λ₀ .tc) α} {Q : α → sProp 𝕄} (hn : n = tgt i c)
    (hS : sS = sendSem i) (hR : sR = recvSem i) (hp : p = ![slotOf i, rowOf i, 0]) (ho : o = ![rowOf i, 0]) (hlen : lenOf i = 256) (hi : i.val < 6) :
    iprop(Rec m K ∗ Unsent (F := F) c i ∗ sendPay m c i ∗ land (F := F) c i ∗ Ow (F := F) c (i :: l))
      ⊢ iprop((iprop(Sent (F := F) c i ∗ Ow (F := F) c l) -∗ Wp c (k ⟨⟩) Q)
          -∗ Wp c (.op (.enqueueDma (qV o h0) (.remote (Dev.tc n : Thread nD τ) (gV p h1) (.dma sS) hsc) (.dma sR) hsrc hdst hsem) k) Q) :=
  send256 m K c i l n hn p hS hR hp hlen (qs := qA) (fs := XQ m c)
    (by subst ho; unfold sendPay; rw [if_pos hi, hlen, if_pos rfl, qV_set]; rfl)
    (fun x => by rw [qV_read, slotDev_tgt i c hi, ho]; exact congrArg (fun y => XQ m c (xIdx (rowOf i + (x 0).val) y)) (Nat.zero_add _))

/-- Issue of a copy of 512 of the device's own quantized rows. -/
theorem send_own512 (c : Dev nD) (i : Fin 10) (l : List (Fin 10)) (n : Dev nD) (o : Fin 2 → ℕ) (p : Fin 3 → ℕ) {h0 h1} {sS sR : DmaSem sig} {hsc hsrc hdst hsem}
    {α : Type} {k : PUnit → Prog (TpuEff nD τ sig (Elt F) Λ₀ .tc) α} {Q : α → sProp 𝕄} (hn : n = tgt i c)
    (hS : sS = sendSem i) (hR : sR = recvSem i) (hp : p = ![slotOf i, rowOf i, 0]) (ho : o = ![rowOf i, 0]) (hlen : lenOf i = 512) (hi : i.val < 6) :
    iprop(Rec m K ∗ Unsent (F := F) c i ∗ sendPay m c i ∗ land (F := F) c i ∗ Ow (F := F) c (i :: l))
      ⊢ iprop((iprop(Sent (F := F) c i ∗ Ow (F := F) c l) -∗ Wp c (k ⟨⟩) Q)
          -∗ Wp c (.op (.enqueueDma (qqV o h0) (.remote (Dev.tc n : Thread nD τ) (ggV p h1) (.dma sS) hsc) (.dma sR) hsrc hdst hsem) k) Q) :=
  send512 m K c i l n hn p hS hR hp hlen (qs := qB) (fs := XQ m c)
    (by subst ho; unfold sendPay; rw [if_pos hi, hlen, if_neg (by decide), qqV_set]; rfl)
    (fun x => by rw [qqV_read, slotDev_tgt i c hi, ho]; exact congrArg (fun y => XQ m c (xIdx (rowOf i + (x 0).val) y)) (Nat.zero_add _))

/-- Issue of a copy passing 256 gathered rows on. -/
theorem send_fwd (c : Dev nD) (i : Fin 10) (l : List (Fin 10)) (n : Dev nD) (o p : Fin 3 → ℕ) {h0 h1} {sS sR : DmaSem sig} {hsc hsrc hdst hsem}
    {α : Type} {k : PUnit → Prog (TpuEff nD τ sig (Elt F) Λ₀ .tc) α} {Q : α → sProp 𝕄} (hn : n = tgt i c)
    (hS : sS = sendSem i) (hR : sR = recvSem i) (hp : p = ![slotOf i, rowOf i, 0]) (ho : o = ![(if i.val < 8 then 0 else 1), rowOf i, 0]) (hlen : lenOf i = 256) (hi : ¬ i.val < 6) :
    iprop(Rec m K ∗ Unsent (F := F) c i ∗ sendPay m c i ∗ land (F := F) c i ∗ Ow (F := F) c (i :: l))
      ⊢ iprop((iprop(Sent (F := F) c i ∗ Ow (F := F) c l) -∗ Wp c (k ⟨⟩) Q)
          -∗ Wp c (.op (.enqueueDma (gV o h0) (.remote (Dev.tc n : Thread nD τ) (gV p h1) (.dma sS) hsc) (.dma sR) hsrc hdst hsem) k) Q) :=
  send256 m K c i l n hn p hS hR hp hlen (qs := fullShare.left) (fs := XG m c)
    (by subst ho; unfold sendPay; rw [if_neg hi, hlen, gV_set]; rfl)
    (fun x => by
      rw [gV_read, slotDev_fwd i c hi, ho]
      exact XG_at m c (if i.val < 8 then 0 else 1) (rowOf i) (by split <;> decide) (x 0).val
        (by have := row_len i; have h : (x 0).val < 256 := (x 0).isLt; omega) (x 1).val (x 1).isLt _ rfl rfl (Nat.zero_add _))

/-! ## The waits -/

/-- The wait for copy `i` into the device: its rows, and its semaphore at zero. -/
theorem wait_recv (c : Dev nD) (i : Fin 10) (l : List (Fin 10)) {sp sp' : Space} {s s' : Shape} {e e' : EltTy} {srcw : Memref sig .tc sp' s' e'} {dstw : Memref sig .tc sp s e}
    {hsrc : srcw.view.WordExact} {hdst : dstw.view.WordExact} {q' : DmaSem sig} {α : Type}
    {k : PUnit → Prog (TpuEff nD τ sig (Elt F) Λ₀ .tc) α} {Q : α → sProp 𝕄}
    (hq : q' = recvSem i) (hN : dstw.view.dmaCredit = NN i) (hl : ∀ j ∈ l, lvS (.dma (recvSem i)) < lvS (.dma (recvSem j))) :
    iprop(Rec m K ∗ Await (F := F) c i ∗ Ow (F := F) c l)
      ⊢ iprop((iprop(recvPay m c i ∗ Zr (F := F) c i ∗ Ow (F := F) c l) -∗ Wp c (k ⟨⟩) Q)
          -∗ Wp c (.op (.waitDma2 q' srcw dstw hsrc hdst) k) Q) := by
  subst hq
  unfold Await Ow Zr
  iintro ⟨#HR, ⟨Hc, Hat⟩, ⟨%W, Ho⟩⟩ Hk
  ihave Hc := (Entails.of_eq (congrArg (fun n => (cred (tallyAt (recvCell c i) () n) : sProp 𝕄)) hN.symm)) $$ Hc
  iapply (Rounds.wp_wait_rest_token 𝒱₀ ER (rd m) (c : Thread nD τ) none (κ := K (c, some (true, i)))
      (wpE_waitDma2_eq 𝒱₀ (c : Thread nD τ) none Set.univ) (Set.mem_univ _) () (O := owedL c l) (W := W) (R := 0) (m := 0) (T := ∅)
      (by rw [Nat.zero_add, expect_recv]; exact hN)) $$ [Hc Ho Hat]
  · isplitr; · iapply (rec_inv m K (c, some (true, i))) $$ HR
    isplitl [Hc]; · iexact Hc
    isplitl [Ho]; · iexact Ho
    isplitr
    · ihave Hl := (rec_lev m K) $$ HR
      iapply (mayWait c _ l hl) $$ Hl
    iexact Hat
  iintro ⟨Ho, Hat, -, Hpay⟩
  ihave Hp := (Entails.of_eq (rest_recv m c i)) $$ Hpay
  imod (Rounds.cell_close ER (rd m) (Set.mem_univ (K (c, some (true, i)))) (fun h => h) (R := 0 + 1) (duties_later m (recvCell c i))) $$ [Hat] with Hz
  · isplitr; · iapply (rec_inv m K (c, some (true, i))) $$ HR
    iexact Hat
  iapply Hk
  isplitl [Hp]; · iexact Hp
  isplitl [Hz]; · iexact Hz
  iexists _; iexact Ho

/-- The wait for copy `i` from the device: what was lent, and its semaphore at zero. -/
theorem wait_send (c : Dev nD) (i : Fin 10) (l : List (Fin 10)) {sp sp' : Space} {s s' : Shape} {e e' : EltTy} {srcw : Memref sig .tc sp' s' e'} {dstw : Memref sig .tc sp s e}
    {hsrc : srcw.view.WordExact} {hdst : dstw.view.WordExact} {q' : DmaSem sig} {α : Type}
    {k : PUnit → Prog (TpuEff nD τ sig (Elt F) Λ₀ .tc) α} {Q : α → sProp 𝕄}
    (hq : q' = sendSem i) (hN : dstw.view.dmaCredit = NN i) (hl : ∀ j ∈ l, lvS (.dma (sendSem i)) < lvS (.dma (recvSem j))) :
    iprop(Rec m K ∗ Sent (F := F) c i ∗ Ow (F := F) c l)
      ⊢ iprop((iprop(sendPay m c i ∗ Zs (F := F) c i ∗ Ow (F := F) c l) -∗ Wp c (k ⟨⟩) Q)
          -∗ Wp c (.op (.waitDma2 q' srcw dstw hsrc hdst) k) Q) := by
  subst hq
  unfold Sent Ow Zs
  iintro ⟨#HR, ⟨Hc, Hat⟩, ⟨%W, Ho⟩⟩ Hk
  ihave Hc := (Entails.of_eq (congrArg (fun n => (cred (tallyAt (sendCell c i) () n) : sProp 𝕄)) hN.symm)) $$ Hc
  iapply (Rounds.wp_wait_rest_token 𝒱₀ ER (rd m) (c : Thread nD τ) none (κ := K (c, some (false, i)))
      (wpE_waitDma2_eq 𝒱₀ (c : Thread nD τ) none Set.univ) (Set.mem_univ _) () (O := owedL c l) (W := W) (R := 0) (m := 0) (T := ∅)
      (by rw [Nat.zero_add, expect_send]; exact hN)) $$ [Hc Ho Hat]
  · isplitr; · iapply (rec_inv m K (c, some (false, i))) $$ HR
    isplitl [Hc]; · iexact Hc
    isplitl [Ho]; · iexact Ho
    isplitr
    · ihave Hl := (rec_lev m K) $$ HR
      iapply (mayWait c _ l hl) $$ Hl
    iexact Hat
  iintro ⟨Ho, Hat, -, Hpay⟩
  ihave Hp := (Entails.of_eq (rest_send m c i)) $$ Hpay
  imod (Rounds.cell_close ER (rd m) (Set.mem_univ (K (c, some (false, i)))) (fun h => h) (R := 0 + 1) (duties_later m (sendCell c i))) $$ [Hat] with Hz
  · isplitr; · iapply (rec_inv m K (c, some (false, i))) $$ HR
    iexact Hat
  iapply Hk
  isplitl [Hp]; · iexact Hp
  isplitl [Hz]; · iexact Hz
  iexists _; iexact Ho

/-! ## The barrier -/

/-- What the device owes before its first signal, and between its two. -/
def Ow2 (c : Dev nD) : sProp 𝕄 := iprop(∃ W, owes (c : Thread nD τ) (O₀ c) W)
def Ow1 (c : Dev nD) : sProp 𝕄 := iprop(∃ W, owes (c : Thread nD τ) (O₁ c) W)

/-- The landing place of copy `i` on the device itself. -/
def Place (c : Dev nD) (i : Fin 10) : sProp 𝕄 := Some (F := F) c cc0_scratch2 (landBox i)

theorem land_place (i : Fin 10) (c d : Dev nD) (h : tgt i c = d) : land (F := F) c i = Place d i := by unfold land Place; rw [h]

theorem tgt_lft : ∀ c : Dev nD, tgt 0 (lft c) = c ∧ tgt 1 (lft c) = c ∧ tgt 2 (lft c) = c ∧ tgt 6 (lft c) = c ∧ tgt 7 (lft c) = c := by decide
theorem tgt_rgt : ∀ c : Dev nD, tgt 3 (rgt c) = c ∧ tgt 4 (rgt c) = c ∧ tgt 5 (rgt c) = c ∧ tgt 8 (rgt c) = c ∧ tgt 9 (rgt c) = c := by decide

theorem bar_left (c : Dev nD) : barPay (F := F) (lft c) true = iprop(Place (F := F) c 0 ∗ Place (F := F) c 1 ∗ Place (F := F) c 2 ∗ Place (F := F) c 6 ∗ Place (F := F) c 7) := by
  obtain ⟨h0, h1, h2, h3, h4⟩ := tgt_lft c
  unfold barPay
  rw [if_pos rfl, land_place 0 _ _ h0, land_place 1 _ _ h1, land_place 2 _ _ h2, land_place 6 _ _ h3, land_place 7 _ _ h4]
theorem bar_right (c : Dev nD) : barPay (F := F) (rgt c) false = iprop(Place (F := F) c 3 ∗ Place (F := F) c 4 ∗ Place (F := F) c 5 ∗ Place (F := F) c 8 ∗ Place (F := F) c 9) := by
  obtain ⟨h0, h1, h2, h3, h4⟩ := tgt_rgt c
  unfold barPay
  rw [if_neg (by decide), land_place 3 _ _ h0, land_place 4 _ _ h1, land_place 5 _ _ h2, land_place 8 _ _ h3, land_place 9 _ _ h4]

/-- The signal to the left neighbour: the landing places of what comes from there. -/
theorem signal_left (c n : Dev nD) {α : Type} {k : PUnit → Prog (TpuEff nD τ sig (Elt F) Λ₀ .tc) α} {Q : α → sProp 𝕄} (hn : n = lft c) :
    iprop(Rec m K ∗ Ow2 (F := F) c ∗ dutyTok ER (barCell (lft c)) 0 true
        ∗ iprop(Place (F := F) c 0 ∗ Place (F := F) c 1 ∗ Place (F := F) c 2 ∗ Place (F := F) c 6 ∗ Place (F := F) c 7))
      ⊢ iprop((Ow1 (F := F) c -∗ Wp c (k ⟨⟩) Q) -∗ Wp c (.op (.semSignal (n, .tc) barS (1#32 : BitVec 32).toInt) k) Q) := by
  subst hn
  unfold Ow2 Ow1
  rw [← bar_left]
  iintro ⟨#HR, ⟨%W, Ho⟩, Ht, Hp⟩ Hk
  iapply (Rounds.wp_signal 𝒱₀ ER (rd m) (c : Thread nD τ) none (dst := (lft c : Thread nD τ)) (κ := K (lft c, none))
      (d := true) (by rw [duties_bar]; exact Finset.mem_univ _) ((amount_bar m (lft c) true).trans (by decide)) () (O₁ c) rfl) $$ [Ho Ht Hp]
  · isplitr; · iapply (rec_inv m K (lft c, none)) $$ HR
    isplitl [Ho]; · iexact Ho
    isplitl [Ht]; · iexact Ht
    isplitl [Hp]; · rw [payload_bar]; iexact Hp
    iapply (rec_reached m K (lft c, none)) $$ HR
  iintro Ho
  iapply Hk
  iexists W; iexact Ho

/-- The signal to the right neighbour. -/
theorem signal_right (c n : Dev nD) {α : Type} {k : PUnit → Prog (TpuEff nD τ sig (Elt F) Λ₀ .tc) α} {Q : α → sProp 𝕄} (hn : n = rgt c) :
    iprop(Rec m K ∗ Ow1 (F := F) c ∗ dutyTok ER (barCell (rgt c)) 0 false
        ∗ iprop(Place (F := F) c 3 ∗ Place (F := F) c 4 ∗ Place (F := F) c 5 ∗ Place (F := F) c 8 ∗ Place (F := F) c 9))
      ⊢ iprop((Ow (F := F) c sends -∗ Wp c (k ⟨⟩) Q) -∗ Wp c (.op (.semSignal (n, .tc) barS (1#32 : BitVec 32).toInt) k) Q) := by
  subst hn
  unfold Ow1 Ow
  rw [← bar_right]
  iintro ⟨#HR, ⟨%W, Ho⟩, Ht, Hp⟩ Hk
  iapply (Rounds.wp_signal 𝒱₀ ER (rd m) (c : Thread nD τ) none (dst := (rgt c : Thread nD τ)) (κ := K (rgt c, none))
      (d := false) (by rw [duties_bar]; exact Finset.mem_univ _) ((amount_bar m (rgt c) false).trans (by decide)) () (owedL c sends) rfl) $$ [Ho Ht Hp]
  · isplitr; · iapply (rec_inv m K (rgt c, none)) $$ HR
    isplitl [Ho]; · iexact Ho
    isplitl [Ht]; · iexact Ht
    isplitl [Hp]; · rw [payload_bar]; iexact Hp
    iapply (rec_reached m K (rgt c, none)) $$ HR
  iintro Ho
  iapply Hk
  iexists W; iexact Ho

/-- What the device holds of its barrier cell. -/
def AwaitBar (c : Dev nD) : sProp 𝕄 := iprop(cred (tallyAt (barCell c) () 2) ∗ atPos ER (barCell c) 0 ∅ 0)

theorem lvS_bar : ∀ j ∈ sends, lvS (.reg barS) < lvS (.dma (recvSem j)) := by decide

/-- The barrier wait: the landing places on both neighbours. -/
theorem wait_bar (c : Dev nD) {α : Type} {k : PUnit → Prog (TpuEff nD τ sig (Elt F) Λ₀ .tc) α} {Q : α → sProp 𝕄} :
    iprop(Rec m K ∗ AwaitBar (F := F) c ∗ Ow (F := F) c sends)
      ⊢ iprop((iprop(barPay (F := F) c false ∗ barPay (F := F) c true ∗ semVal (barCell c) 0 ∗ Ow (F := F) c sends) -∗ Wp c (k ⟨⟩) Q)
          -∗ Wp c (.op (.semWait barS (2#32 : BitVec 32).toInt) k) Q) := by
  unfold AwaitBar Ow
  iintro ⟨#HR, ⟨Hc, Hat⟩, ⟨%W, Ho⟩⟩ Hk
  iapply (Rounds.wp_wait_rest_token 𝒱₀ ER (rd m) (c : Thread nD τ) none (κ := K (c, none))
      (wpE_semWait_eq 𝒱₀ (c : Thread nD τ) none Set.univ) (Set.mem_univ _) () (O := owedL c sends) (W := W) (R := 0) (m := 0) (T := ∅)
      (by rw [expect_bar]; decide)) $$ [Hc Ho Hat]
  · isplitr; · iapply (rec_inv m K (c, none)) $$ HR
    isplitl [Hc]; · iexact Hc
    isplitl [Ho]; · iexact Ho
    isplitr
    · ihave Hl := (rec_lev m K) $$ HR
      iapply (mayWait c _ sends lvS_bar) $$ Hl
    iexact Hat
  iintro ⟨Ho, Hat, -, Hpay⟩
  ihave Hp := (Entails.of_eq (rest_bar m c)) $$ Hpay
  icases Hp with ⟨Hf, Ht⟩
  imod (Rounds.cell_close ER (rd m) (Set.mem_univ (K (c, none))) (fun h => h) (R := 0 + 1) (duties_later m (barCell c))) $$ [Hat] with Hz
  · isplitr; · iapply (rec_inv m K (c, none)) $$ HR
    iexact Hat
  iapply Hk
  isplitl [Hf]; · iexact Hf
  isplitl [Ht]; · iexact Ht
  isplitl [Hz]; · iexact Hz
  iexists _; iexact Ho

end

end Cert.RunKernelIdeal

end
-- ==== Proof.RunKernelIdeal.Pieces.lean ====
/-
The pieces of the buffers the program works on, how they are cut and put back together, and their short names.
-/
module

public import proofs.«01_k».proof.Proof.RunKernelIdeal.Remote

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Boxes beside each other -/

section Boxes

theorem mem_box2 {D : Fin 2 → ℕ} {o z : Fin 2 → ℕ} {i : (⟨2, D⟩ : Shape).Idx} :
    i ∈ box (s := ⟨2, D⟩) o z ↔ (o 0 ≤ (i 0).val ∧ (i 0).val < o 0 + z 0) ∧ (o 1 ≤ (i 1).val ∧ (i 1).val < o 1 + z 1) := by
  rw [mem_box]; exact Fin.forall_fin_two
theorem mem_box3 {D : Fin 3 → ℕ} {o z : Fin 3 → ℕ} {i : (⟨3, D⟩ : Shape).Idx} :
    i ∈ box (s := ⟨3, D⟩) o z ↔ (o 0 ≤ (i 0).val ∧ (i 0).val < o 0 + z 0) ∧ (o 1 ≤ (i 1).val ∧ (i 1).val < o 1 + z 1)
      ∧ (o 2 ≤ (i 2).val ∧ (i 2).val < o 2 + z 2) := by
  rw [mem_box]; exact ⟨fun h => ⟨h 0, h 1, h 2⟩, fun h a => by fin_cases a; exacts [h.1, h.2.1, h.2.2]⟩

/-- `S` and `T` make up `U` and have nothing in common. -/
def Cuts {s : Shape} (S T U : Finset s.Idx) : Prop := Disjoint S T ∧ S ∪ T = U

/-- Rows `r` to `r + n` and the `n'` rows after them. -/
theorem cut2 {D : Fin 2 → ℕ} (r n n' w R N : ℕ) (hR : R = r + n) (hN : N = n + n') :
    Cuts (box (s := ⟨2, D⟩) ![r, 0] ![n, w]) (box (s := ⟨2, D⟩) ![R, 0] ![n', w]) (box (s := ⟨2, D⟩) ![r, 0] ![N, w]) := by
  subst hR hN
  constructor
  · rw [Finset.disjoint_left]; intro i hi hj
    rw [mem_box2] at hi hj
    have h1 : (i 0).val < r + n := hi.1.2
    have h2 : r + n ≤ (i 0).val := hj.1.1
    omega
  · ext i; rw [Finset.mem_union, mem_box2, mem_box2, mem_box2]
    show ((r ≤ (i 0).val ∧ (i 0).val < r + n) ∧ (0 ≤ (i 1).val ∧ (i 1).val < 0 + w)) ∨ ((r + n ≤ (i 0).val ∧ (i 0).val < r + n + n') ∧ (0 ≤ (i 1).val ∧ (i 1).val < 0 + w))
      ↔ ((r ≤ (i 0).val ∧ (i 0).val < r + (n + n')) ∧ (0 ≤ (i 1).val ∧ (i 1).val < 0 + w))
    omega

/-- The same within slot `t`. -/
theorem cut3 {D : Fin 3 → ℕ} (t r n n' w R N : ℕ) (hR : R = r + n) (hN : N = n + n') :
    Cuts (box (s := ⟨3, D⟩) ![t, r, 0] ![1, n, w]) (box (s := ⟨3, D⟩) ![t, R, 0] ![1, n', w]) (box (s := ⟨3, D⟩) ![t, r, 0] ![1, N, w]) := by
  subst hR hN
  constructor
  · rw [Finset.disjoint_left]; intro i hi hj
    rw [mem_box3] at hi hj
    have h1 : (i 1).val < r + n := hi.2.1.2
    have h2 : r + n ≤ (i 1).val := hj.2.1.1
    omega
  · ext i; rw [Finset.mem_union, mem_box3, mem_box3, mem_box3]
    show ((t ≤ (i 0).val ∧ (i 0).val < t + 1) ∧ (r ≤ (i 1).val ∧ (i 1).val < r + n) ∧ (0 ≤ (i 2).val ∧ (i 2).val < 0 + w))
        ∨ ((t ≤ (i 0).val ∧ (i 0).val < t + 1) ∧ (r + n ≤ (i 1).val ∧ (i 1).val < r + n + n') ∧ (0 ≤ (i 2).val ∧ (i 2).val < 0 + w))
      ↔ ((t ≤ (i 0).val ∧ (i 0).val < t + 1) ∧ (r ≤ (i 1).val ∧ (i 1).val < r + (n + n')) ∧ (0 ≤ (i 2).val ∧ (i 2).val < 0 + w))
    omega

/-- The first `t` slots and the one after them. -/
theorem cutT {D : Fin 3 → ℕ} (t n w t' : ℕ) (ht : t' = t + 1) :
    Cuts (box (s := ⟨3, D⟩) ![0, 0, 0] ![t, n, w]) (box (s := ⟨3, D⟩) ![t, 0, 0] ![1, n, w]) (box (s := ⟨3, D⟩) ![0, 0, 0] ![t', n, w]) := by
  subst ht
  constructor
  · rw [Finset.disjoint_left]; intro i hi hj
    rw [mem_box3] at hi hj
    have h1 : (i 0).val < 0 + t := hi.1.2
    have h2 : t ≤ (i 0).val := hj.1.1
    omega
  · ext i; rw [Finset.mem_union, mem_box3, mem_box3, mem_box3]
    show ((0 ≤ (i 0).val ∧ (i 0).val < 0 + t) ∧ (0 ≤ (i 1).val ∧ (i 1).val < 0 + n) ∧ (0 ≤ (i 2).val ∧ (i 2).val < 0 + w))
        ∨ ((t ≤ (i 0).val ∧ (i 0).val < t + 1) ∧ (0 ≤ (i 1).val ∧ (i 1).val < 0 + n) ∧ (0 ≤ (i 2).val ∧ (i 2).val < 0 + w))
      ↔ ((0 ≤ (i 0).val ∧ (i 0).val < 0 + (t + 1)) ∧ (0 ≤ (i 1).val ∧ (i 1).val < 0 + n) ∧ (0 ≤ (i 2).val ∧ (i 2).val < 0 + w))
    omega

/-- The box of the whole shape is everything. -/
theorem box_univ {s : Shape} (o : Fin s.rank → ℕ) (ho : ∀ a, o a = 0) : box o s.size = (Finset.univ : Finset s.Idx) := by
  ext i; rw [mem_box]
  exact ⟨fun _ => Finset.mem_univ i, fun _ a => ⟨by rw [ho a]; exact Nat.zero_le _, by rw [ho a, Nat.zero_add]; exact (i a).isLt⟩⟩

end Boxes

/-! ## Cutting and joining held pieces -/

section Cut
omit [FloatOps F]
variable {c : Dev nD} {b : Ref sig .tc} {S T U : Finset b.ty.shape.Idx} {q : PosShare TreeShare} {f : b.ty.Contents (Elt F)}

theorem At_cut (h : Cuts S T U) : (At c b U q f : sProp 𝕄) ⊢ iprop(At c b S q f ∗ At c b T q f) := by
  obtain ⟨hd, rfl⟩ := h; exact (pointsTo_union hd).1
theorem At_glue (h : Cuts S T U) : iprop(At c b S q f ∗ At c b T q f) ⊢ (At c b U q f : sProp 𝕄) := by
  obtain ⟨hd, rfl⟩ := h; exact (pointsTo_union hd).2
theorem Some_cut (h : Cuts S T U) : (Some c b U : sProp 𝕄) ⊢ iprop(Some c b S ∗ Some c b T) := by
  unfold Some
  iintro ⟨%f, H⟩
  ihave H := (At_cut h) $$ H
  icases H with ⟨H1, H2⟩
  isplitl [H1]
  · iexists f; iexact H1
  · iexists f; iexact H2
theorem Some_glue (h : Cuts S T U) : iprop(Some c b S ∗ Some c b T) ⊢ (Some c b U : sProp 𝕄) := by
  obtain ⟨hd, rfl⟩ := h
  unfold Some
  iintro ⟨⟨%f, H1⟩, ⟨%g, H2⟩⟩
  iexists (T.piecewise g f)
  iapply (show iprop(At c b S fullShare f ∗ At c b T fullShare g) ⊢ (At c b (S ∪ T) fullShare (T.piecewise g f) : sProp 𝕄) from pointsTo_join hd) $$ [H1 H2]
  isplitl [H1]
  · iexact H1
  · iexact H2
theorem At_some : (At c b S fullShare f : sProp 𝕄) ⊢ Some c b S := by
  unfold Some; iintro H; iexists f; iexact H
/-- A share and its two halves. -/
theorem At_halve (q : PosShare TreeShare) : (At c b S q f : sProp 𝕄) ⊢ iprop(At c b S q.left f ∗ At c b S q.right f) :=
  (pointsTo_share (PosShare.mem_left_op_right q)).1
theorem At_unhalve (q : PosShare TreeShare) : iprop(At c b S q.left f ∗ At c b S q.right f) ⊢ (At c b S q f : sProp 𝕄) :=
  (pointsTo_share (PosShare.mem_left_op_right q)).2
end Cut

/-! ## The pieces the program works on -/

section Names
variable (c : Dev nD)

/-- A local semaphore of device `c`, at zero. -/
abbrev Z (q : DmaSem sig) : sProp 𝕄 := semVal ((c : Thread nD τ), .dma q) 0
/-- 256 of the device's rows of `x`. -/
abbrev PX (b : ℕ) : sProp 𝕄 := At c main_arg0 (box (s := S1024x4096) ![b, 0] S256x4096.size) fullShare (X m c)
/-- A share of `w`. -/
abbrev PW (q : PosShare TreeShare) : sProp 𝕄 := At c main_arg1 Finset.univ q (W m c)
/-- A place for 256 rows in the staging buffer of the rows; filled. -/
abbrev PXS (t r : ℕ) : sProp 𝕄 := Some (F := F) c cc0_scratch0 (box (s := S2x512x4096) ![t, r, 0] S1x256x4096.size)
abbrev FXS (t r : ℕ) : sProp 𝕄 := At c cc0_scratch0 (box (s := S2x512x4096) ![t, r, 0] S1x256x4096.size) fullShare (XS m c)
/-- A place for a chunk of columns; filled with chunk `j`. -/
abbrev PWS (t : ℕ) : sProp 𝕄 := Some (F := F) c cc0_scratch4 (box (s := S2x4096x256) ![t, 0, 0] S1x4096x256.size)
abbrev FWS (t j : ℕ) : sProp 𝕄 := At c cc0_scratch4 (box (s := S2x4096x256) ![t, 0, 0] S1x4096x256.size) fullShare (WS m c j)
/-- A place for 256 quantized rows; filled; 512 of them. -/
abbrev PQ (b : ℕ) : sProp 𝕄 := Some (F := F) c cc0_scratch1 (box (s := S1024x4096) ![b, 0] S256x4096.size)
abbrev FQ (b : ℕ) (q : PosShare TreeShare) : sProp 𝕄 := At c cc0_scratch1 (box (s := S1024x4096) ![b, 0] S256x4096.size) q (XQ m c)
abbrev FQQ (b : ℕ) (q : PosShare TreeShare) : sProp 𝕄 := At c cc0_scratch1 (box (s := S1024x4096) ![b, 0] S512x4096.size) q (XQ m c)
/-- Gathered rows. -/
abbrev FG (t r : ℕ) (q : PosShare TreeShare) : sProp 𝕄 := At c cc0_scratch2 (box (s := S3x1024x4096) ![t, r, 0] S1x256x4096.size) q (XG m c)
abbrev FGG (t r : ℕ) (q : PosShare TreeShare) : sProp 𝕄 := At c cc0_scratch2 (box (s := S3x1024x4096) ![t, r, 0] S1x512x4096.size) q (XG m c)
/-- All of the quantized columns. -/
abbrev FWQ : sProp 𝕄 := At c cc0_scratch3 Finset.univ fullShare (WQ m c)
/-- A place for a block of the result in the staging buffer; filled. -/
abbrev POO (t r : ℕ) : sProp 𝕄 := Some (F := F) c cc0_scratch5 (box (s := S2x512x2048) ![t, r, 0] S1x512x2048.size)
abbrev PO (t r : ℕ) : sProp 𝕄 := Some (F := F) c cc0_scratch5 (box (s := S2x512x2048) ![t, r, 0] S1x256x2048.size)
abbrev FOO (t : ℕ) (d : Dev nD) (b : ℕ) : sProp 𝕄 := At c cc0_scratch5 (box (s := S2x512x2048) ![t, 0, 0] S1x512x2048.size) fullShare (os512 (blk512 (scale m c) (rows512 m d b) (WQ m c)))
abbrev FO (t : ℕ) (d : Dev nD) (b : ℕ) : sProp 𝕄 := At c cc0_scratch5 (box (s := S2x512x2048) ![t, 0, 0] S1x256x2048.size) fullShare (os256 (blk256 (scale m c) (rows256 m d b) (WQ m c)))
/-- Rows of the result: unwritten; written. -/
abbrev PR5 (d : Dev nD) (b : ℕ) : sProp 𝕄 := Some (F := F) c main_v1 (box (s := S4096x2048) ![1024 * d.val + b, 0] S512x2048.size)
abbrev PR2 (d : Dev nD) (b : ℕ) : sProp 𝕄 := Some (F := F) c main_v1 (box (s := S4096x2048) ![1024 * d.val + b, 0] S256x2048.size)
abbrev FR5 (d : Dev nD) (b : ℕ) : sProp 𝕄 := At c main_v1 (box (s := S4096x2048) ![1024 * d.val + b, 0] S512x2048.size) fullShare (OUT m c)
abbrev FR2 (d : Dev nD) (b : ℕ) : sProp 𝕄 := At c main_v1 (box (s := S4096x2048) ![1024 * d.val + b, 0] S256x2048.size) fullShare (OUT m c)

/-- A stored quarter of the quantized rows: what copy `i` borrows, and the rest of the share. -/
theorem open_q (i : Fin 10) (b : ℕ) (h : sendPay m c i = FQ m c b qA) : FQ m c b fullShare ⊢ iprop(sendPay m c i ∗ FQ m c b fullShare.right) := by
  rw [h]; exact At_halve _
/-- Two quarters, less what was borrowed: what copy `i` of the half borrows, and what the loads use. -/
theorem open_qq (i : Fin 10) (b b' : ℕ) (hb : b' = b + 256) (h : sendPay m c i = FQQ m c b qB) :
    iprop(FQ m c b fullShare.right ∗ FQ m c b' fullShare.right) ⊢ iprop(sendPay m c i ∗ FQQ m c b qC) := by
  rw [h]; exact (At_glue (cut2 b 256 256 4096 b' 512 hb rfl)).trans (At_halve _)
/-- A received piece: what the copy `j` that passes it on borrows, and what the loads use. -/
theorem open_g (i j : Fin 10) (t r : ℕ) (h : recvPay m c i = FG m c t r fullShare) (h' : sendPay m c j = FG m c t r fullShare.left) :
    recvPay m c i ⊢ iprop(sendPay m c j ∗ FG m c t r fullShare.right) := by
  rw [h, h']; exact At_halve _
theorem glue_g (t r r' : ℕ) (q : PosShare TreeShare) (hr : r' = r + 256) : iprop(FG m c t r q ∗ FG m c t r' q) ⊢ FGG m c t r q :=
  At_glue (cut3 t r 256 256 4096 r' 512 hr rfl)
theorem cut_o (t : ℕ) : POO (F := F) c t 0 ⊢ iprop(PO (F := F) c t 0 ∗ PO (F := F) c t 256) := Some_cut (cut3 t 0 256 256 2048 256 512 rfl rfl)
theorem glue_o (t : ℕ) : iprop(PO (F := F) c t 0 ∗ PO (F := F) c t 256) ⊢ POO (F := F) c t 0 := Some_glue (cut3 t 0 256 256 2048 256 512 rfl rfl)

theorem open_true : barPay (F := F) c true = iprop(land (F := F) c 0 ∗ land (F := F) c 1 ∗ land (F := F) c 2 ∗ land (F := F) c 6 ∗ land (F := F) c 7) := if_pos rfl
theorem open_false : barPay (F := F) c false = iprop(land (F := F) c 3 ∗ land (F := F) c 4 ∗ land (F := F) c 5 ∗ land (F := F) c 8 ∗ land (F := F) c 9) := if_neg Bool.false_ne_true

/-- Reading a block of 512 gathered rows of device `d`. -/
theorem load_gg {α : Type} (d : Dev nD) (S : Finset S3x1024x4096.Idx) (q : PosShare TreeShare) (t b : ℕ) {h hl} {Q : α → sProp 𝕄} {k : Vec F S1x512x4096 .fp8e4m3 → Prog (TpuEff nD τ sig (Elt F) Λ₀ .tc) α}
    (hd : slotDev c t = d) (hS : box (s := S3x1024x4096) ![t, b, 0] S1x512x4096.size ⊆ S) :
    At c cc0_scratch2 S q (XG m c)
      ⊢ iprop((At c cc0_scratch2 S q (XG m c) -∗ Wp c (k (grows512 m d b)) Q)
          -∗ Wp c (.op (.load (Memref.whole cc0_scratch2) (Rect.unit (s := S3x1024x4096) ![t, b, 0] S1x512x4096.size h).toLoadRect hl) k) Q) := by
  subst hd; exact load_g512 m c S q t b hS
/-- Reading a block of 256. -/
theorem load_g {α : Type} (d : Dev nD) (S : Finset S3x1024x4096.Idx) (q : PosShare TreeShare) (t b : ℕ) {h hl} {Q : α → sProp 𝕄} {k : Vec F S1x256x4096 .fp8e4m3 → Prog (TpuEff nD τ sig (Elt F) Λ₀ .tc) α}
    (hd : slotDev c t = d) (hS : box (s := S3x1024x4096) ![t, b, 0] S1x256x4096.size ⊆ S) :
    At c cc0_scratch2 S q (XG m c)
      ⊢ iprop((At c cc0_scratch2 S q (XG m c) -∗ Wp c (k (grows256 m d b)) Q)
          -∗ Wp c (.op (.load (Memref.whole cc0_scratch2) (Rect.unit (s := S3x1024x4096) ![t, b, 0] S1x256x4096.size h).toLoadRect hl) k) Q) := by
  subst hd; exact load_g256 m c S q t b hS

/-- The two scales, staged in scalar memory. -/
abbrev PSX : sProp 𝕄 := At c cc0_stg0_0 Finset.univ fullShare (SX m c)
abbrev PSW : sProp 𝕄 := At c cc0_stg1_0 Finset.univ fullShare (SW m c)

end Names

end Cert.RunKernelIdeal

end
-- ==== Proof.RunKernelIdeal.Facts.lean ====
/-
The devices and offsets the program computes, and the reads of the two scales.
-/
module

public import proofs.«01_k».proof.Proof.RunKernelIdeal.Pieces

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Devices and offsets the program computes -/

section Facts
variable (c : Dev nD)
theorem dev1_eq : (⟨k0_dev1 c, k0_dev1_lt c⟩ : Dev nD) = lft c := by revert c; decide
theorem dev2_eq : (⟨k0_dev2 c, k0_dev2_lt c⟩ : Dev nD) = rgt c := by revert c; decide
theorem dev3_eq : (⟨k0_dev3 c, k0_dev3_lt c⟩ : Dev nD) = tgt 0 c := by revert c; decide
theorem dev4_eq : (⟨k0_dev4 c, k0_dev4_lt c⟩ : Dev nD) = tgt 3 c := by revert c; decide
theorem dev5_eq : (⟨k0_dev5 c, k0_dev5_lt c⟩ : Dev nD) = tgt 1 c := by revert c; decide
theorem dev6_eq : (⟨k0_dev6 c, k0_dev6_lt c⟩ : Dev nD) = tgt 4 c := by revert c; decide
theorem dev7_eq : (⟨k0_dev7 c, k0_dev7_lt c⟩ : Dev nD) = tgt 2 c := by revert c; decide
theorem dev8_eq : (⟨k0_dev8 c, k0_dev8_lt c⟩ : Dev nD) = tgt 5 c := by revert c; decide
theorem dev9_eq : (⟨k0_dev9 c, k0_dev9_lt c⟩ : Dev nD) = tgt 6 c := by revert c; decide
theorem dev10_eq : (⟨k0_dev10 c, k0_dev10_lt c⟩ : Dev nD) = tgt 7 c := by revert c; decide
theorem dev11_eq : (⟨k0_dev11 c, k0_dev11_lt c⟩ : Dev nD) = tgt 8 c := by revert c; decide
theorem dev12_eq : (⟨k0_dev12 c, k0_dev12_lt c⟩ : Dev nD) = tgt 9 c := by revert c; decide
theorem off2_eq : k0_off2 c = ![1024 * c.val + 0, 0] := by revert c; decide
theorem off3_eq : k0_off3 c = ![1024 * c.val + 512, 0] := by revert c; decide
theorem off4_eq : k0_off4 c = ![1024 * (lft c).val + 0, 0] := by revert c; decide
theorem off5_eq : k0_off5 c = ![1024 * (rgt c).val + 512, 0] := by revert c; decide
theorem off6_eq : k0_off6 c = ![1024 * (lft c).val + 512, 0] := by revert c; decide
theorem off7_eq : k0_off7 c = ![1024 * (rgt c).val + 0, 0] := by revert c; decide
theorem off8_eq (r : Fin 4) : k0_off8 c (BitVec.ofNat 32 (256 * r.val)) = ![1024 * (opp c).val + 256 * r.val, 0] := by revert c r; decide
theorem ne_opp : c ≠ opp c := by revert c; decide
theorem lft_ne_opp : lft c ≠ opp c := by revert c; decide
theorem rgt_ne_opp : rgt c ≠ opp c := by revert c; decide

/-- The two scales. -/
def sxv : F .f32 := SX m c (wrap S1 (by decide) ![0])
def swv : F .f32 := SW m c (wrap S1 (by decide) ![0])
theorem pay16_eq : k0_pay16 (sxv m c) (swv m c) = scale m c := rfl
theorem pay17_scale (d : Dev nD) (b : ℕ) (w : FVec F S4096x2048 .fp8e5m2) :
    k0_pay17 (sxv m c) (swv m c) (rows512 m d b) w = blk512 (scale m c) (rows512 m d b) w := rfl

/-- Reading the two scales. -/
theorem read_sx {α : Type} {h hl} {Q : α → sProp 𝕄} {k : Vec F S1 .f32 → Prog (TpuEff nD τ sig (Elt F) Λ₀ .tc) α} :
    PSX m c ⊢ iprop((PSX m c -∗ Wp c (k fun _ => sxv m c) Q)
          -∗ Wp c (.op (.load (Memref.whole cc0_stg0_0) (Rect.unit (s := S1) ![0] S1.size h).toLoadRect hl) k) Q) :=
  load_gen c (M := Memref.whole cc0_stg0_0) (r := Rect.unit (s := S1) ![0] S1.size h) (f := SX m c) (Finset.subset_univ _) _ fun x => by
    refine congrArg (SX m c) (eq_wrap fun a => ?_)
    fin_cases a
    exact Nat.lt_one_iff.mp (Fin.isLt _)
theorem read_sw {α : Type} {h hl} {Q : α → sProp 𝕄} {k : Vec F S1 .f32 → Prog (TpuEff nD τ sig (Elt F) Λ₀ .tc) α} :
    PSW m c ⊢ iprop((PSW m c -∗ Wp c (k fun _ => swv m c) Q)
          -∗ Wp c (.op (.load (Memref.whole cc0_stg1_0) (Rect.unit (s := S1) ![0] S1.size h).toLoadRect hl) k) Q) :=
  load_gen c (M := Memref.whole cc0_stg1_0) (r := Rect.unit (s := S1) ![0] S1.size h) (f := SW m c) (Finset.subset_univ _) _ fun x => by
    refine congrArg (SW m c) (eq_wrap fun a => ?_)
    fin_cases a
    exact Nat.lt_one_iff.mp (Fin.isLt _)
/-- Returning. -/
theorem Wp_ret {α : Type} {Q : α → sProp 𝕄} (v : α) : Q v ⊢ Wp (F := F) c (.ret v) Q := by
  unfold Wp; rw [wp_ret]; iintro H; imodintro; iexact H
end Facts

end Cert.RunKernelIdeal

end
-- ==== Proof.RunKernelIdeal.PartsA.lean ====
/-
The program, part by part, up to the quantized operands: what each part needs and what it leaves.
-/
module

public import proofs.«01_k».proof.Proof.RunKernelIdeal.Facts

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × KI → ℕ) (c : Dev nD)

/-- Part 2 of the program. -/
theorem part2 (v2 v28 v29 : BitVec 32) (v34 : BitVec 1) (Kt : _ → sProp 𝕄) :
    iprop(Rec m K ∗ PX m c 0 ∗ PXS (F := F) c 0 0 ∗ Z (F := F) c (xSem 0) ∗ PX m c 512 ∗ PXS (F := F) c 1 0 ∗ Z (F := F) c (xSem 2) ∗ PX m c 256 ∗ PXS (F := F) c 0 256 ∗ Z (F := F) c (xSem 1) ∗ PX m c 768 ∗ PXS (F := F) c 1 256 ∗ Z (F := F) c (xSem 3))
      ⊢ iprop((∀ (v36 v57 : BitVec 32), iprop(FlX m c (xSem 0) ![0, 0] ![0, 0, 0] ∗ FlX m c (xSem 2) ![512, 0] ![1, 0, 0] ∗ FlX m c (xSem 1) ![256, 0] ![0, 256, 0] ∗ FlX m c (xSem 3) ![768, 0] ![1, 256, 0]) -∗ Kt ⟨v36, v57⟩)
        -∗ Wp c (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v2 v28 v29 v34) Kt) := by
  rw [k0_part2_eq_skeleton]; unfold k0_part2_skel
  simp only [semSignalWord, semWaitWord, smemLoad, smemLoadElt, Prog.lift, Prog.bind_op, Prog.bind_ret, Prog.pure_eq_ret, Prog.bind_assoc, wp_deviceId]
  iintro ⟨#HR, X0, XS0, ZX0, X2, XS2, ZX2, X1, XS1, ZX1, X3, XS3, ZX3⟩ Hk
  ihave #Hlev := (rec_lev m K) $$ HR
  iapply (start_x m c (xSem 0) ![0, 0] ![0, 0, 0] rfl ⟨rfl, rfl, rfl⟩) $$ [X0 XS0 ZX0]
  · isplitl [X0]
    · iexact X0
    isplitl [XS0]
    · iexact XS0
    iexact ZX0
  iintro FX0
  iapply (start_x m c (xSem 2) ![512, 0] ![1, 0, 0] rfl ⟨rfl, rfl, rfl⟩) $$ [X2 XS2 ZX2]
  · isplitl [X2]
    · iexact X2
    isplitl [XS2]
    · iexact XS2
    iexact ZX2
  iintro FX2
  iapply (start_x m c (xSem 1) ![256, 0] ![0, 256, 0] rfl ⟨rfl, rfl, rfl⟩) $$ [X1 XS1 ZX1]
  · isplitl [X1]
    · iexact X1
    isplitl [XS1]
    · iexact XS1
    iexact ZX1
  iintro FX1
  iapply (start_x m c (xSem 3) ![768, 0] ![1, 256, 0] rfl ⟨rfl, rfl, rfl⟩) $$ [X3 XS3 ZX3]
  · isplitl [X3]
    · iexact X3
    isplitl [XS3]
    · iexact XS3
    iexact ZX3
  iintro FX3
  iapply Wp_ret
  iapply Hk $$ [FX0 FX2 FX1 FX3]
  isplitl [FX0]
  · iexact FX0
  isplitl [FX2]
  · iexact FX2
  isplitl [FX1]
  · iexact FX1
  iexact FX3

/-- Part 3 of the program. -/
theorem part3 (v14 v25 v57 : BitVec 32) (Kt : _ → sProp 𝕄) :
    iprop(Rec m K ∗ PW m c fullShare.left ∗ PWS (F := F) c 0 ∗ Z (F := F) c (wSem 0) ∗ PW m c fullShare.right ∗ PWS (F := F) c 1 ∗ Z (F := F) c (wSem 1) ∗ Ow2 (F := F) c ∗ dutyTok ER (barCell (lft c)) 0 true ∗ Place (F := F) c 0 ∗ Place (F := F) c 1 ∗ Place (F := F) c 2 ∗ Place (F := F) c 6 ∗ Place (F := F) c 7 ∗ dutyTok ER (barCell (rgt c)) 0 false ∗ Place (F := F) c 3 ∗ Place (F := F) c 4 ∗ Place (F := F) c 5 ∗ Place (F := F) c 8 ∗ Place (F := F) c 9 ∗ AwaitBar (F := F) c ∗ FlX m c (xSem 0) ![0, 0] ![0, 0, 0] ∗ PQ (F := F) c 0)
      ⊢ iprop((iprop(FlW m c (wSem 0) 0 ![0, 0, 0] fullShare.left ∗ FlW m c (wSem 1) 1 ![1, 0, 0] fullShare.right ∗ Ow (F := F) c [0, 3, 1, 4, 2, 5, 6, 7, 8, 9] ∗ semVal (barCell c) 0 ∗ land (F := F) c 0 ∗ land (F := F) c 1 ∗ land (F := F) c 2 ∗ land (F := F) c 6 ∗ land (F := F) c 7 ∗ land (F := F) c 3 ∗ land (F := F) c 4 ∗ land (F := F) c 5 ∗ land (F := F) c 8 ∗ land (F := F) c 9 ∗ FXS m c 0 0 ∗ PX m c 0 ∗ Z (F := F) c (xSem 0) ∗ FQ m c 0 fullShare.right ∗ sendPay m c 0) -∗ Kt ⟨⟩)
        -∗ Wp c (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v25 v57) Kt) := by
  rw [k0_part3_eq_skeleton]; unfold k0_part3_skel
  simp only [semSignalWord, semWaitWord, smemLoad, smemLoadElt, Prog.lift, Prog.bind_op, Prog.bind_ret, Prog.pure_eq_ret, Prog.bind_assoc, wp_deviceId]
  iintro ⟨#HR, WL, WS0, ZW0, WR, WS1, ZW1, OW, BL, P0, P1, P2, P6, P7, BR, P3, P4, P5, P8, P9, AB, FX0, Q0⟩ Hk
  ihave #Hlev := (rec_lev m K) $$ HR
  iapply (start_w m c (wSem 0) 0 ![0, 0, 0] fullShare.left rfl (k0_off1_eq c 0) ⟨rfl, rfl⟩) $$ [WL WS0 ZW0]
  · isplitl [WL]
    · iexact WL
    isplitl [WS0]
    · iexact WS0
    iexact ZW0
  iintro FW0
  iapply (start_w m c (wSem 1) 1 ![1, 0, 0] fullShare.right rfl (k0_off1_eq c 1) ⟨rfl, rfl⟩) $$ [WR WS1 ZW1]
  · isplitl [WR]
    · iexact WR
    isplitl [WS1]
    · iexact WS1
    iexact ZW1
  iintro FW1
  iapply (signal_left m K c _ (dev1_eq c)) $$ [OW BL P0 P1 P2 P6 P7]
  · isplitr
    · iexact HR
    isplitl [OW]
    · iexact OW
    isplitl [BL]
    · iexact BL
    isplitl [P0]
    · iexact P0
    isplitl [P1]
    · iexact P1
    isplitl [P2]
    · iexact P2
    isplitl [P6]
    · iexact P6
    iexact P7
  iintro OW
  iapply (signal_right m K c _ (dev2_eq c)) $$ [OW BR P3 P4 P5 P8 P9]
  · isplitr
    · iexact HR
    isplitl [OW]
    · iexact OW
    isplitl [BR]
    · iexact BR
    isplitl [P3]
    · iexact P3
    isplitl [P4]
    · iexact P4
    isplitl [P5]
    · iexact P5
    isplitl [P8]
    · iexact P8
    iexact P9
  iintro OW
  iapply (wait_bar m K c) $$ [AB OW]
  · isplitr
    · iexact HR
    isplitl [AB]
    · iexact AB
    iexact OW
  iintro ⟨LF, LT, ZB, OW⟩
  ihave HT := (Entails.of_eq (open_true c)) $$ LT
  icases HT with ⟨L0, L1, L2, L6, L7⟩
  ihave HT := (Entails.of_eq (open_false c)) $$ LF
  icases HT with ⟨L3, L4, L5, L8, L9⟩
  iapply (wait_x m c (xSem 0) ![0, 0] ![0, 0, 0] [0, 3, 1, 4, 2, 5, 6, 7, 8, 9] rfl (by decide)) $$ [FX0 OW]
  · isplitl [FX0]
    · iexact FX0
    isplitl [OW]
    · iexact OW
    iexact Hlev
  iintro ⟨XS0, X0, ZX0, OW⟩
  iapply (load_x m c ![0, 0, 0] 0 ⟨rfl, rfl⟩) $$ XS0
  iintro XS0
  iapply (dead_xq c ![0, 0]) $$ Q0
  iintro %_ Q0
  iapply (store_xq m c 0 (pay1_eq m c 0)) $$ Q0
  iintro Q0
  ihave HT := (open_q m c 0 0 rfl) $$ Q0
  icases HT with ⟨S0, Q0⟩
  iapply Wp_ret
  iapply Hk $$ [FW0 FW1 OW ZB L0 L1 L2 L6 L7 L3 L4 L5 L8 L9 XS0 X0 ZX0 Q0 S0]
  isplitl [FW0]
  · iexact FW0
  isplitl [FW1]
  · iexact FW1
  isplitl [OW]
  · iexact OW
  isplitl [ZB]
  · iexact ZB
  isplitl [L0]
  · iexact L0
  isplitl [L1]
  · iexact L1
  isplitl [L2]
  · iexact L2
  isplitl [L6]
  · iexact L6
  isplitl [L7]
  · iexact L7
  isplitl [L3]
  · iexact L3
  isplitl [L4]
  · iexact L4
  isplitl [L5]
  · iexact L5
  isplitl [L8]
  · iexact L8
  isplitl [L9]
  · iexact L9
  isplitl [XS0]
  · iexact XS0
  isplitl [X0]
  · iexact X0
  isplitl [ZX0]
  · iexact ZX0
  isplitl [Q0]
  · iexact Q0
  iexact S0

/-- Part 4 of the program. -/
theorem part4 (v14 v25 : BitVec 32) (Kt : _ → sProp 𝕄) :
    iprop(Rec m K ∗ Unsent (F := F) c 0 ∗ sendPay m c 0 ∗ land (F := F) c 0 ∗ Ow (F := F) c [0, 3, 1, 4, 2, 5, 6, 7, 8, 9] ∗ FlX m c (xSem 2) ![512, 0] ![1, 0, 0] ∗ PQ (F := F) c 512 ∗ Unsent (F := F) c 3 ∗ land (F := F) c 3)
      ⊢ iprop((iprop(Ow (F := F) c [1, 4, 2, 5, 6, 7, 8, 9] ∗ Sent (F := F) c 0 ∗ FXS m c 1 0 ∗ PX m c 512 ∗ Z (F := F) c (xSem 2) ∗ FQ m c 512 fullShare.right ∗ Sent (F := F) c 3) -∗ Kt ⟨⟩)
        -∗ Wp c (k0_part4 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v25) Kt) := by
  rw [k0_part4_eq_skeleton]; unfold k0_part4_skel
  simp only [semSignalWord, semWaitWord, smemLoad, smemLoadElt, Prog.lift, Prog.bind_op, Prog.bind_ret, Prog.pure_eq_ret, Prog.bind_assoc, wp_deviceId]
  iintro ⟨#HR, U0, S0, L0, OW, FX2, Q2, U3, L3⟩ Hk
  ihave #Hlev := (rec_lev m K) $$ HR
  iapply (send_own256 m K c 0 [3, 1, 4, 2, 5, 6, 7, 8, 9] _ ![0, 0] ![0, 0, 0] (dev3_eq c) rfl rfl rfl rfl rfl (by decide)) $$ [U0 S0 L0 OW]
  · isplitr
    · iexact HR
    isplitl [U0]
    · iexact U0
    isplitl [S0]
    · iexact S0
    isplitl [L0]
    · iexact L0
    iexact OW
  iintro ⟨T0, OW⟩
  iapply (wait_x m c (xSem 2) ![512, 0] ![1, 0, 0] [3, 1, 4, 2, 5, 6, 7, 8, 9] rfl (by decide)) $$ [FX2 OW]
  · isplitl [FX2]
    · iexact FX2
    isplitl [OW]
    · iexact OW
    iexact Hlev
  iintro ⟨XS2, X2, ZX2, OW⟩
  iapply (load_x m c ![1, 0, 0] 512 ⟨rfl, rfl⟩) $$ XS2
  iintro XS2
  iapply (dead_xq c ![512, 0]) $$ Q2
  iintro %_ Q2
  iapply (store_xq m c 512 (pay2_eq m c 512)) $$ Q2
  iintro Q2
  ihave HT := (open_q m c 3 512 rfl) $$ Q2
  icases HT with ⟨S3, Q2⟩
  iapply (send_own256 m K c 3 [1, 4, 2, 5, 6, 7, 8, 9] _ ![512, 0] ![1, 512, 0] (dev4_eq c) rfl rfl rfl rfl rfl (by decide)) $$ [U3 S3 L3 OW]
  · isplitr
    · iexact HR
    isplitl [U3]
    · iexact U3
    isplitl [S3]
    · iexact S3
    isplitl [L3]
    · iexact L3
    iexact OW
  iintro ⟨T3, OW⟩
  iapply Wp_ret
  iapply Hk $$ [OW T0 XS2 X2 ZX2 Q2 T3]
  isplitl [OW]
  · iexact OW
  isplitl [T0]
  · iexact T0
  isplitl [XS2]
  · iexact XS2
  isplitl [X2]
  · iexact X2
  isplitl [ZX2]
  · iexact ZX2
  isplitl [Q2]
  · iexact Q2
  iexact T3

/-- Part 5 of the program. -/
theorem part5 (v25 : BitVec 32) (Kt : _ → sProp 𝕄) :
    iprop(Rec m K ∗ FlX m c (xSem 1) ![256, 0] ![0, 256, 0] ∗ Ow (F := F) c [1, 4, 2, 5, 6, 7, 8, 9] ∗ PQ (F := F) c 256 ∗ Unsent (F := F) c 1 ∗ land (F := F) c 1 ∗ FlX m c (xSem 3) ![768, 0] ![1, 256, 0])
      ⊢ iprop((iprop(Ow (F := F) c [4, 2, 5, 6, 7, 8, 9] ∗ FXS m c 0 256 ∗ PX m c 256 ∗ Z (F := F) c (xSem 1) ∗ FQ m c 256 fullShare.right ∗ Sent (F := F) c 1 ∗ FXS m c 1 256 ∗ PX m c 768 ∗ Z (F := F) c (xSem 3)) -∗ Kt (k0_pay4 (xst m c 768)))
        -∗ Wp c (k0_part5 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v25) Kt) := by
  rw [k0_part5_eq_skeleton]; unfold k0_part5_skel
  simp only [semSignalWord, semWaitWord, smemLoad, smemLoadElt, Prog.lift, Prog.bind_op, Prog.bind_ret, Prog.pure_eq_ret, Prog.bind_assoc, wp_deviceId]
  iintro ⟨#HR, FX1, OW, Q1, U1, L1, FX3⟩ Hk
  ihave #Hlev := (rec_lev m K) $$ HR
  iapply (wait_x m c (xSem 1) ![256, 0] ![0, 256, 0] [1, 4, 2, 5, 6, 7, 8, 9] rfl (by decide)) $$ [FX1 OW]
  · isplitl [FX1]
    · iexact FX1
    isplitl [OW]
    · iexact OW
    iexact Hlev
  iintro ⟨XS1, X1, ZX1, OW⟩
  iapply (load_x m c ![0, 256, 0] 256 ⟨rfl, rfl⟩) $$ XS1
  iintro XS1
  iapply (dead_xq c ![256, 0]) $$ Q1
  iintro %_ Q1
  iapply (store_xq m c 256 (pay3_eq m c 256)) $$ Q1
  iintro Q1
  ihave HT := (open_q m c 1 256 rfl) $$ Q1
  icases HT with ⟨S1, Q1⟩
  iapply (send_own256 m K c 1 [4, 2, 5, 6, 7, 8, 9] _ ![256, 0] ![0, 256, 0] (dev5_eq c) rfl rfl rfl rfl rfl (by decide)) $$ [U1 S1 L1 OW]
  · isplitr
    · iexact HR
    isplitl [U1]
    · iexact U1
    isplitl [S1]
    · iexact S1
    isplitl [L1]
    · iexact L1
    iexact OW
  iintro ⟨T1, OW⟩
  iapply (wait_x m c (xSem 3) ![768, 0] ![1, 256, 0] [4, 2, 5, 6, 7, 8, 9] rfl (by decide)) $$ [FX3 OW]
  · isplitl [FX3]
    · iexact FX3
    isplitl [OW]
    · iexact OW
    iexact Hlev
  iintro ⟨XS3, X3, ZX3, OW⟩
  iapply (load_x m c ![1, 256, 0] 768 ⟨rfl, rfl⟩) $$ XS3
  iintro XS3
  iapply Wp_ret
  iapply Hk $$ [OW XS1 X1 ZX1 Q1 T1 XS3 X3 ZX3]
  isplitl [OW]
  · iexact OW
  isplitl [XS1]
  · iexact XS1
  isplitl [X1]
  · iexact X1
  isplitl [ZX1]
  · iexact ZX1
  isplitl [Q1]
  · iexact Q1
  isplitl [T1]
  · iexact T1
  isplitl [XS3]
  · iexact XS3
  isplitl [X3]
  · iexact X3
  iexact ZX3

/-- Part 6 of the program. -/
theorem part6 (v14 v25 : BitVec 32) (Kt : _ → sProp 𝕄) :
    iprop(Rec m K ∗ PQ (F := F) c 768 ∗ Unsent (F := F) c 4 ∗ land (F := F) c 4 ∗ Ow (F := F) c [4, 2, 5, 6, 7, 8, 9] ∗ FQ m c 512 fullShare.right ∗ Unsent (F := F) c 2 ∗ land (F := F) c 2)
      ⊢ iprop((iprop(Ow (F := F) c [5, 6, 7, 8, 9] ∗ Sent (F := F) c 4 ∗ FQQ m c 512 qC ∗ Sent (F := F) c 2) -∗ Kt ⟨⟩)
        -∗ Wp c (k0_part6 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v25 (k0_pay4 (xst m c 768))) Kt) := by
  rw [k0_part6_eq_skeleton]; unfold k0_part6_skel
  simp only [semSignalWord, semWaitWord, smemLoad, smemLoadElt, Prog.lift, Prog.bind_op, Prog.bind_ret, Prog.pure_eq_ret, Prog.bind_assoc, wp_deviceId]
  iintro ⟨#HR, Q3, U4, L4, OW, Q2, U2, L2⟩ Hk
  ihave #Hlev := (rec_lev m K) $$ HR
  iapply (dead_xq c ![768, 0]) $$ Q3
  iintro %_ Q3
  iapply (store_xq m c 768 (pay5_eq m c 768)) $$ Q3
  iintro Q3
  ihave HT := (open_q m c 4 768 rfl) $$ Q3
  icases HT with ⟨S4, Q3⟩
  iapply (send_own256 m K c 4 [2, 5, 6, 7, 8, 9] _ ![768, 0] ![1, 768, 0] (dev6_eq c) rfl rfl rfl rfl rfl (by decide)) $$ [U4 S4 L4 OW]
  · isplitr
    · iexact HR
    isplitl [U4]
    · iexact U4
    isplitl [S4]
    · iexact S4
    isplitl [L4]
    · iexact L4
    iexact OW
  iintro ⟨T4, OW⟩
  ihave HT := (open_qq m c 2 512 768 rfl rfl) $$ [Q2 Q3]
  · isplitl [Q2]
    · iexact Q2
    iexact Q3
  icases HT with ⟨S2, QQ1⟩
  iapply (send_own512 m K c 2 [5, 6, 7, 8, 9] _ ![512, 0] ![0, 512, 0] (dev7_eq c) rfl rfl rfl rfl rfl (by decide)) $$ [U2 S2 L2 OW]
  · isplitr
    · iexact HR
    isplitl [U2]
    · iexact U2
    isplitl [S2]
    · iexact S2
    isplitl [L2]
    · iexact L2
    iexact OW
  iintro ⟨T2, OW⟩
  iapply Wp_ret
  iapply Hk $$ [OW T4 QQ1 T2]
  isplitl [OW]
  · iexact OW
  isplitl [T4]
  · iexact T4
  isplitl [QQ1]
  · iexact QQ1
  iexact T2

/-- Part 7 of the program. -/
theorem part7 (v57 : BitVec 32) (Kt : _ → sProp 𝕄) :
    iprop(Rec m K ∗ FQ m c 0 fullShare.right ∗ FQ m c 256 fullShare.right ∗ Unsent (F := F) c 5 ∗ land (F := F) c 5 ∗ Ow (F := F) c [5, 6, 7, 8, 9] ∗ FlW m c (wSem 0) 0 ![0, 0, 0] fullShare.left ∗ WQP m c 0 ∗ FlW m c (wSem 1) 1 ![1, 0, 0] fullShare.right)
      ⊢ iprop((∀ (v198 : Vec F S4096x256 .fp8e5m2), iprop(FQQ m c 0 qC ∗ Ow (F := F) c [6, 7, 8, 9] ∗ Sent (F := F) c 5 ∗ FlW m c (wSem 0) 2 ![0, 0, 0] fullShare.left ∗ WQP m c 1 ∗ PWS (F := F) c 1 ∗ PW m c fullShare.right ∗ Z (F := F) c (wSem 1)) -∗ Kt ⟨k0_pay7 (wst m c 1), v198⟩)
        -∗ Wp c (k0_part7 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v57) Kt) := by
  rw [k0_part7_eq_skeleton]; unfold k0_part7_skel
  simp only [semSignalWord, semWaitWord, smemLoad, smemLoadElt, Prog.lift, Prog.bind_op, Prog.bind_ret, Prog.pure_eq_ret, Prog.bind_assoc, wp_deviceId]
  iintro ⟨#HR, Q0, Q1, U5, L5, OW, FW0, WQ, FW1⟩ Hk
  ihave #Hlev := (rec_lev m K) $$ HR
  ihave HT := (open_qq m c 5 0 256 rfl rfl) $$ [Q0 Q1]
  · isplitl [Q0]
    · iexact Q0
    iexact Q1
  icases HT with ⟨S5, QQ0⟩
  iapply (send_own512 m K c 5 [6, 7, 8, 9] _ ![0, 0] ![1, 0, 0] (dev8_eq c) rfl rfl rfl rfl rfl (by decide)) $$ [U5 S5 L5 OW]
  · isplitr
    · iexact HR
    isplitl [U5]
    · iexact U5
    isplitl [S5]
    · iexact S5
    isplitl [L5]
    · iexact L5
    iexact OW
  iintro ⟨T5, OW⟩
  iapply (wait_w m c (wSem 0) 0 ![0, 0, 0] fullShare.left [6, 7, 8, 9] rfl (by decide)) $$ [FW0 OW]
  · isplitl [FW0]
    · iexact FW0
    isplitl [OW]
    · iexact OW
    iexact Hlev
  iintro ⟨WS0, WL, ZW0, OW⟩
  iapply (load_w m c ![0, 0, 0] 0 ⟨rfl, rfl⟩) $$ WS0
  iintro WS0
  ihave HT := (At_some) $$ WS0
  icases HT with WS0
  iapply (dead_wq m c 0) $$ WQ
  iintro %_ WQ
  iapply (store_wq m c 0 (pay6_eq m c 0 (by decide))) $$ WQ
  iintro WQ
  iapply (start_w m c (wSem 0) 2 ![0, 0, 0] fullShare.left rfl (k0_off1_eq c 2) ⟨rfl, rfl⟩) $$ [WL WS0 ZW0]
  · isplitl [WL]
    · iexact WL
    isplitl [WS0]
    · iexact WS0
    iexact ZW0
  iintro FW0
  iapply (wait_w m c (wSem 1) 1 ![1, 0, 0] fullShare.right [6, 7, 8, 9] rfl (by decide)) $$ [FW1 OW]
  · isplitl [FW1]
    · iexact FW1
    isplitl [OW]
    · iexact OW
    iexact Hlev
  iintro ⟨WS1, WR, ZW1, OW⟩
  iapply (load_w m c ![1, 0, 0] 1 ⟨rfl, rfl⟩) $$ WS1
  iintro WS1
  ihave HT := (At_some) $$ WS1
  icases HT with WS1
  iapply (dead_wq m c 1) $$ WQ
  iintro %v198 WQ
  iapply Wp_ret
  iapply Hk $$ [QQ0 OW T5 FW0 WQ WS1 WR ZW1]
  isplitl [QQ0]
  · iexact QQ0
  isplitl [OW]
  · iexact OW
  isplitl [T5]
  · iexact T5
  isplitl [FW0]
  · iexact FW0
  isplitl [WQ]
  · iexact WQ
  isplitl [WS1]
  · iexact WS1
  isplitl [WR]
  · iexact WR
  iexact ZW1

/-- Part 8 of the program. -/
theorem part8 (v57 : BitVec 32) (v198 : Vec F S4096x256 .fp8e5m2) (Kt : _ → sProp 𝕄) :
    iprop(Rec m K ∗ WQP m c 1 ∗ PW m c fullShare.right ∗ PWS (F := F) c 1 ∗ Z (F := F) c (wSem 1) ∗ FlW m c (wSem 0) 2 ![0, 0, 0] fullShare.left ∗ Ow (F := F) c [6, 7, 8, 9])
      ⊢ iprop((iprop(WQP m c 3 ∗ FlW m c (wSem 1) 3 ![1, 0, 0] fullShare.right ∗ FlW m c (wSem 0) 4 ![0, 0, 0] fullShare.left ∗ Ow (F := F) c [6, 7, 8, 9]) -∗ Kt ⟨⟩)
        -∗ Wp c (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v57 (k0_pay7 (wst m c 1)) v198) Kt) := by
  rw [k0_part8_eq_skeleton]; unfold k0_part8_skel
  simp only [semSignalWord, semWaitWord, smemLoad, smemLoadElt, Prog.lift, Prog.bind_op, Prog.bind_ret, Prog.pure_eq_ret, Prog.bind_assoc, wp_deviceId]
  iintro ⟨#HR, WQ, WR, WS1, ZW1, FW0, OW⟩ Hk
  ihave #Hlev := (rec_lev m K) $$ HR
  iapply (store_wq m c 1 (pay8_eq m c 1 (by decide))) $$ WQ
  iintro WQ
  iapply (start_w m c (wSem 1) 3 ![1, 0, 0] fullShare.right rfl (k0_off1_eq c 3) ⟨rfl, rfl⟩) $$ [WR WS1 ZW1]
  · isplitl [WR]
    · iexact WR
    isplitl [WS1]
    · iexact WS1
    iexact ZW1
  iintro FW1
  iapply (wait_w m c (wSem 0) 2 ![0, 0, 0] fullShare.left [6, 7, 8, 9] rfl (by decide)) $$ [FW0 OW]
  · isplitl [FW0]
    · iexact FW0
    isplitl [OW]
    · iexact OW
    iexact Hlev
  iintro ⟨WS0, WL, ZW0, OW⟩
  iapply (load_w m c ![0, 0, 0] 2 ⟨rfl, rfl⟩) $$ WS0
  iintro WS0
  ihave HT := (At_some) $$ WS0
  icases HT with WS0
  iapply (dead_wq m c 2) $$ WQ
  iintro %_ WQ
  iapply (store_wq m c 2 (pay9_eq m c 2 (by decide))) $$ WQ
  iintro WQ
  iapply (start_w m c (wSem 0) 4 ![0, 0, 0] fullShare.left rfl (k0_off1_eq c 4) ⟨rfl, rfl⟩) $$ [WL WS0 ZW0]
  · isplitl [WL]
    · iexact WL
    isplitl [WS0]
    · iexact WS0
    iexact ZW0
  iintro FW0
  iapply Wp_ret
  iapply Hk $$ [WQ FW1 FW0 OW]
  isplitl [WQ]
  · iexact WQ
  isplitl [FW1]
  · iexact FW1
  isplitl [FW0]
  · iexact FW0
  iexact OW

/-- Part 9 of the program. -/
theorem part9 (v57 : BitVec 32) (Kt : _ → sProp 𝕄) :
    iprop(Rec m K ∗ FlW m c (wSem 1) 3 ![1, 0, 0] fullShare.right ∗ Ow (F := F) c [6, 7, 8, 9] ∗ WQP m c 3 ∗ FlW m c (wSem 0) 4 ![0, 0, 0] fullShare.left)
      ⊢ iprop((iprop(FlW m c (wSem 1) 5 ![1, 0, 0] fullShare.right ∗ Ow (F := F) c [6, 7, 8, 9] ∗ WQP m c 5 ∗ PWS (F := F) c 0 ∗ PW m c fullShare.left ∗ Z (F := F) c (wSem 0)) -∗ Kt ⟨⟩)
        -∗ Wp c (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v57) Kt) := by
  rw [k0_part9_eq_skeleton]; unfold k0_part9_skel
  simp only [semSignalWord, semWaitWord, smemLoad, smemLoadElt, Prog.lift, Prog.bind_op, Prog.bind_ret, Prog.pure_eq_ret, Prog.bind_assoc, wp_deviceId]
  iintro ⟨#HR, FW1, OW, WQ, FW0⟩ Hk
  ihave #Hlev := (rec_lev m K) $$ HR
  iapply (wait_w m c (wSem 1) 3 ![1, 0, 0] fullShare.right [6, 7, 8, 9] rfl (by decide)) $$ [FW1 OW]
  · isplitl [FW1]
    · iexact FW1
    isplitl [OW]
    · iexact OW
    iexact Hlev
  iintro ⟨WS1, WR, ZW1, OW⟩
  iapply (load_w m c ![1, 0, 0] 3 ⟨rfl, rfl⟩) $$ WS1
  iintro WS1
  ihave HT := (At_some) $$ WS1
  icases HT with WS1
  iapply (dead_wq m c 3) $$ WQ
  iintro %_ WQ
  iapply (store_wq m c 3 (pay10_eq m c 3 (by decide))) $$ WQ
  iintro WQ
  iapply (start_w m c (wSem 1) 5 ![1, 0, 0] fullShare.right rfl (k0_off1_eq c 5) ⟨rfl, rfl⟩) $$ [WR WS1 ZW1]
  · isplitl [WR]
    · iexact WR
    isplitl [WS1]
    · iexact WS1
    iexact ZW1
  iintro FW1
  iapply (wait_w m c (wSem 0) 4 ![0, 0, 0] fullShare.left [6, 7, 8, 9] rfl (by decide)) $$ [FW0 OW]
  · isplitl [FW0]
    · iexact FW0
    isplitl [OW]
    · iexact OW
    iexact Hlev
  iintro ⟨WS0, WL, ZW0, OW⟩
  iapply (load_w m c ![0, 0, 0] 4 ⟨rfl, rfl⟩) $$ WS0
  iintro WS0
  ihave HT := (At_some) $$ WS0
  icases HT with WS0
  iapply (dead_wq m c 4) $$ WQ
  iintro %_ WQ
  iapply (store_wq m c 4 (pay11_eq m c 4 (by decide))) $$ WQ
  iintro WQ
  iapply Wp_ret
  iapply Hk $$ [FW1 OW WQ WS0 WL ZW0]
  isplitl [FW1]
  · iexact FW1
  isplitl [OW]
  · iexact OW
  isplitl [WQ]
  · iexact WQ
  isplitl [WS0]
  · iexact WS0
  isplitl [WL]
  · iexact WL
  iexact ZW0

/-- Part 10 of the program. -/
theorem part10 (v57 : BitVec 32) (Kt : _ → sProp 𝕄) :
    iprop(Rec m K ∗ PW m c fullShare.left ∗ PWS (F := F) c 0 ∗ Z (F := F) c (wSem 0) ∗ FlW m c (wSem 1) 5 ![1, 0, 0] fullShare.right ∗ Ow (F := F) c [6, 7, 8, 9] ∗ WQP m c 5)
      ⊢ iprop((∀ (v283 : Vec F S4096x256 .fp8e5m2), iprop(PW m c fullShare.left ∗ PWS (F := F) c 0 ∗ Z (F := F) c (wSem 0) ∗ FlW m c (wSem 1) 7 ![1, 0, 0] fullShare.right ∗ Ow (F := F) c [6, 7, 8, 9] ∗ WQP m c 6) -∗ Kt ⟨k0_pay13 (wst m c 6), v283⟩)
        -∗ Wp c (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v57) Kt) := by
  rw [k0_part10_eq_skeleton]; unfold k0_part10_skel
  simp only [semSignalWord, semWaitWord, smemLoad, smemLoadElt, Prog.lift, Prog.bind_op, Prog.bind_ret, Prog.pure_eq_ret, Prog.bind_assoc, wp_deviceId]
  iintro ⟨#HR, WL, WS0, ZW0, FW1, OW, WQ⟩ Hk
  ihave #Hlev := (rec_lev m K) $$ HR
  iapply (start_w m c (wSem 0) 6 ![0, 0, 0] fullShare.left rfl (k0_off1_eq c 6) ⟨rfl, rfl⟩) $$ [WL WS0 ZW0]
  · isplitl [WL]
    · iexact WL
    isplitl [WS0]
    · iexact WS0
    iexact ZW0
  iintro FW0
  iapply (wait_w m c (wSem 1) 5 ![1, 0, 0] fullShare.right [6, 7, 8, 9] rfl (by decide)) $$ [FW1 OW]
  · isplitl [FW1]
    · iexact FW1
    isplitl [OW]
    · iexact OW
    iexact Hlev
  iintro ⟨WS1, WR, ZW1, OW⟩
  iapply (load_w m c ![1, 0, 0] 5 ⟨rfl, rfl⟩) $$ WS1
  iintro WS1
  ihave HT := (At_some) $$ WS1
  icases HT with WS1
  iapply (dead_wq m c 5) $$ WQ
  iintro %_ WQ
  iapply (store_wq m c 5 (pay12_eq m c 5 (by decide))) $$ WQ
  iintro WQ
  iapply (start_w m c (wSem 1) 7 ![1, 0, 0] fullShare.right rfl (k0_off1_eq c 7) ⟨rfl, rfl⟩) $$ [WR WS1 ZW1]
  · isplitl [WR]
    · iexact WR
    isplitl [WS1]
    · iexact WS1
    iexact ZW1
  iintro FW1
  iapply (wait_w m c (wSem 0) 6 ![0, 0, 0] fullShare.left [6, 7, 8, 9] rfl (by decide)) $$ [FW0 OW]
  · isplitl [FW0]
    · iexact FW0
    isplitl [OW]
    · iexact OW
    iexact Hlev
  iintro ⟨WS0, WL, ZW0, OW⟩
  iapply (load_w m c ![0, 0, 0] 6 ⟨rfl, rfl⟩) $$ WS0
  iintro WS0
  ihave HT := (At_some) $$ WS0
  icases HT with WS0
  iapply (dead_wq m c 6) $$ WQ
  iintro %v283 WQ
  iapply Wp_ret
  iapply Hk $$ [WL WS0 ZW0 FW1 OW WQ]
  isplitl [WL]
  · iexact WL
  isplitl [WS0]
  · iexact WS0
  isplitl [ZW0]
  · iexact ZW0
  isplitl [FW1]
  · iexact FW1
  isplitl [OW]
  · iexact OW
  iexact WQ

end

end Cert.RunKernelIdeal

end
-- ==== Proof.RunKernelIdeal.PartsB.lean ====
/-
The program, part by part, through the blocks of 512 rows: what each part needs and what it leaves.
-/
module

public import proofs.«01_k».proof.Proof.RunKernelIdeal.Facts

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × KI → ℕ) (c : Dev nD)

/-- Part 11 of the program. -/
theorem part11 (v2 : BitVec 32) (v283 : Vec F S4096x256 .fp8e5m2) (Kt : _ → sProp 𝕄) :
    iprop(Rec m K ∗ WQP m c 6 ∗ FlW m c (wSem 1) 7 ![1, 0, 0] fullShare.right ∗ Ow (F := F) c [6, 7, 8, 9] ∗ PSX m c ∗ PSW m c ∗ FQQ m c 0 qC ∗ POO (F := F) c 0 0)
      ⊢ iprop((iprop(FWQ m c ∗ Ow (F := F) c [6, 7, 8, 9] ∗ PWS (F := F) c 1 ∗ PW m c fullShare.right ∗ Z (F := F) c (wSem 1) ∗ PSX m c ∗ PSW m c ∗ FQQ m c 0 qC ∗ POO (F := F) c 0 0) -∗ Kt ⟨scale m c, blk512 (scale m c) (rows512 m c 0) (WQ m c)⟩)
        -∗ Wp c (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 (k0_pay13 (wst m c 6)) v283) Kt) := by
  rw [k0_part11_eq_skeleton]; unfold k0_part11_skel
  simp only [semSignalWord, semWaitWord, smemLoad, smemLoadElt, Prog.lift, Prog.bind_op, Prog.bind_ret, Prog.pure_eq_ret, Prog.bind_assoc, wp_deviceId]
  iintro ⟨#HR, WQ, FW1, OW, SX, SW, QQ0, OS0⟩ Hk
  ihave #Hlev := (rec_lev m K) $$ HR
  iapply (store_wq m c 6 (pay14_eq m c 6 (by decide))) $$ WQ
  iintro WQ
  iapply (wait_w m c (wSem 1) 7 ![1, 0, 0] fullShare.right [6, 7, 8, 9] rfl (by decide)) $$ [FW1 OW]
  · isplitl [FW1]
    · iexact FW1
    isplitl [OW]
    · iexact OW
    iexact Hlev
  iintro ⟨WS1, WR, ZW1, OW⟩
  iapply (load_w m c ![1, 0, 0] 7 ⟨rfl, rfl⟩) $$ WS1
  iintro WS1
  ihave HT := (At_some) $$ WS1
  icases HT with WS1
  iapply (dead_wq m c 7) $$ WQ
  iintro %_ WQ
  iapply (store_wq m c 7 (pay15_eq m c 7 (by decide))) $$ WQ
  iintro WQ
  ihave HT := (WQP_done m c) $$ WQ
  icases HT with WQ
  iapply (read_sx m c) $$ SX
  iintro SX
  iapply (read_sw m c) $$ SW
  iintro SW
  iapply (load_xq m c _ qC 0 (Finset.Subset.refl _)) $$ QQ0
  iintro QQ0
  iapply (load_wq m c) $$ WQ
  iintro WQ
  iapply (dead_os512 c ![0, 0, 0]) $$ OS0
  iintro %_ OS0
  simp only [pay16_eq, pay17_scale]
  iapply Wp_ret
  iapply Hk $$ [WQ OW WS1 WR ZW1 SX SW QQ0 OS0]
  isplitl [WQ]
  · iexact WQ
  isplitl [OW]
  · iexact OW
  isplitl [WS1]
  · iexact WS1
  isplitl [WR]
  · iexact WR
  isplitl [ZW1]
  · iexact ZW1
  isplitl [SX]
  · iexact SX
  isplitl [SW]
  · iexact SW
  isplitl [QQ0]
  · iexact QQ0
  iexact OS0

/-- Part 12 of the program. -/
theorem part12 (v2 : BitVec 32) (Kt : _ → sProp 𝕄) :
    iprop(Rec m K ∗ POO (F := F) c 0 0 ∗ PR5 (F := F) c c 0 ∗ Z (F := F) c (oSem 0) ∗ FQQ m c 512 qC ∗ FWQ m c ∗ POO (F := F) c 1 0 ∗ PR5 (F := F) c c 512 ∗ Z (F := F) c (oSem 1))
      ⊢ iprop((iprop(FlOO m c (oSem 0) (1024 * c.val + 0) ![0, 0, 0] ∗ FQQ m c 512 qC ∗ FWQ m c ∗ FlOO m c (oSem 1) (1024 * c.val + 512) ![1, 0, 0]) -∗ Kt ⟨⟩)
        -∗ Wp c (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v2 (scale m c) (blk512 (scale m c) (rows512 m c 0) (WQ m c))) Kt) := by
  rw [k0_part12_eq_skeleton]; unfold k0_part12_skel
  simp only [semSignalWord, semWaitWord, smemLoad, smemLoadElt, Prog.lift, Prog.bind_op, Prog.bind_ret, Prog.pure_eq_ret, Prog.bind_assoc, wp_deviceId]
  iintro ⟨#HR, OS0, Rc0, ZO0, QQ1, WQ, OS1, Rc512, ZO1⟩ Hk
  ihave #Hlev := (rec_lev m K) $$ HR
  iapply (store_os512 c ![0, 0, 0] (blk512 (scale m c) (rows512 m c 0) (WQ m c)) (pay18_eq _) ⟨rfl, rfl⟩) $$ OS0
  iintro OS0
  iapply (start_oo m c (oSem 0) c 0 ![0, 0, 0] rfl (off2_eq c) (ne_opp c) (by decide) ⟨rfl, rfl⟩) $$ [OS0 Rc0 ZO0]
  · isplitl [OS0]
    · iexact OS0
    isplitl [Rc0]
    · iexact Rc0
    iexact ZO0
  iintro FO0
  iapply (load_xq m c _ qC 512 (Finset.Subset.refl _)) $$ QQ1
  iintro QQ1
  iapply (load_wq m c) $$ WQ
  iintro WQ
  iapply (dead_os512 c ![1, 0, 0]) $$ OS1
  iintro %_ OS1
  iapply (store_os512 c ![1, 0, 0] (blk512 (scale m c) (rows512 m c 512) (WQ m c)) (pay19_eq m c 512 _ _) ⟨rfl, rfl⟩) $$ OS1
  iintro OS1
  iapply (start_oo m c (oSem 1) c 512 ![1, 0, 0] rfl (off3_eq c) (ne_opp c) (by decide) ⟨rfl, rfl⟩) $$ [OS1 Rc512 ZO1]
  · isplitl [OS1]
    · iexact OS1
    isplitl [Rc512]
    · iexact Rc512
    iexact ZO1
  iintro FO1
  iapply Wp_ret
  iapply Hk $$ [FO0 QQ1 WQ FO1]
  isplitl [FO0]
  · iexact FO0
  isplitl [QQ1]
  · iexact QQ1
  isplitl [WQ]
  · iexact WQ
  iexact FO1

/-- Part 13 of the program. -/
theorem part13 (v14 v25 : BitVec 32) (Kt : _ → sProp 𝕄) :
    iprop(Rec m K ∗ Await (F := F) c 0 ∗ Ow (F := F) c [6, 7, 8, 9] ∗ Await (F := F) c 1 ∗ Unsent (F := F) c 6 ∗ land (F := F) c 6)
      ⊢ iprop((iprop(Ow (F := F) c [7, 8, 9] ∗ FG m c 0 0 fullShare.right ∗ Zr (F := F) c 0 ∗ FG m c 0 256 fullShare.right ∗ Zr (F := F) c 1 ∗ sendPay m c 7 ∗ Sent (F := F) c 6) -∗ Kt ⟨⟩)
        -∗ Wp c (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v25) Kt) := by
  rw [k0_part13_eq_skeleton]; unfold k0_part13_skel
  simp only [semSignalWord, semWaitWord, smemLoad, smemLoadElt, Prog.lift, Prog.bind_op, Prog.bind_ret, Prog.pure_eq_ret, Prog.bind_assoc, wp_deviceId]
  iintro ⟨#HR, A0, OW, A1, U6, L6⟩ Hk
  ihave #Hlev := (rec_lev m K) $$ HR
  iapply (wait_recv m K c 0 (dstw := gV ![0, 0, 0] (by decide)) [6, 7, 8, 9] rfl rfl (by decide)) $$ [A0 OW]
  · isplitr
    · iexact HR
    isplitl [A0]
    · iexact A0
    iexact OW
  iintro ⟨G0, Y0, OW⟩
  ihave HT := (open_g m c 0 6 0 0 rfl rfl) $$ G0
  icases HT with ⟨S6, G0⟩
  iapply (wait_recv m K c 1 (dstw := gV ![0, 256, 0] (by decide)) [6, 7, 8, 9] rfl rfl (by decide)) $$ [A1 OW]
  · isplitr
    · iexact HR
    isplitl [A1]
    · iexact A1
    iexact OW
  iintro ⟨G1, Y1, OW⟩
  ihave HT := (open_g m c 1 7 0 256 rfl rfl) $$ G1
  icases HT with ⟨S7, G1⟩
  iapply (send_fwd m K c 6 [7, 8, 9] _ ![0, 0, 0] ![2, 0, 0] (dev9_eq c) rfl rfl rfl rfl rfl (by decide)) $$ [U6 S6 L6 OW]
  · isplitr
    · iexact HR
    isplitl [U6]
    · iexact U6
    isplitl [S6]
    · iexact S6
    isplitl [L6]
    · iexact L6
    iexact OW
  iintro ⟨T6, OW⟩
  iapply Wp_ret
  iapply Hk $$ [OW G0 Y0 G1 Y1 S7 T6]
  isplitl [OW]
  · iexact OW
  isplitl [G0]
  · iexact G0
  isplitl [Y0]
  · iexact Y0
  isplitl [G1]
  · iexact G1
  isplitl [Y1]
  · iexact Y1
  isplitl [S7]
  · iexact S7
  iexact T6

/-- Part 14 of the program. -/
theorem part14 (v14 v25 : BitVec 32) (Kt : _ → sProp 𝕄) :
    iprop(Rec m K ∗ Unsent (F := F) c 7 ∗ sendPay m c 7 ∗ land (F := F) c 7 ∗ Ow (F := F) c [7, 8, 9] ∗ Await (F := F) c 3 ∗ Await (F := F) c 4)
      ⊢ iprop((iprop(Ow (F := F) c [8, 9] ∗ Sent (F := F) c 7 ∗ FG m c 1 512 fullShare.right ∗ Zr (F := F) c 3 ∗ sendPay m c 8 ∗ FG m c 1 768 fullShare.right ∗ Zr (F := F) c 4 ∗ sendPay m c 9) -∗ Kt ⟨⟩)
        -∗ Wp c (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v25) Kt) := by
  rw [k0_part14_eq_skeleton]; unfold k0_part14_skel
  simp only [semSignalWord, semWaitWord, smemLoad, smemLoadElt, Prog.lift, Prog.bind_op, Prog.bind_ret, Prog.pure_eq_ret, Prog.bind_assoc, wp_deviceId]
  iintro ⟨#HR, U7, S7, L7, OW, A3, A4⟩ Hk
  ihave #Hlev := (rec_lev m K) $$ HR
  iapply (send_fwd m K c 7 [8, 9] _ ![0, 256, 0] ![2, 256, 0] (dev10_eq c) rfl rfl rfl rfl rfl (by decide)) $$ [U7 S7 L7 OW]
  · isplitr
    · iexact HR
    isplitl [U7]
    · iexact U7
    isplitl [S7]
    · iexact S7
    isplitl [L7]
    · iexact L7
    iexact OW
  iintro ⟨T7, OW⟩
  iapply (wait_recv m K c 3 (dstw := gV ![1, 512, 0] (by decide)) [8, 9] rfl rfl (by decide)) $$ [A3 OW]
  · isplitr
    · iexact HR
    isplitl [A3]
    · iexact A3
    iexact OW
  iintro ⟨G3, Y3, OW⟩
  ihave HT := (open_g m c 3 8 1 512 rfl rfl) $$ G3
  icases HT with ⟨S8, G3⟩
  iapply (wait_recv m K c 4 (dstw := gV ![1, 768, 0] (by decide)) [8, 9] rfl rfl (by decide)) $$ [A4 OW]
  · isplitr
    · iexact HR
    isplitl [A4]
    · iexact A4
    iexact OW
  iintro ⟨G4, Y4, OW⟩
  ihave HT := (open_g m c 4 9 1 768 rfl rfl) $$ G4
  icases HT with ⟨S9, G4⟩
  iapply Wp_ret
  iapply Hk $$ [OW T7 G3 Y3 S8 G4 Y4 S9]
  isplitl [OW]
  · iexact OW
  isplitl [T7]
  · iexact T7
  isplitl [G3]
  · iexact G3
  isplitl [Y3]
  · iexact Y3
  isplitl [S8]
  · iexact S8
  isplitl [G4]
  · iexact G4
  isplitl [Y4]
  · iexact Y4
  iexact S9

/-- Part 15 of the program. -/
theorem part15 (v14 : BitVec 32) (Kt : _ → sProp 𝕄) :
    iprop(Rec m K ∗ Unsent (F := F) c 8 ∗ sendPay m c 8 ∗ land (F := F) c 8 ∗ Ow (F := F) c [8, 9] ∗ Unsent (F := F) c 9 ∗ sendPay m c 9 ∗ land (F := F) c 9 ∗ FG m c 0 0 fullShare.right ∗ FG m c 0 256 fullShare.right ∗ FlOO m c (oSem 0) (1024 * c.val + 0) ![0, 0, 0] ∗ FWQ m c)
      ⊢ iprop((iprop(Ow (F := F) c [] ∗ Sent (F := F) c 8 ∗ Sent (F := F) c 9 ∗ FGG m c 0 0 fullShare.right ∗ FR5 m c c 0 ∗ POO (F := F) c 0 0 ∗ Z (F := F) c (oSem 0) ∗ FWQ m c) -∗ Kt ⟨k0_pay20 (scale m c) (grows512 m (lft c) 0) (WQ m c), k0_pay21 (scale m c) (grows512 m (lft c) 0) (WQ m c), k0_pay22⟩)
        -∗ Wp c (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 (scale m c)) Kt) := by
  rw [k0_part15_eq_skeleton]; unfold k0_part15_skel
  simp only [semSignalWord, semWaitWord, smemLoad, smemLoadElt, Prog.lift, Prog.bind_op, Prog.bind_ret, Prog.pure_eq_ret, Prog.bind_assoc, wp_deviceId]
  iintro ⟨#HR, U8, S8, L8, OW, U9, S9, L9, G0, G1, FO0, WQ⟩ Hk
  ihave #Hlev := (rec_lev m K) $$ HR
  iapply (send_fwd m K c 8 [9] _ ![1, 512, 0] ![2, 512, 0] (dev11_eq c) rfl rfl rfl rfl rfl (by decide)) $$ [U8 S8 L8 OW]
  · isplitr
    · iexact HR
    isplitl [U8]
    · iexact U8
    isplitl [S8]
    · iexact S8
    isplitl [L8]
    · iexact L8
    iexact OW
  iintro ⟨T8, OW⟩
  iapply (send_fwd m K c 9 [] _ ![1, 768, 0] ![2, 768, 0] (dev12_eq c) rfl rfl rfl rfl rfl (by decide)) $$ [U9 S9 L9 OW]
  · isplitr
    · iexact HR
    isplitl [U9]
    · iexact U9
    isplitl [S9]
    · iexact S9
    isplitl [L9]
    · iexact L9
    iexact OW
  iintro ⟨T9, OW⟩
  ihave HT := (glue_g m c 0 0 256 fullShare.right rfl) $$ [G0 G1]
  · isplitl [G0]
    · iexact G0
    iexact G1
  icases HT with GG0
  iapply (load_gg m c (lft c) _ fullShare.right 0 0 rfl (Finset.Subset.refl _)) $$ GG0
  iintro GG0
  iapply (wait_oo m c (oSem 0) (1024 * c.val + 0) ![0, 0, 0] [] rfl (by decide)) $$ [FO0 OW]
  · isplitl [FO0]
    · iexact FO0
    isplitl [OW]
    · iexact OW
    iexact Hlev
  iintro ⟨Rc0, OS0, ZO0, OW⟩
  iapply (load_wq m c) $$ WQ
  iintro WQ
  iapply Wp_ret
  iapply Hk $$ [OW T8 T9 GG0 Rc0 OS0 ZO0 WQ]
  isplitl [OW]
  · iexact OW
  isplitl [T8]
  · iexact T8
  isplitl [T9]
  · iexact T9
  isplitl [GG0]
  · iexact GG0
  isplitl [Rc0]
  · iexact Rc0
  isplitl [OS0]
  · iexact OS0
  isplitl [ZO0]
  · iexact ZO0
  iexact WQ

/-- Part 16 of the program. -/
theorem part16 (v25 : BitVec 32) (Kt : _ → sProp 𝕄) :
    iprop(Rec m K ∗ POO (F := F) c 0 0 ∗ PR5 (F := F) c (lft c) 0 ∗ Z (F := F) c (oSem 0) ∗ FG m c 1 512 fullShare.right ∗ FG m c 1 768 fullShare.right ∗ FlOO m c (oSem 1) (1024 * c.val + 512) ![1, 0, 0] ∗ Ow (F := F) c [] ∗ FWQ m c)
      ⊢ iprop((iprop(FlOO m c (oSem 0) (1024 * (lft c).val + 0) ![0, 0, 0] ∗ FGG m c 1 512 fullShare.right ∗ Ow (F := F) c [] ∗ FR5 m c c 512 ∗ POO (F := F) c 1 0 ∗ Z (F := F) c (oSem 1) ∗ FWQ m c) -∗ Kt ⟨k0_pay24 (scale m c) (grows512 m (rgt c) 512) (WQ m c), k0_pay25 (scale m c) (grows512 m (rgt c) 512) (WQ m c), k0_pay26⟩)
        -∗ Wp c (k0_part16 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v25 (scale m c) (k0_pay20 (scale m c) (grows512 m (lft c) 0) (WQ m c)) (k0_pay21 (scale m c) (grows512 m (lft c) 0) (WQ m c)) k0_pay22) Kt) := by
  rw [k0_part16_eq_skeleton]; unfold k0_part16_skel
  simp only [semSignalWord, semWaitWord, smemLoad, smemLoadElt, Prog.lift, Prog.bind_op, Prog.bind_ret, Prog.pure_eq_ret, Prog.bind_assoc, wp_deviceId]
  iintro ⟨#HR, OS0, Rl0, ZO0, G3, G4, FO1, OW, WQ⟩ Hk
  ihave #Hlev := (rec_lev m K) $$ HR
  iapply (dead_os512 c ![0, 0, 0]) $$ OS0
  iintro %_ OS0
  iapply (store_os512 c ![0, 0, 0] (blk512 (scale m c) (rows512 m (lft c) 0) (WQ m c)) (pay23_eq m (lft c) 0 _ _) ⟨rfl, rfl⟩) $$ OS0
  iintro OS0
  iapply (start_oo m c (oSem 0) (lft c) 0 ![0, 0, 0] rfl (off4_eq c) (lft_ne_opp c) (by decide) ⟨rfl, rfl⟩) $$ [OS0 Rl0 ZO0]
  · isplitl [OS0]
    · iexact OS0
    isplitl [Rl0]
    · iexact Rl0
    iexact ZO0
  iintro FO0
  ihave HT := (glue_g m c 1 512 768 fullShare.right rfl) $$ [G3 G4]
  · isplitl [G3]
    · iexact G3
    iexact G4
  icases HT with GG1
  iapply (load_gg m c (rgt c) _ fullShare.right 1 512 rfl (Finset.Subset.refl _)) $$ GG1
  iintro GG1
  iapply (wait_oo m c (oSem 1) (1024 * c.val + 512) ![1, 0, 0] [] rfl (by decide)) $$ [FO1 OW]
  · isplitl [FO1]
    · iexact FO1
    isplitl [OW]
    · iexact OW
    iexact Hlev
  iintro ⟨Rc512, OS1, ZO1, OW⟩
  iapply (load_wq m c) $$ WQ
  iintro WQ
  iapply Wp_ret
  iapply Hk $$ [FO0 GG1 OW Rc512 OS1 ZO1 WQ]
  isplitl [FO0]
  · iexact FO0
  isplitl [GG1]
  · iexact GG1
  isplitl [OW]
  · iexact OW
  isplitl [Rc512]
  · iexact Rc512
  isplitl [OS1]
  · iexact OS1
  isplitl [ZO1]
  · iexact ZO1
  iexact WQ

/-- Part 17 of the program. -/
theorem part17 (v14 : BitVec 32) (Kt : _ → sProp 𝕄) :
    iprop(Rec m K ∗ POO (F := F) c 1 0 ∗ PR5 (F := F) c (rgt c) 512 ∗ Z (F := F) c (oSem 1) ∗ Await (F := F) c 2 ∗ Ow (F := F) c [] ∗ FlOO m c (oSem 0) (1024 * (lft c).val + 0) ![0, 0, 0])
      ⊢ iprop((iprop(FlOO m c (oSem 1) (1024 * (rgt c).val + 512) ![1, 0, 0] ∗ Ow (F := F) c [] ∗ FGG m c 0 512 fullShare ∗ Zr (F := F) c 2 ∗ FR5 m c (lft c) 0 ∗ POO (F := F) c 0 0 ∗ Z (F := F) c (oSem 0)) -∗ Kt (k0_pay28 (grows512 m (lft c) 512)))
        -∗ Wp c (k0_part17 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 (k0_pay24 (scale m c) (grows512 m (rgt c) 512) (WQ m c)) (k0_pay25 (scale m c) (grows512 m (rgt c) 512) (WQ m c)) k0_pay26) Kt) := by
  rw [k0_part17_eq_skeleton]; unfold k0_part17_skel
  simp only [semSignalWord, semWaitWord, smemLoad, smemLoadElt, Prog.lift, Prog.bind_op, Prog.bind_ret, Prog.pure_eq_ret, Prog.bind_assoc, wp_deviceId]
  iintro ⟨#HR, OS1, Rr512, ZO1, A2, OW, FO0⟩ Hk
  ihave #Hlev := (rec_lev m K) $$ HR
  iapply (dead_os512 c ![1, 0, 0]) $$ OS1
  iintro %_ OS1
  iapply (store_os512 c ![1, 0, 0] (blk512 (scale m c) (rows512 m (rgt c) 512) (WQ m c)) (pay27_eq m (rgt c) 512 _ _) ⟨rfl, rfl⟩) $$ OS1
  iintro OS1
  iapply (start_oo m c (oSem 1) (rgt c) 512 ![1, 0, 0] rfl (off5_eq c) (rgt_ne_opp c) (by decide) ⟨rfl, rfl⟩) $$ [OS1 Rr512 ZO1]
  · isplitl [OS1]
    · iexact OS1
    isplitl [Rr512]
    · iexact Rr512
    iexact ZO1
  iintro FO1
  iapply (wait_recv m K c 2 (dstw := ggV ![0, 512, 0] (by decide)) [] rfl rfl (by decide)) $$ [A2 OW]
  · isplitr
    · iexact HR
    isplitl [A2]
    · iexact A2
    iexact OW
  iintro ⟨G2, Y2, OW⟩
  ihave HT := (Entails.of_eq (show recvPay m c 2 = FGG m c 0 512 fullShare from rfl)) $$ G2
  icases HT with G2
  iapply (load_gg m c (lft c) _ fullShare 0 512 rfl (Finset.Subset.refl _)) $$ G2
  iintro G2
  iapply (wait_oo m c (oSem 0) (1024 * (lft c).val + 0) ![0, 0, 0] [] rfl (by decide)) $$ [FO0 OW]
  · isplitl [FO0]
    · iexact FO0
    isplitl [OW]
    · iexact OW
    iexact Hlev
  iintro ⟨Rl0, OS0, ZO0, OW⟩
  iapply Wp_ret
  iapply Hk $$ [FO1 OW G2 Y2 Rl0 OS0 ZO0]
  isplitl [FO1]
  · iexact FO1
  isplitl [OW]
  · iexact OW
  isplitl [G2]
  · iexact G2
  isplitl [Y2]
  · iexact Y2
  isplitl [Rl0]
  · iexact Rl0
  isplitl [OS0]
  · iexact OS0
  iexact ZO0

/-- Part 18 of the program. -/
theorem part18 (v25 : BitVec 32) (Kt : _ → sProp 𝕄) :
    iprop(Rec m K ∗ FWQ m c ∗ POO (F := F) c 0 0 ∗ PR5 (F := F) c (lft c) 512 ∗ Z (F := F) c (oSem 0) ∗ Await (F := F) c 5 ∗ Ow (F := F) c [])
      ⊢ iprop((iprop(FWQ m c ∗ FlOO m c (oSem 0) (1024 * (lft c).val + 512) ![0, 0, 0] ∗ Ow (F := F) c [] ∗ FGG m c 1 0 fullShare ∗ Zr (F := F) c 5) -∗ Kt (k0_pay30 (grows512 m (rgt c) 0)))
        -∗ Wp c (k0_part18 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v25 (scale m c) (k0_pay28 (grows512 m (lft c) 512))) Kt) := by
  rw [k0_part18_eq_skeleton]; unfold k0_part18_skel
  simp only [semSignalWord, semWaitWord, smemLoad, smemLoadElt, Prog.lift, Prog.bind_op, Prog.bind_ret, Prog.pure_eq_ret, Prog.bind_assoc, wp_deviceId]
  iintro ⟨#HR, WQ, OS0, Rl512, ZO0, A5, OW⟩ Hk
  ihave #Hlev := (rec_lev m K) $$ HR
  iapply (load_wq m c) $$ WQ
  iintro WQ
  iapply (dead_os512 c ![0, 0, 0]) $$ OS0
  iintro %_ OS0
  iapply (store_os512 c ![0, 0, 0] (blk512 (scale m c) (rows512 m (lft c) 512) (WQ m c)) (pay29_eq m (lft c) 512 _ _) ⟨rfl, rfl⟩) $$ OS0
  iintro OS0
  iapply (start_oo m c (oSem 0) (lft c) 512 ![0, 0, 0] rfl (off6_eq c) (lft_ne_opp c) (by decide) ⟨rfl, rfl⟩) $$ [OS0 Rl512 ZO0]
  · isplitl [OS0]
    · iexact OS0
    isplitl [Rl512]
    · iexact Rl512
    iexact ZO0
  iintro FO0
  iapply (wait_recv m K c 5 (dstw := ggV ![1, 0, 0] (by decide)) [] rfl rfl (by decide)) $$ [A5 OW]
  · isplitr
    · iexact HR
    isplitl [A5]
    · iexact A5
    iexact OW
  iintro ⟨G5, Y5, OW⟩
  ihave HT := (Entails.of_eq (show recvPay m c 5 = FGG m c 1 0 fullShare from rfl)) $$ G5
  icases HT with G5
  iapply (load_gg m c (rgt c) _ fullShare 1 0 rfl (Finset.Subset.refl _)) $$ G5
  iintro G5
  iapply Wp_ret
  iapply Hk $$ [WQ FO0 OW G5 Y5]
  isplitl [WQ]
  · iexact WQ
  isplitl [FO0]
  · iexact FO0
  isplitl [OW]
  · iexact OW
  isplitl [G5]
  · iexact G5
  iexact Y5

/-- Part 19 of the program. -/
theorem part19 (v14 : BitVec 32) (Kt : _ → sProp 𝕄) :
    iprop(Rec m K ∗ FlOO m c (oSem 1) (1024 * (rgt c).val + 512) ![1, 0, 0] ∗ Ow (F := F) c [] ∗ FWQ m c ∗ PR5 (F := F) c (rgt c) 0)
      ⊢ iprop((iprop(FlOO m c (oSem 1) (1024 * (rgt c).val + 0) ![1, 0, 0] ∗ Ow (F := F) c [] ∗ FR5 m c (rgt c) 512 ∗ FWQ m c) -∗ Kt ⟨⟩)
        -∗ Wp c (k0_part19 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 (scale m c) (k0_pay30 (grows512 m (rgt c) 0))) Kt) := by
  rw [k0_part19_eq_skeleton]; unfold k0_part19_skel
  simp only [semSignalWord, semWaitWord, smemLoad, smemLoadElt, Prog.lift, Prog.bind_op, Prog.bind_ret, Prog.pure_eq_ret, Prog.bind_assoc, wp_deviceId]
  iintro ⟨#HR, FO1, OW, WQ, Rr0⟩ Hk
  ihave #Hlev := (rec_lev m K) $$ HR
  iapply (wait_oo m c (oSem 1) (1024 * (rgt c).val + 512) ![1, 0, 0] [] rfl (by decide)) $$ [FO1 OW]
  · isplitl [FO1]
    · iexact FO1
    isplitl [OW]
    · iexact OW
    iexact Hlev
  iintro ⟨Rr512, OS1, ZO1, OW⟩
  iapply (load_wq m c) $$ WQ
  iintro WQ
  iapply (dead_os512 c ![1, 0, 0]) $$ OS1
  iintro %_ OS1
  iapply (store_os512 c ![1, 0, 0] (blk512 (scale m c) (rows512 m (rgt c) 0) (WQ m c)) (pay31_eq m (rgt c) 0 _ _) ⟨rfl, rfl⟩) $$ OS1
  iintro OS1
  iapply (start_oo m c (oSem 1) (rgt c) 0 ![1, 0, 0] rfl (off7_eq c) (rgt_ne_opp c) (by decide) ⟨rfl, rfl⟩) $$ [OS1 Rr0 ZO1]
  · isplitl [OS1]
    · iexact OS1
    isplitl [Rr0]
    · iexact Rr0
    iexact ZO1
  iintro FO1
  iapply Wp_ret
  iapply Hk $$ [FO1 OW Rr512 WQ]
  isplitl [FO1]
  · iexact FO1
  isplitl [OW]
  · iexact OW
  isplitl [Rr512]
  · iexact Rr512
  iexact WQ

end

end Cert.RunKernelIdeal

end
-- ==== Proof.RunKernelIdeal.PartsC.lean ====
/-
The program, part by part, through the blocks of 256 rows: what each part needs and what it leaves.
-/
module

public import proofs.«01_k».proof.Proof.RunKernelIdeal.Facts

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × KI → ℕ) (c : Dev nD)

/-- Part 20 of the program. -/
theorem part20 (v36 : BitVec 32) (Kt : _ → sProp 𝕄) :
    iprop(Rec m K ∗ Await (F := F) c 6 ∗ Ow (F := F) c [] ∗ FlOO m c (oSem 0) (1024 * (lft c).val + 512) ![0, 0, 0] ∗ FWQ m c)
      ⊢ iprop((iprop(Ow (F := F) c [] ∗ FG m c 2 0 fullShare ∗ Zr (F := F) c 6 ∗ FR5 m c (lft c) 512 ∗ FO m c 0 (opp c) 0 ∗ Z (F := F) c (oSem 0) ∗ PO (F := F) c 0 256 ∗ FWQ m c) -∗ Kt ⟨⟩)
        -∗ Wp c (k0_part20 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v36 (scale m c)) Kt) := by
  rw [k0_part20_eq_skeleton]; unfold k0_part20_skel
  simp only [semSignalWord, semWaitWord, smemLoad, smemLoadElt, Prog.lift, Prog.bind_op, Prog.bind_ret, Prog.pure_eq_ret, Prog.bind_assoc, wp_deviceId]
  iintro ⟨#HR, A6, OW, FO0, WQ⟩ Hk
  ihave #Hlev := (rec_lev m K) $$ HR
  iapply (wait_recv m K c 6 (dstw := gV ![2, 0, 0] (by decide)) [] rfl rfl (by decide)) $$ [A6 OW]
  · isplitr
    · iexact HR
    isplitl [A6]
    · iexact A6
    iexact OW
  iintro ⟨G6, Y6, OW⟩
  ihave HT := (Entails.of_eq (show recvPay m c 6 = FG m c 2 0 fullShare from rfl)) $$ G6
  icases HT with G6
  iapply (load_g m c (opp c) _ fullShare 2 0 rfl (Finset.Subset.refl _)) $$ G6
  iintro G6
  iapply (wait_oo m c (oSem 0) (1024 * (lft c).val + 512) ![0, 0, 0] [] rfl (by decide)) $$ [FO0 OW]
  · isplitl [FO0]
    · iexact FO0
    isplitl [OW]
    · iexact OW
    iexact Hlev
  iintro ⟨Rl512, OS0, ZO0, OW⟩
  ihave HT := (cut_o c 0) $$ OS0
  icases HT with ⟨OS0, OT0⟩
  iapply (load_wq m c) $$ WQ
  iintro WQ
  iapply (dead_os256 c ![0, 0, 0]) $$ OS0
  iintro %_ OS0
  iapply (store_os256 c ![0, 0, 0] (blk256 (scale m c) (rows256 m (opp c) 0) (WQ m c)) (pay32_eq m (opp c) 0 _ _) ⟨rfl, rfl⟩) $$ OS0
  iintro OS0
  iapply Wp_ret
  iapply Hk $$ [OW G6 Y6 Rl512 OS0 ZO0 OT0 WQ]
  isplitl [OW]
  · iexact OW
  isplitl [G6]
  · iexact G6
  isplitl [Y6]
  · iexact Y6
  isplitl [Rl512]
  · iexact Rl512
  isplitl [OS0]
  · iexact OS0
  isplitl [ZO0]
  · iexact ZO0
  isplitl [OT0]
  · iexact OT0
  iexact WQ

/-- Part 21 of the program. -/
theorem part21 (v25 v36 : BitVec 32) (Kt : _ → sProp 𝕄) :
    iprop(Rec m K ∗ FO m c 0 (opp c) 0 ∗ PR2 (F := F) c (opp c) 0 ∗ Z (F := F) c (oSem 0) ∗ Await (F := F) c 8 ∗ Ow (F := F) c [] ∗ FlOO m c (oSem 1) (1024 * (rgt c).val + 0) ![1, 0, 0] ∗ FWQ m c)
      ⊢ iprop((iprop(FlO m c (oSem 0) (1024 * (opp c).val + 0) ![0, 0, 0] ∗ Ow (F := F) c [] ∗ FG m c 2 512 fullShare ∗ Zr (F := F) c 8 ∗ FR5 m c (rgt c) 0 ∗ PO (F := F) c 1 0 ∗ Z (F := F) c (oSem 1) ∗ PO (F := F) c 1 256 ∗ FWQ m c) -∗ Kt (k0_pay33 (scale m c) (grows256 m (opp c) 512) (WQ m c)))
        -∗ Wp c (k0_part21 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v25 v36 (scale m c)) Kt) := by
  rw [k0_part21_eq_skeleton]; unfold k0_part21_skel
  simp only [semSignalWord, semWaitWord, smemLoad, smemLoadElt, Prog.lift, Prog.bind_op, Prog.bind_ret, Prog.pure_eq_ret, Prog.bind_assoc, wp_deviceId]
  iintro ⟨#HR, OS0, Ro0, ZO0, A8, OW, FO1, WQ⟩ Hk
  ihave #Hlev := (rec_lev m K) $$ HR
  iapply (start_o m c (oSem 0) (opp c) 0 ![0, 0, 0] rfl (off8_eq c 0) rfl (by decide) ⟨rfl, rfl⟩) $$ [OS0 Ro0 ZO0]
  · isplitl [OS0]
    · iexact OS0
    isplitl [Ro0]
    · iexact Ro0
    iexact ZO0
  iintro FO0
  iapply (wait_recv m K c 8 (dstw := gV ![2, 512, 0] (by decide)) [] rfl rfl (by decide)) $$ [A8 OW]
  · isplitr
    · iexact HR
    isplitl [A8]
    · iexact A8
    iexact OW
  iintro ⟨G8, Y8, OW⟩
  ihave HT := (Entails.of_eq (show recvPay m c 8 = FG m c 2 512 fullShare from rfl)) $$ G8
  icases HT with G8
  iapply (load_g m c (opp c) _ fullShare 2 512 rfl (Finset.Subset.refl _)) $$ G8
  iintro G8
  iapply (wait_oo m c (oSem 1) (1024 * (rgt c).val + 0) ![1, 0, 0] [] rfl (by decide)) $$ [FO1 OW]
  · isplitl [FO1]
    · iexact FO1
    isplitl [OW]
    · iexact OW
    iexact Hlev
  iintro ⟨Rr0, OS1, ZO1, OW⟩
  ihave HT := (cut_o c 1) $$ OS1
  icases HT with ⟨OS1, OT1⟩
  iapply (load_wq m c) $$ WQ
  iintro WQ
  iapply Wp_ret
  iapply Hk $$ [FO0 OW G8 Y8 Rr0 OS1 ZO1 OT1 WQ]
  isplitl [FO0]
  · iexact FO0
  isplitl [OW]
  · iexact OW
  isplitl [G8]
  · iexact G8
  isplitl [Y8]
  · iexact Y8
  isplitl [Rr0]
  · iexact Rr0
  isplitl [OS1]
  · iexact OS1
  isplitl [ZO1]
  · iexact ZO1
  isplitl [OT1]
  · iexact OT1
  iexact WQ

/-- Part 22 of the program. -/
theorem part22 (v14 v36 : BitVec 32) (Kt : _ → sProp 𝕄) :
    iprop(Rec m K ∗ PO (F := F) c 1 0 ∗ PR2 (F := F) c (opp c) 512 ∗ Z (F := F) c (oSem 1) ∗ Await (F := F) c 7 ∗ Ow (F := F) c [] ∗ FlO m c (oSem 0) (1024 * (opp c).val + 0) ![0, 0, 0])
      ⊢ iprop((iprop(FlO m c (oSem 1) (1024 * (opp c).val + 512) ![1, 0, 0] ∗ Ow (F := F) c [] ∗ FG m c 2 256 fullShare ∗ Zr (F := F) c 7 ∗ FR2 m c (opp c) 0 ∗ PO (F := F) c 0 0 ∗ Z (F := F) c (oSem 0)) -∗ Kt (k0_pay35 (grows256 m (opp c) 256)))
        -∗ Wp c (k0_part22 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v14 v36 (k0_pay33 (scale m c) (grows256 m (opp c) 512) (WQ m c))) Kt) := by
  rw [k0_part22_eq_skeleton]; unfold k0_part22_skel
  simp only [semSignalWord, semWaitWord, smemLoad, smemLoadElt, Prog.lift, Prog.bind_op, Prog.bind_ret, Prog.pure_eq_ret, Prog.bind_assoc, wp_deviceId]
  iintro ⟨#HR, OS1, Ro2, ZO1, A7, OW, FO0⟩ Hk
  ihave #Hlev := (rec_lev m K) $$ HR
  iapply (dead_os256 c ![1, 0, 0]) $$ OS1
  iintro %_ OS1
  iapply (store_os256 c ![1, 0, 0] (blk256 (scale m c) (rows256 m (opp c) 512) (WQ m c)) (pay34_eq m (opp c) 512 _ _) ⟨rfl, rfl⟩) $$ OS1
  iintro OS1
  iapply (start_o m c (oSem 1) (opp c) 512 ![1, 0, 0] rfl (off8_eq c 2) rfl (by decide) ⟨rfl, rfl⟩) $$ [OS1 Ro2 ZO1]
  · isplitl [OS1]
    · iexact OS1
    isplitl [Ro2]
    · iexact Ro2
    iexact ZO1
  iintro FO1
  iapply (wait_recv m K c 7 (dstw := gV ![2, 256, 0] (by decide)) [] rfl rfl (by decide)) $$ [A7 OW]
  · isplitr
    · iexact HR
    isplitl [A7]
    · iexact A7
    iexact OW
  iintro ⟨G7, Y7, OW⟩
  ihave HT := (Entails.of_eq (show recvPay m c 7 = FG m c 2 256 fullShare from rfl)) $$ G7
  icases HT with G7
  iapply (load_g m c (opp c) _ fullShare 2 256 rfl (Finset.Subset.refl _)) $$ G7
  iintro G7
  iapply (wait_o m c (oSem 0) (1024 * (opp c).val + 0) ![0, 0, 0] [] rfl (by decide)) $$ [FO0 OW]
  · isplitl [FO0]
    · iexact FO0
    isplitl [OW]
    · iexact OW
    iexact Hlev
  iintro ⟨Ro0, OS0, ZO0, OW⟩
  iapply Wp_ret
  iapply Hk $$ [FO1 OW G7 Y7 Ro0 OS0 ZO0]
  isplitl [FO1]
  · iexact FO1
  isplitl [OW]
  · iexact OW
  isplitl [G7]
  · iexact G7
  isplitl [Y7]
  · iexact Y7
  isplitl [Ro0]
  · iexact Ro0
  isplitl [OS0]
  · iexact OS0
  iexact ZO0

/-- Part 23 of the program. -/
theorem part23 (v25 : BitVec 32) (Kt : _ → sProp 𝕄) :
    iprop(Rec m K ∗ FWQ m c ∗ PO (F := F) c 0 0 ∗ PR2 (F := F) c (opp c) 256 ∗ Z (F := F) c (oSem 0) ∗ Await (F := F) c 9 ∗ Ow (F := F) c [])
      ⊢ iprop((iprop(FWQ m c ∗ FlO m c (oSem 0) (1024 * (opp c).val + 256) ![0, 0, 0] ∗ Ow (F := F) c [] ∗ FG m c 2 768 fullShare ∗ Zr (F := F) c 9) -∗ Kt ⟨k0_pay37 (grows256 m (opp c) 768), 1024#32⟩)
        -∗ Wp c (k0_part23 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v25 (scale m c) (k0_pay35 (grows256 m (opp c) 256))) Kt) := by
  rw [k0_part23_eq_skeleton]; unfold k0_part23_skel
  simp only [semSignalWord, semWaitWord, smemLoad, smemLoadElt, Prog.lift, Prog.bind_op, Prog.bind_ret, Prog.pure_eq_ret, Prog.bind_assoc, wp_deviceId]
  iintro ⟨#HR, WQ, OS0, Ro1, ZO0, A9, OW⟩ Hk
  ihave #Hlev := (rec_lev m K) $$ HR
  iapply (load_wq m c) $$ WQ
  iintro WQ
  iapply (dead_os256 c ![0, 0, 0]) $$ OS0
  iintro %_ OS0
  iapply (store_os256 c ![0, 0, 0] (blk256 (scale m c) (rows256 m (opp c) 256) (WQ m c)) (pay36_eq m (opp c) 256 _ _) ⟨rfl, rfl⟩) $$ OS0
  iintro OS0
  iapply (start_o m c (oSem 0) (opp c) 256 ![0, 0, 0] rfl (off8_eq c 1) rfl (by decide) ⟨rfl, rfl⟩) $$ [OS0 Ro1 ZO0]
  · isplitl [OS0]
    · iexact OS0
    isplitl [Ro1]
    · iexact Ro1
    iexact ZO0
  iintro FO0
  iapply (wait_recv m K c 9 (dstw := gV ![2, 768, 0] (by decide)) [] rfl rfl (by decide)) $$ [A9 OW]
  · isplitr
    · iexact HR
    isplitl [A9]
    · iexact A9
    iexact OW
  iintro ⟨G9, Y9, OW⟩
  ihave HT := (Entails.of_eq (show recvPay m c 9 = FG m c 2 768 fullShare from rfl)) $$ G9
  icases HT with G9
  iapply (load_g m c (opp c) _ fullShare 2 768 rfl (Finset.Subset.refl _)) $$ G9
  iintro G9
  iapply Wp_ret
  iapply Hk $$ [WQ FO0 OW G9 Y9]
  isplitl [WQ]
  · iexact WQ
  isplitl [FO0]
  · iexact FO0
  isplitl [OW]
  · iexact OW
  isplitl [G9]
  · iexact G9
  iexact Y9

/-- Part 24 of the program. -/
theorem part24 (v36 v1024 : BitVec 32) (Kt : _ → sProp 𝕄) :
    iprop(Rec m K ∗ FlO m c (oSem 1) (1024 * (opp c).val + 512) ![1, 0, 0] ∗ Ow (F := F) c [] ∗ FWQ m c ∗ PR2 (F := F) c (opp c) 768)
      ⊢ iprop((iprop(FlO m c (oSem 1) (1024 * (opp c).val + 768) ![1, 0, 0] ∗ Ow (F := F) c [] ∗ FR2 m c (opp c) 512 ∗ FWQ m c) -∗ Kt ⟨⟩)
        -∗ Wp c (k0_part24 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c v36 (scale m c) (k0_pay37 (grows256 m (opp c) 768)) v1024) Kt) := by
  rw [k0_part24_eq_skeleton]; unfold k0_part24_skel
  simp only [semSignalWord, semWaitWord, smemLoad, smemLoadElt, Prog.lift, Prog.bind_op, Prog.bind_ret, Prog.pure_eq_ret, Prog.bind_assoc, wp_deviceId]
  iintro ⟨#HR, FO1, OW, WQ, Ro3⟩ Hk
  ihave #Hlev := (rec_lev m K) $$ HR
  iapply (wait_o m c (oSem 1) (1024 * (opp c).val + 512) ![1, 0, 0] [] rfl (by decide)) $$ [FO1 OW]
  · isplitl [FO1]
    · iexact FO1
    isplitl [OW]
    · iexact OW
    iexact Hlev
  iintro ⟨Ro2, OS1, ZO1, OW⟩
  iapply (load_wq m c) $$ WQ
  iintro WQ
  iapply (dead_os256 c ![1, 0, 0]) $$ OS1
  iintro %_ OS1
  iapply (store_os256 c ![1, 0, 0] (blk256 (scale m c) (rows256 m (opp c) 768) (WQ m c)) (pay38_eq m (opp c) 768 _ _) ⟨rfl, rfl⟩) $$ OS1
  iintro OS1
  iapply (start_o m c (oSem 1) (opp c) 768 ![1, 0, 0] rfl (off8_eq c 3) rfl (by decide) ⟨rfl, rfl⟩) $$ [OS1 Ro3 ZO1]
  · isplitl [OS1]
    · iexact OS1
    isplitl [Ro3]
    · iexact Ro3
    iexact ZO1
  iintro FO1
  iapply Wp_ret
  iapply Hk $$ [FO1 OW Ro2 WQ]
  isplitl [FO1]
  · iexact FO1
  isplitl [OW]
  · iexact OW
  isplitl [Ro2]
  · iexact Ro2
  iexact WQ

/-- Part 25 of the program. -/
theorem part25  (Kt : _ → sProp 𝕄) :
    iprop(Rec m K ∗ FlO m c (oSem 0) (1024 * (opp c).val + 256) ![0, 0, 0] ∗ Ow (F := F) c [] ∗ FlO m c (oSem 1) (1024 * (opp c).val + 768) ![1, 0, 0] ∗ Sent (F := F) c 0 ∗ Sent (F := F) c 1 ∗ Sent (F := F) c 2)
      ⊢ iprop((iprop(Ow (F := F) c [] ∗ FR2 m c (opp c) 256 ∗ PO (F := F) c 0 0 ∗ Z (F := F) c (oSem 0) ∗ FR2 m c (opp c) 768 ∗ PO (F := F) c 1 0 ∗ Z (F := F) c (oSem 1) ∗ sendPay m c 0 ∗ Zs (F := F) c 0 ∗ sendPay m c 1 ∗ Zs (F := F) c 1 ∗ sendPay m c 2 ∗ Zs (F := F) c 2) -∗ Kt ⟨⟩)
        -∗ Wp c (k0_part25 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c) Kt) := by
  rw [k0_part25_eq_skeleton]; unfold k0_part25_skel
  simp only [semSignalWord, semWaitWord, smemLoad, smemLoadElt, Prog.lift, Prog.bind_op, Prog.bind_ret, Prog.pure_eq_ret, Prog.bind_assoc, wp_deviceId]
  iintro ⟨#HR, FO0, OW, FO1, T0, T1, T2⟩ Hk
  ihave #Hlev := (rec_lev m K) $$ HR
  iapply (wait_o m c (oSem 0) (1024 * (opp c).val + 256) ![0, 0, 0] [] rfl (by decide)) $$ [FO0 OW]
  · isplitl [FO0]
    · iexact FO0
    isplitl [OW]
    · iexact OW
    iexact Hlev
  iintro ⟨Ro1, OS0, ZO0, OW⟩
  iapply (wait_o m c (oSem 1) (1024 * (opp c).val + 768) ![1, 0, 0] [] rfl (by decide)) $$ [FO1 OW]
  · isplitl [FO1]
    · iexact FO1
    isplitl [OW]
    · iexact OW
    iexact Hlev
  iintro ⟨Ro3, OS1, ZO1, OW⟩
  iapply (wait_send m K c 0 (dstw := qV ![0, 0] (by decide)) [] rfl rfl (by decide)) $$ [T0 OW]
  · isplitr
    · iexact HR
    isplitl [T0]
    · iexact T0
    iexact OW
  iintro ⟨S0, ZS0, OW⟩
  iapply (wait_send m K c 1 (dstw := qV ![256, 0] (by decide)) [] rfl rfl (by decide)) $$ [T1 OW]
  · isplitr
    · iexact HR
    isplitl [T1]
    · iexact T1
    iexact OW
  iintro ⟨S1, ZS1, OW⟩
  iapply (wait_send m K c 2 (dstw := qqV ![512, 0] (by decide)) [] rfl rfl (by decide)) $$ [T2 OW]
  · isplitr
    · iexact HR
    isplitl [T2]
    · iexact T2
    iexact OW
  iintro ⟨S2, ZS2, OW⟩
  iapply Wp_ret
  iapply Hk $$ [OW Ro1 OS0 ZO0 Ro3 OS1 ZO1 S0 ZS0 S1 ZS1 S2 ZS2]
  isplitl [OW]
  · iexact OW
  isplitl [Ro1]
  · iexact Ro1
  isplitl [OS0]
  · iexact OS0
  isplitl [ZO0]
  · iexact ZO0
  isplitl [Ro3]
  · iexact Ro3
  isplitl [OS1]
  · iexact OS1
  isplitl [ZO1]
  · iexact ZO1
  isplitl [S0]
  · iexact S0
  isplitl [ZS0]
  · iexact ZS0
  isplitl [S1]
  · iexact S1
  isplitl [ZS1]
  · iexact ZS1
  isplitl [S2]
  · iexact S2
  iexact ZS2

/-- Part 26 of the program. -/
theorem part26  (Kt : _ → sProp 𝕄) :
    iprop(Rec m K ∗ Sent (F := F) c 3 ∗ Ow (F := F) c [] ∗ Sent (F := F) c 4 ∗ Sent (F := F) c 5 ∗ Sent (F := F) c 6)
      ⊢ iprop((iprop(Ow (F := F) c [] ∗ sendPay m c 3 ∗ Zs (F := F) c 3 ∗ sendPay m c 4 ∗ Zs (F := F) c 4 ∗ sendPay m c 5 ∗ Zs (F := F) c 5 ∗ sendPay m c 6 ∗ Zs (F := F) c 6) -∗ Kt ⟨⟩)
        -∗ Wp c (k0_part26 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 ) Kt) := by
  rw [k0_part26_eq_skeleton]; unfold k0_part26_skel
  simp only [semSignalWord, semWaitWord, smemLoad, smemLoadElt, Prog.lift, Prog.bind_op, Prog.bind_ret, Prog.pure_eq_ret, Prog.bind_assoc, wp_deviceId]
  iintro ⟨#HR, T3, OW, T4, T5, T6⟩ Hk
  ihave #Hlev := (rec_lev m K) $$ HR
  iapply (wait_send m K c 3 (dstw := qV ![512, 0] (by decide)) [] rfl rfl (by decide)) $$ [T3 OW]
  · isplitr
    · iexact HR
    isplitl [T3]
    · iexact T3
    iexact OW
  iintro ⟨S3, ZS3, OW⟩
  iapply (wait_send m K c 4 (dstw := qV ![768, 0] (by decide)) [] rfl rfl (by decide)) $$ [T4 OW]
  · isplitr
    · iexact HR
    isplitl [T4]
    · iexact T4
    iexact OW
  iintro ⟨S4, ZS4, OW⟩
  iapply (wait_send m K c 5 (dstw := qqV ![0, 0] (by decide)) [] rfl rfl (by decide)) $$ [T5 OW]
  · isplitr
    · iexact HR
    isplitl [T5]
    · iexact T5
    iexact OW
  iintro ⟨S5, ZS5, OW⟩
  iapply (wait_send m K c 6 (dstw := gV ![0, 0, 0] (by decide)) [] rfl rfl (by decide)) $$ [T6 OW]
  · isplitr
    · iexact HR
    isplitl [T6]
    · iexact T6
    iexact OW
  iintro ⟨S6, ZS6, OW⟩
  iapply Wp_ret
  iapply Hk $$ [OW S3 ZS3 S4 ZS4 S5 ZS5 S6 ZS6]
  isplitl [OW]
  · iexact OW
  isplitl [S3]
  · iexact S3
  isplitl [ZS3]
  · iexact ZS3
  isplitl [S4]
  · iexact S4
  isplitl [ZS4]
  · iexact ZS4
  isplitl [S5]
  · iexact S5
  isplitl [ZS5]
  · iexact ZS5
  isplitl [S6]
  · iexact S6
  iexact ZS6

end

end Cert.RunKernelIdeal

end
-- ==== Proof.RunKernelIdeal.Body.lean ====
/-
The whole program, from its parts.
-/
module

public import proofs.«01_k».proof.Proof.RunKernelIdeal.PartsA
public import proofs.«01_k».proof.Proof.RunKernelIdeal.PartsB
public import proofs.«01_k».proof.Proof.RunKernelIdeal.PartsC

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section
variable (K : Dev nD × KI → ℕ) (c : Dev nD)

/-- One piece of the program after another. -/
theorem Wp_bind {α β : Type} {p : Prog (TpuEff nD τ sig (Elt F) Λ₀ .tc) α} {k : α → Prog (TpuEff nD τ sig (Elt F) Λ₀ .tc) β} {Q : β → sProp 𝕄} :
    Wp c p (fun a => Wp c (k a) Q) ⊢ Wp c (p >>= k) Q := Entails.of_eq (wp_bind _ _ _ _ _ _).symm

/-- The first part reads the device's number. -/
theorem part1 (Kt : _ → sProp 𝕄) :
    iprop(∀ v2 v14 v25 v28 v29 v34, Kt ⟨c, v2, v14, v25, v28, v29, v34⟩) ⊢ Wp c (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt := by
  rw [k0_part1_eq_skeleton]; unfold k0_part1_skel
  simp only [semSignalWord, semWaitWord, smemLoad, smemLoadElt, Prog.lift, Prog.bind_op, Prog.bind_ret, Prog.pure_eq_ret, Prog.bind_assoc, wp_deviceId]
  iintro H
  iapply Wp_ret
  iapply H

/-- What a device holds when the program starts. -/
def Begin : sProp 𝕄 := iprop(Ow2 (F := F) c ∗ dutyTok ER (barCell (lft c)) 0 true ∗ dutyTok ER (barCell (rgt c)) 0 false ∗ AwaitBar (F := F) c ∗ Place (F := F) c 0 ∗ Unsent (F := F) c 0 ∗ Await (F := F) c 0 ∗ Place (F := F) c 1 ∗ Unsent (F := F) c 1 ∗ Await (F := F) c 1 ∗ Place (F := F) c 2 ∗ Unsent (F := F) c 2 ∗ Await (F := F) c 2 ∗ Place (F := F) c 3 ∗ Unsent (F := F) c 3 ∗ Await (F := F) c 3 ∗ Place (F := F) c 4 ∗ Unsent (F := F) c 4 ∗ Await (F := F) c 4 ∗ Place (F := F) c 5 ∗ Unsent (F := F) c 5 ∗ Await (F := F) c 5 ∗ Place (F := F) c 6 ∗ Unsent (F := F) c 6 ∗ Await (F := F) c 6 ∗ Place (F := F) c 7 ∗ Unsent (F := F) c 7 ∗ Await (F := F) c 7 ∗ Place (F := F) c 8 ∗ Unsent (F := F) c 8 ∗ Await (F := F) c 8 ∗ Place (F := F) c 9 ∗ Unsent (F := F) c 9 ∗ Await (F := F) c 9 ∗ Z (F := F) c (xSem 0) ∗ Z (F := F) c (xSem 1) ∗ Z (F := F) c (xSem 2) ∗ Z (F := F) c (xSem 3) ∗ Z (F := F) c (wSem 0) ∗ Z (F := F) c (oSem 0) ∗ PWS (F := F) c 0 ∗ POO (F := F) c 0 0 ∗ Z (F := F) c (wSem 1) ∗ Z (F := F) c (oSem 1) ∗ PWS (F := F) c 1 ∗ POO (F := F) c 1 0 ∗ PX m c 0 ∗ PXS (F := F) c 0 0 ∗ PQ (F := F) c 0 ∗ PX m c 256 ∗ PXS (F := F) c 0 256 ∗ PQ (F := F) c 256 ∗ PX m c 512 ∗ PXS (F := F) c 1 0 ∗ PQ (F := F) c 512 ∗ PX m c 768 ∗ PXS (F := F) c 1 256 ∗ PQ (F := F) c 768 ∗ PW m c fullShare.left ∗ PW m c fullShare.right ∗ WQP m c 0 ∗ PSX m c ∗ PSW m c ∗ PR5 (F := F) c c 0 ∗ PR5 (F := F) c c 512 ∗ PR5 (F := F) c (lft c) 0 ∗ PR5 (F := F) c (lft c) 512 ∗ PR5 (F := F) c (rgt c) 0 ∗ PR5 (F := F) c (rgt c) 512 ∗ PR2 (F := F) c (opp c) 0 ∗ PR2 (F := F) c (opp c) 256 ∗ PR2 (F := F) c (opp c) 512 ∗ PR2 (F := F) c (opp c) 768)
/-- What it holds when all but the last wait is done. -/
def Almost : sProp 𝕄 := iprop(semVal (barCell c) 0 ∗ PX m c 0 ∗ Z (F := F) c (xSem 0) ∗ FXS m c 0 0 ∗ PX m c 512 ∗ Z (F := F) c (xSem 2) ∗ FXS m c 1 0 ∗ PX m c 256 ∗ Z (F := F) c (xSem 1) ∗ FXS m c 0 256 ∗ PX m c 768 ∗ Z (F := F) c (xSem 3) ∗ FXS m c 1 256 ∗ PW m c fullShare.left ∗ Z (F := F) c (wSem 0) ∗ PWS (F := F) c 0 ∗ PW m c fullShare.right ∗ Z (F := F) c (wSem 1) ∗ PWS (F := F) c 1 ∗ PSX m c ∗ PSW m c ∗ FQQ m c 0 qC ∗ FQQ m c 512 qC ∗ Zr (F := F) c 0 ∗ Zr (F := F) c 1 ∗ Zr (F := F) c 3 ∗ Zr (F := F) c 4 ∗ Sent (F := F) c 9 ∗ FGG m c 0 0 fullShare.right ∗ FR5 m c c 0 ∗ FGG m c 1 512 fullShare.right ∗ FR5 m c c 512 ∗ Zr (F := F) c 2 ∗ FGG m c 0 512 fullShare ∗ FR5 m c (lft c) 0 ∗ Zr (F := F) c 5 ∗ FGG m c 1 0 fullShare ∗ FR5 m c (rgt c) 512 ∗ Zr (F := F) c 6 ∗ FG m c 2 0 fullShare ∗ FR5 m c (lft c) 512 ∗ PO (F := F) c 0 256 ∗ Zr (F := F) c 8 ∗ FG m c 2 512 fullShare ∗ FR5 m c (rgt c) 0 ∗ PO (F := F) c 1 256 ∗ Zr (F := F) c 7 ∗ FG m c 2 256 fullShare ∗ FR2 m c (opp c) 0 ∗ Zr (F := F) c 9 ∗ FG m c 2 768 fullShare ∗ FR2 m c (opp c) 512 ∗ FWQ m c ∗ FR2 m c (opp c) 256 ∗ PO (F := F) c 0 0 ∗ Z (F := F) c (oSem 0) ∗ FR2 m c (opp c) 768 ∗ PO (F := F) c 1 0 ∗ Z (F := F) c (oSem 1) ∗ sendPay m c 0 ∗ Zs (F := F) c 0 ∗ sendPay m c 1 ∗ Zs (F := F) c 1 ∗ sendPay m c 2 ∗ Zs (F := F) c 2 ∗ sendPay m c 3 ∗ Zs (F := F) c 3 ∗ sendPay m c 4 ∗ Zs (F := F) c 4 ∗ sendPay m c 5 ∗ Zs (F := F) c 5 ∗ sendPay m c 6 ∗ Zs (F := F) c 6 ∗ sendPay m c 7 ∗ Zs (F := F) c 7 ∗ sendPay m c 8 ∗ Zs (F := F) c 8 ∗ Ow (F := F) c [])
/-- What it holds when the program ends. -/
def Finish : sProp 𝕄 := iprop(semVal (barCell c) 0 ∗ PX m c 0 ∗ Z (F := F) c (xSem 0) ∗ FXS m c 0 0 ∗ PX m c 512 ∗ Z (F := F) c (xSem 2) ∗ FXS m c 1 0 ∗ PX m c 256 ∗ Z (F := F) c (xSem 1) ∗ FXS m c 0 256 ∗ PX m c 768 ∗ Z (F := F) c (xSem 3) ∗ FXS m c 1 256 ∗ PW m c fullShare.left ∗ Z (F := F) c (wSem 0) ∗ PWS (F := F) c 0 ∗ PW m c fullShare.right ∗ Z (F := F) c (wSem 1) ∗ PWS (F := F) c 1 ∗ PSX m c ∗ PSW m c ∗ FQQ m c 0 qC ∗ FQQ m c 512 qC ∗ Zr (F := F) c 0 ∗ Zr (F := F) c 1 ∗ Zr (F := F) c 3 ∗ Zr (F := F) c 4 ∗ FGG m c 0 0 fullShare.right ∗ FR5 m c c 0 ∗ FGG m c 1 512 fullShare.right ∗ FR5 m c c 512 ∗ Zr (F := F) c 2 ∗ FGG m c 0 512 fullShare ∗ FR5 m c (lft c) 0 ∗ Zr (F := F) c 5 ∗ FGG m c 1 0 fullShare ∗ FR5 m c (rgt c) 512 ∗ Zr (F := F) c 6 ∗ FG m c 2 0 fullShare ∗ FR5 m c (lft c) 512 ∗ PO (F := F) c 0 256 ∗ Zr (F := F) c 8 ∗ FG m c 2 512 fullShare ∗ FR5 m c (rgt c) 0 ∗ PO (F := F) c 1 256 ∗ Zr (F := F) c 7 ∗ FG m c 2 256 fullShare ∗ FR2 m c (opp c) 0 ∗ Zr (F := F) c 9 ∗ FG m c 2 768 fullShare ∗ FR2 m c (opp c) 512 ∗ FWQ m c ∗ FR2 m c (opp c) 256 ∗ PO (F := F) c 0 0 ∗ Z (F := F) c (oSem 0) ∗ FR2 m c (opp c) 768 ∗ PO (F := F) c 1 0 ∗ Z (F := F) c (oSem 1) ∗ sendPay m c 0 ∗ Zs (F := F) c 0 ∗ sendPay m c 1 ∗ Zs (F := F) c 1 ∗ sendPay m c 2 ∗ Zs (F := F) c 2 ∗ sendPay m c 3 ∗ Zs (F := F) c 3 ∗ sendPay m c 4 ∗ Zs (F := F) c 4 ∗ sendPay m c 5 ∗ Zs (F := F) c 5 ∗ sendPay m c 6 ∗ Zs (F := F) c 6 ∗ sendPay m c 7 ∗ Zs (F := F) c 7 ∗ sendPay m c 8 ∗ Zs (F := F) c 8 ∗ sendPay m c 9 ∗ Zs (F := F) c 9 ∗ Ow (F := F) c [])

set_option maxHeartbeats 4000000 in
/-- The whole program but its last wait. -/
theorem part27 (Kt : _ → sProp 𝕄) :
    iprop(Rec m K ∗ Begin m c) ⊢ iprop((Almost m c -∗ Kt ⟨⟩) -∗ Wp c (k0_part27 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  rw [k0_part27_eq_skeleton]; unfold k0_part27_skel Begin
  iintro ⟨#HR, OW, BL, BR, AB, P0, U0, A0, P1, U1, A1, P2, U2, A2, P3, U3, A3, P4, U4, A4, P5, U5, A5, P6, U6, A6, P7, U7, A7, P8, U8, A8, P9, U9, A9, ZX0, ZX1, ZX2, ZX3, ZW0, ZO0, WS0, OS0, ZW1, ZO1, WS1, OS1, X0, XS0, Q0, X1, XS1, Q1, X2, XS2, Q2, X3, XS3, Q3, WL, WR, WQ, SX, SW, Rc0, Rc512, Rl0, Rl512, Rr0, Rr512, Ro0, Ro1, Ro2, Ro3⟩ Hk
  iapply Wp_bind
  iapply part1
  iintro %v2 %v14 %v25 %v28 %v29 %v34
  dsimp only
  iapply Wp_bind
  iapply (part2 m K c v2 v28 v29 v34 _) $$ [X0 XS0 ZX0 X2 XS2 ZX2 X1 XS1 ZX1 X3 XS3 ZX3]
  · isplitr
    · iexact HR
    isplitl [X0]
    · iexact X0
    isplitl [XS0]
    · iexact XS0
    isplitl [ZX0]
    · iexact ZX0
    isplitl [X2]
    · iexact X2
    isplitl [XS2]
    · iexact XS2
    isplitl [ZX2]
    · iexact ZX2
    isplitl [X1]
    · iexact X1
    isplitl [XS1]
    · iexact XS1
    isplitl [ZX1]
    · iexact ZX1
    isplitl [X3]
    · iexact X3
    isplitl [XS3]
    · iexact XS3
    iexact ZX3
  iintro %v36 %v57 ⟨FX0, FX2, FX1, FX3⟩
  dsimp only
  iapply Wp_bind
  iapply (part3 m K c v14 v25 v57 _) $$ [WL WS0 ZW0 WR WS1 ZW1 OW BL P0 P1 P2 P6 P7 BR P3 P4 P5 P8 P9 AB FX0 Q0]
  · isplitr
    · iexact HR
    isplitl [WL]
    · iexact WL
    isplitl [WS0]
    · iexact WS0
    isplitl [ZW0]
    · iexact ZW0
    isplitl [WR]
    · iexact WR
    isplitl [WS1]
    · iexact WS1
    isplitl [ZW1]
    · iexact ZW1
    isplitl [OW]
    · iexact OW
    isplitl [BL]
    · iexact BL
    isplitl [P0]
    · iexact P0
    isplitl [P1]
    · iexact P1
    isplitl [P2]
    · iexact P2
    isplitl [P6]
    · iexact P6
    isplitl [P7]
    · iexact P7
    isplitl [BR]
    · iexact BR
    isplitl [P3]
    · iexact P3
    isplitl [P4]
    · iexact P4
    isplitl [P5]
    · iexact P5
    isplitl [P8]
    · iexact P8
    isplitl [P9]
    · iexact P9
    isplitl [AB]
    · iexact AB
    isplitl [FX0]
    · iexact FX0
    iexact Q0
  iintro ⟨FW0, FW1, OW, ZB, L0, L1, L2, L6, L7, L3, L4, L5, L8, L9, XS0, X0, ZX0, Q0, S0⟩
  iapply Wp_bind
  iapply (part4 m K c v14 v25 _) $$ [U0 S0 L0 OW FX2 Q2 U3 L3]
  · isplitr
    · iexact HR
    isplitl [U0]
    · iexact U0
    isplitl [S0]
    · iexact S0
    isplitl [L0]
    · iexact L0
    isplitl [OW]
    · iexact OW
    isplitl [FX2]
    · iexact FX2
    isplitl [Q2]
    · iexact Q2
    isplitl [U3]
    · iexact U3
    iexact L3
  iintro ⟨OW, T0, XS2, X2, ZX2, Q2, T3⟩
  iapply Wp_bind
  iapply (part5 m K c v25 _) $$ [FX1 OW Q1 U1 L1 FX3]
  · isplitr
    · iexact HR
    isplitl [FX1]
    · iexact FX1
    isplitl [OW]
    · iexact OW
    isplitl [Q1]
    · iexact Q1
    isplitl [U1]
    · iexact U1
    isplitl [L1]
    · iexact L1
    iexact FX3
  iintro ⟨OW, XS1, X1, ZX1, Q1, T1, XS3, X3, ZX3⟩
  iapply Wp_bind
  iapply (part6 m K c v14 v25 _) $$ [Q3 U4 L4 OW Q2 U2 L2]
  · isplitr
    · iexact HR
    isplitl [Q3]
    · iexact Q3
    isplitl [U4]
    · iexact U4
    isplitl [L4]
    · iexact L4
    isplitl [OW]
    · iexact OW
    isplitl [Q2]
    · iexact Q2
    isplitl [U2]
    · iexact U2
    iexact L2
  iintro ⟨OW, T4, QQ1, T2⟩
  iapply Wp_bind
  iapply (part7 m K c v57 _) $$ [Q0 Q1 U5 L5 OW FW0 WQ FW1]
  · isplitr
    · iexact HR
    isplitl [Q0]
    · iexact Q0
    isplitl [Q1]
    · iexact Q1
    isplitl [U5]
    · iexact U5
    isplitl [L5]
    · iexact L5
    isplitl [OW]
    · iexact OW
    isplitl [FW0]
    · iexact FW0
    isplitl [WQ]
    · iexact WQ
    iexact FW1
  iintro %v198 ⟨QQ0, OW, T5, FW0, WQ, WS1, WR, ZW1⟩
  dsimp only
  iapply Wp_bind
  iapply (part8 m K c v57 v198 _) $$ [WQ WR WS1 ZW1 FW0 OW]
  · isplitr
    · iexact HR
    isplitl [WQ]
    · iexact WQ
    isplitl [WR]
    · iexact WR
    isplitl [WS1]
    · iexact WS1
    isplitl [ZW1]
    · iexact ZW1
    isplitl [FW0]
    · iexact FW0
    iexact OW
  iintro ⟨WQ, FW1, FW0, OW⟩
  iapply Wp_bind
  iapply (part9 m K c v57 _) $$ [FW1 OW WQ FW0]
  · isplitr
    · iexact HR
    isplitl [FW1]
    · iexact FW1
    isplitl [OW]
    · iexact OW
    isplitl [WQ]
    · iexact WQ
    iexact FW0
  iintro ⟨FW1, OW, WQ, WS0, WL, ZW0⟩
  iapply Wp_bind
  iapply (part10 m K c v57 _) $$ [WL WS0 ZW0 FW1 OW WQ]
  · isplitr
    · iexact HR
    isplitl [WL]
    · iexact WL
    isplitl [WS0]
    · iexact WS0
    isplitl [ZW0]
    · iexact ZW0
    isplitl [FW1]
    · iexact FW1
    isplitl [OW]
    · iexact OW
    iexact WQ
  iintro %v283 ⟨WL, WS0, ZW0, FW1, OW, WQ⟩
  dsimp only
  iapply Wp_bind
  iapply (part11 m K c v2 v283 _) $$ [WQ FW1 OW SX SW QQ0 OS0]
  · isplitr
    · iexact HR
    isplitl [WQ]
    · iexact WQ
    isplitl [FW1]
    · iexact FW1
    isplitl [OW]
    · iexact OW
    isplitl [SX]
    · iexact SX
    isplitl [SW]
    · iexact SW
    isplitl [QQ0]
    · iexact QQ0
    iexact OS0
  iintro ⟨WQ, OW, WS1, WR, ZW1, SX, SW, QQ0, OS0⟩
  dsimp only
  iapply Wp_bind
  iapply (part12 m K c v2 _) $$ [OS0 Rc0 ZO0 QQ1 WQ OS1 Rc512 ZO1]
  · isplitr
    · iexact HR
    isplitl [OS0]
    · iexact OS0
    isplitl [Rc0]
    · iexact Rc0
    isplitl [ZO0]
    · iexact ZO0
    isplitl [QQ1]
    · iexact QQ1
    isplitl [WQ]
    · iexact WQ
    isplitl [OS1]
    · iexact OS1
    isplitl [Rc512]
    · iexact Rc512
    iexact ZO1
  iintro ⟨FO0, QQ1, WQ, FO1⟩
  iapply Wp_bind
  iapply (part13 m K c v14 v25 _) $$ [A0 OW A1 U6 L6]
  · isplitr
    · iexact HR
    isplitl [A0]
    · iexact A0
    isplitl [OW]
    · iexact OW
    isplitl [A1]
    · iexact A1
    isplitl [U6]
    · iexact U6
    iexact L6
  iintro ⟨OW, G0, Y0, G1, Y1, S7, T6⟩
  iapply Wp_bind
  iapply (part14 m K c v14 v25 _) $$ [U7 S7 L7 OW A3 A4]
  · isplitr
    · iexact HR
    isplitl [U7]
    · iexact U7
    isplitl [S7]
    · iexact S7
    isplitl [L7]
    · iexact L7
    isplitl [OW]
    · iexact OW
    isplitl [A3]
    · iexact A3
    iexact A4
  iintro ⟨OW, T7, G3, Y3, S8, G4, Y4, S9⟩
  iapply Wp_bind
  iapply (part15 m K c v14 _) $$ [U8 S8 L8 OW U9 S9 L9 G0 G1 FO0 WQ]
  · isplitr
    · iexact HR
    isplitl [U8]
    · iexact U8
    isplitl [S8]
    · iexact S8
    isplitl [L8]
    · iexact L8
    isplitl [OW]
    · iexact OW
    isplitl [U9]
    · iexact U9
    isplitl [S9]
    · iexact S9
    isplitl [L9]
    · iexact L9
    isplitl [G0]
    · iexact G0
    isplitl [G1]
    · iexact G1
    isplitl [FO0]
    · iexact FO0
    iexact WQ
  iintro ⟨OW, T8, T9, GG0, Rc0, OS0, ZO0, WQ⟩
  dsimp only
  iapply Wp_bind
  iapply (part16 m K c v25 _) $$ [OS0 Rl0 ZO0 G3 G4 FO1 OW WQ]
  · isplitr
    · iexact HR
    isplitl [OS0]
    · iexact OS0
    isplitl [Rl0]
    · iexact Rl0
    isplitl [ZO0]
    · iexact ZO0
    isplitl [G3]
    · iexact G3
    isplitl [G4]
    · iexact G4
    isplitl [FO1]
    · iexact FO1
    isplitl [OW]
    · iexact OW
    iexact WQ
  iintro ⟨FO0, GG1, OW, Rc512, OS1, ZO1, WQ⟩
  dsimp only
  iapply Wp_bind
  iapply (part17 m K c v14 _) $$ [OS1 Rr512 ZO1 A2 OW FO0]
  · isplitr
    · iexact HR
    isplitl [OS1]
    · iexact OS1
    isplitl [Rr512]
    · iexact Rr512
    isplitl [ZO1]
    · iexact ZO1
    isplitl [A2]
    · iexact A2
    isplitl [OW]
    · iexact OW
    iexact FO0
  iintro ⟨FO1, OW, G2, Y2, Rl0, OS0, ZO0⟩
  iapply Wp_bind
  iapply (part18 m K c v25 _) $$ [WQ OS0 Rl512 ZO0 A5 OW]
  · isplitr
    · iexact HR
    isplitl [WQ]
    · iexact WQ
    isplitl [OS0]
    · iexact OS0
    isplitl [Rl512]
    · iexact Rl512
    isplitl [ZO0]
    · iexact ZO0
    isplitl [A5]
    · iexact A5
    iexact OW
  iintro ⟨WQ, FO0, OW, G5, Y5⟩
  iapply Wp_bind
  iapply (part19 m K c v14 _) $$ [FO1 OW WQ Rr0]
  · isplitr
    · iexact HR
    isplitl [FO1]
    · iexact FO1
    isplitl [OW]
    · iexact OW
    isplitl [WQ]
    · iexact WQ
    iexact Rr0
  iintro ⟨FO1, OW, Rr512, WQ⟩
  iapply Wp_bind
  iapply (part20 m K c v36 _) $$ [A6 OW FO0 WQ]
  · isplitr
    · iexact HR
    isplitl [A6]
    · iexact A6
    isplitl [OW]
    · iexact OW
    isplitl [FO0]
    · iexact FO0
    iexact WQ
  iintro ⟨OW, G6, Y6, Rl512, OS0, ZO0, OT0, WQ⟩
  iapply Wp_bind
  iapply (part21 m K c v25 v36 _) $$ [OS0 Ro0 ZO0 A8 OW FO1 WQ]
  · isplitr
    · iexact HR
    isplitl [OS0]
    · iexact OS0
    isplitl [Ro0]
    · iexact Ro0
    isplitl [ZO0]
    · iexact ZO0
    isplitl [A8]
    · iexact A8
    isplitl [OW]
    · iexact OW
    isplitl [FO1]
    · iexact FO1
    iexact WQ
  iintro ⟨FO0, OW, G8, Y8, Rr0, OS1, ZO1, OT1, WQ⟩
  iapply Wp_bind
  iapply (part22 m K c v14 v36 _) $$ [OS1 Ro2 ZO1 A7 OW FO0]
  · isplitr
    · iexact HR
    isplitl [OS1]
    · iexact OS1
    isplitl [Ro2]
    · iexact Ro2
    isplitl [ZO1]
    · iexact ZO1
    isplitl [A7]
    · iexact A7
    isplitl [OW]
    · iexact OW
    iexact FO0
  iintro ⟨FO1, OW, G7, Y7, Ro0, OS0, ZO0⟩
  iapply Wp_bind
  iapply (part23 m K c v25 _) $$ [WQ OS0 Ro1 ZO0 A9 OW]
  · isplitr
    · iexact HR
    isplitl [WQ]
    · iexact WQ
    isplitl [OS0]
    · iexact OS0
    isplitl [Ro1]
    · iexact Ro1
    isplitl [ZO0]
    · iexact ZO0
    isplitl [A9]
    · iexact A9
    iexact OW
  iintro ⟨WQ, FO0, OW, G9, Y9⟩
  dsimp only
  iapply Wp_bind
  iapply (part24 m K c v36 _ _) $$ [FO1 OW WQ Ro3]
  · isplitr
    · iexact HR
    isplitl [FO1]
    · iexact FO1
    isplitl [OW]
    · iexact OW
    isplitl [WQ]
    · iexact WQ
    iexact Ro3
  iintro ⟨FO1, OW, Ro2, WQ⟩
  iapply Wp_bind
  iapply (part25 m K c  _) $$ [FO0 OW FO1 T0 T1 T2]
  · isplitr
    · iexact HR
    isplitl [FO0]
    · iexact FO0
    isplitl [OW]
    · iexact OW
    isplitl [FO1]
    · iexact FO1
    isplitl [T0]
    · iexact T0
    isplitl [T1]
    · iexact T1
    iexact T2
  iintro ⟨OW, Ro1, OS0, ZO0, Ro3, OS1, ZO1, S0, ZS0, S1, ZS1, S2, ZS2⟩
  iapply Wp_bind
  iapply (part26 m K c  _) $$ [T3 OW T4 T5 T6]
  · isplitr
    · iexact HR
    isplitl [T3]
    · iexact T3
    isplitl [OW]
    · iexact OW
    isplitl [T4]
    · iexact T4
    isplitl [T5]
    · iexact T5
    iexact T6
  iintro ⟨OW, S3, ZS3, S4, ZS4, S5, ZS5, S6, ZS6⟩
  simp only [semSignalWord, semWaitWord, smemLoad, smemLoadElt, Prog.lift, Prog.bind_op, Prog.bind_ret, Prog.pure_eq_ret, Prog.bind_assoc, wp_deviceId]
  iapply (wait_send m K c 7 (dstw := gV ![0, 256, 0] (by decide)) [] rfl rfl (by decide)) $$ [T7 OW]
  · isplitr
    · iexact HR
    isplitl [T7]
    · iexact T7
    iexact OW
  iintro ⟨S7, ZS7, OW⟩
  iapply (wait_send m K c 8 (dstw := gV ![1, 512, 0] (by decide)) [] rfl rfl (by decide)) $$ [T8 OW]
  · isplitr
    · iexact HR
    isplitl [T8]
    · iexact T8
    iexact OW
  iintro ⟨S8, ZS8, OW⟩
  iapply Wp_ret
  iapply Hk
  unfold Almost
  isplitl [ZB]
  · iexact ZB
  isplitl [X0]
  · iexact X0
  isplitl [ZX0]
  · iexact ZX0
  isplitl [XS0]
  · iexact XS0
  isplitl [X2]
  · iexact X2
  isplitl [ZX2]
  · iexact ZX2
  isplitl [XS2]
  · iexact XS2
  isplitl [X1]
  · iexact X1
  isplitl [ZX1]
  · iexact ZX1
  isplitl [XS1]
  · iexact XS1
  isplitl [X3]
  · iexact X3
  isplitl [ZX3]
  · iexact ZX3
  isplitl [XS3]
  · iexact XS3
  isplitl [WL]
  · iexact WL
  isplitl [ZW0]
  · iexact ZW0
  isplitl [WS0]
  · iexact WS0
  isplitl [WR]
  · iexact WR
  isplitl [ZW1]
  · iexact ZW1
  isplitl [WS1]
  · iexact WS1
  isplitl [SX]
  · iexact SX
  isplitl [SW]
  · iexact SW
  isplitl [QQ0]
  · iexact QQ0
  isplitl [QQ1]
  · iexact QQ1
  isplitl [Y0]
  · iexact Y0
  isplitl [Y1]
  · iexact Y1
  isplitl [Y3]
  · iexact Y3
  isplitl [Y4]
  · iexact Y4
  isplitl [T9]
  · iexact T9
  isplitl [GG0]
  · iexact GG0
  isplitl [Rc0]
  · iexact Rc0
  isplitl [GG1]
  · iexact GG1
  isplitl [Rc512]
  · iexact Rc512
  isplitl [Y2]
  · iexact Y2
  isplitl [G2]
  · iexact G2
  isplitl [Rl0]
  · iexact Rl0
  isplitl [Y5]
  · iexact Y5
  isplitl [G5]
  · iexact G5
  isplitl [Rr512]
  · iexact Rr512
  isplitl [Y6]
  · iexact Y6
  isplitl [G6]
  · iexact G6
  isplitl [Rl512]
  · iexact Rl512
  isplitl [OT0]
  · iexact OT0
  isplitl [Y8]
  · iexact Y8
  isplitl [G8]
  · iexact G8
  isplitl [Rr0]
  · iexact Rr0
  isplitl [OT1]
  · iexact OT1
  isplitl [Y7]
  · iexact Y7
  isplitl [G7]
  · iexact G7
  isplitl [Ro0]
  · iexact Ro0
  isplitl [Y9]
  · iexact Y9
  isplitl [G9]
  · iexact G9
  isplitl [Ro2]
  · iexact Ro2
  isplitl [WQ]
  · iexact WQ
  isplitl [Ro1]
  · iexact Ro1
  isplitl [OS0]
  · iexact OS0
  isplitl [ZO0]
  · iexact ZO0
  isplitl [Ro3]
  · iexact Ro3
  isplitl [OS1]
  · iexact OS1
  isplitl [ZO1]
  · iexact ZO1
  isplitl [S0]
  · iexact S0
  isplitl [ZS0]
  · iexact ZS0
  isplitl [S1]
  · iexact S1
  isplitl [ZS1]
  · iexact ZS1
  isplitl [S2]
  · iexact S2
  isplitl [ZS2]
  · iexact ZS2
  isplitl [S3]
  · iexact S3
  isplitl [ZS3]
  · iexact ZS3
  isplitl [S4]
  · iexact S4
  isplitl [ZS4]
  · iexact ZS4
  isplitl [S5]
  · iexact S5
  isplitl [ZS5]
  · iexact ZS5
  isplitl [S6]
  · iexact S6
  isplitl [ZS6]
  · iexact ZS6
  isplitl [S7]
  · iexact S7
  isplitl [ZS7]
  · iexact ZS7
  isplitl [S8]
  · iexact S8
  isplitl [ZS8]
  · iexact ZS8
  iexact OW

set_option maxHeartbeats 1000000 in
/-- The whole program. -/
theorem program (Kt : _ → sProp 𝕄) :
    iprop(Rec m K ∗ Begin m c) ⊢ iprop((Finish m c -∗ Kt ⟨⟩) -∗ Wp c (cc0__body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Kt) := by
  rw [cc0__body_eq_skeleton]; unfold cc0__body_skel
  iintro ⟨#HR, HB⟩ Hk
  iapply Wp_bind
  iapply (part27 m K c _) $$ [HB]
  · isplitr
    · iexact HR
    iexact HB
  unfold Almost
  iintro ⟨ZB, X0, ZX0, XS0, X2, ZX2, XS2, X1, ZX1, XS1, X3, ZX3, XS3, WL, ZW0, WS0, WR, ZW1, WS1, SX, SW, QQ0, QQ1, Y0, Y1, Y3, Y4, T9, GG0, Rc0, GG1, Rc512, Y2, G2, Rl0, Y5, G5, Rr512, Y6, G6, Rl512, OT0, Y8, G8, Rr0, OT1, Y7, G7, Ro0, Y9, G9, Ro2, WQ, Ro1, OS0, ZO0, Ro3, OS1, ZO1, S0, ZS0, S1, ZS1, S2, ZS2, S3, ZS3, S4, ZS4, S5, ZS5, S6, ZS6, S7, ZS7, S8, ZS8, OW⟩
  dsimp only
  simp only [semSignalWord, semWaitWord, smemLoad, smemLoadElt, Prog.lift, Prog.bind_op, Prog.bind_ret, Prog.pure_eq_ret, Prog.bind_assoc, wp_deviceId]
  iapply (wait_send m K c 9 (dstw := gV ![1, 768, 0] (by decide)) [] rfl rfl (by decide)) $$ [T9 OW]
  · isplitr
    · iexact HR
    isplitl [T9]
    · iexact T9
    iexact OW
  iintro ⟨S9, ZS9, OW⟩
  iapply Wp_ret
  iapply Hk
  unfold Finish
  isplitl [ZB]
  · iexact ZB
  isplitl [X0]
  · iexact X0
  isplitl [ZX0]
  · iexact ZX0
  isplitl [XS0]
  · iexact XS0
  isplitl [X2]
  · iexact X2
  isplitl [ZX2]
  · iexact ZX2
  isplitl [XS2]
  · iexact XS2
  isplitl [X1]
  · iexact X1
  isplitl [ZX1]
  · iexact ZX1
  isplitl [XS1]
  · iexact XS1
  isplitl [X3]
  · iexact X3
  isplitl [ZX3]
  · iexact ZX3
  isplitl [XS3]
  · iexact XS3
  isplitl [WL]
  · iexact WL
  isplitl [ZW0]
  · iexact ZW0
  isplitl [WS0]
  · iexact WS0
  isplitl [WR]
  · iexact WR
  isplitl [ZW1]
  · iexact ZW1
  isplitl [WS1]
  · iexact WS1
  isplitl [SX]
  · iexact SX
  isplitl [SW]
  · iexact SW
  isplitl [QQ0]
  · iexact QQ0
  isplitl [QQ1]
  · iexact QQ1
  isplitl [Y0]
  · iexact Y0
  isplitl [Y1]
  · iexact Y1
  isplitl [Y3]
  · iexact Y3
  isplitl [Y4]
  · iexact Y4
  isplitl [GG0]
  · iexact GG0
  isplitl [Rc0]
  · iexact Rc0
  isplitl [GG1]
  · iexact GG1
  isplitl [Rc512]
  · iexact Rc512
  isplitl [Y2]
  · iexact Y2
  isplitl [G2]
  · iexact G2
  isplitl [Rl0]
  · iexact Rl0
  isplitl [Y5]
  · iexact Y5
  isplitl [G5]
  · iexact G5
  isplitl [Rr512]
  · iexact Rr512
  isplitl [Y6]
  · iexact Y6
  isplitl [G6]
  · iexact G6
  isplitl [Rl512]
  · iexact Rl512
  isplitl [OT0]
  · iexact OT0
  isplitl [Y8]
  · iexact Y8
  isplitl [G8]
  · iexact G8
  isplitl [Rr0]
  · iexact Rr0
  isplitl [OT1]
  · iexact OT1
  isplitl [Y7]
  · iexact Y7
  isplitl [G7]
  · iexact G7
  isplitl [Ro0]
  · iexact Ro0
  isplitl [Y9]
  · iexact Y9
  isplitl [G9]
  · iexact G9
  isplitl [Ro2]
  · iexact Ro2
  isplitl [WQ]
  · iexact WQ
  isplitl [Ro1]
  · iexact Ro1
  isplitl [OS0]
  · iexact OS0
  isplitl [ZO0]
  · iexact ZO0
  isplitl [Ro3]
  · iexact Ro3
  isplitl [OS1]
  · iexact OS1
  isplitl [ZO1]
  · iexact ZO1
  isplitl [S0]
  · iexact S0
  isplitl [ZS0]
  · iexact ZS0
  isplitl [S1]
  · iexact S1
  isplitl [ZS1]
  · iexact ZS1
  isplitl [S2]
  · iexact S2
  isplitl [ZS2]
  · iexact ZS2
  isplitl [S3]
  · iexact S3
  isplitl [ZS3]
  · iexact ZS3
  isplitl [S4]
  · iexact S4
  isplitl [ZS4]
  · iexact ZS4
  isplitl [S5]
  · iexact S5
  isplitl [ZS5]
  · iexact ZS5
  isplitl [S6]
  · iexact S6
  isplitl [ZS6]
  · iexact ZS6
  isplitl [S7]
  · iexact S7
  isplitl [ZS7]
  · iexact ZS7
  isplitl [S8]
  · iexact S8
  isplitl [ZS8]
  · iexact ZS8
  isplitl [S9]
  · iexact S9
  isplitl [ZS9]
  · iexact ZS9
  iexact OW
end

end Cert.RunKernelIdeal

end
-- ==== Proof.RunKernelIdeal.Wholes.lean ====
/-
The buffers cut into the pieces the program works on, and put back together when it ends.
-/
module

public import proofs.«01_k».proof.Proof.RunKernelIdeal.Body

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Cuts
omit [FloatOps F]
variable {c : Dev nD} {b : Ref sig .tc} {S T U S₁ S₂ T₁ T₂ : Finset b.ty.shape.Idx} {q : PosShare TreeShare} {f : b.ty.Contents (Elt F)}

theorem At_cut4 (h : Cuts S T U) (h₁ : Cuts S₁ S₂ S) (h₂ : Cuts T₁ T₂ T) :
    (At c b U q f : sProp 𝕄) ⊢ iprop(At c b S₁ q f ∗ At c b S₂ q f ∗ At c b T₁ q f ∗ At c b T₂ q f) :=
  (At_cut h).trans ((BIClass.sep_mono (At_cut h₁) (At_cut h₂)).trans sep_assoc.1)
theorem At_glue4 (h : Cuts S T U) (h₁ : Cuts S₁ S₂ S) (h₂ : Cuts T₁ T₂ T) :
    iprop(At c b S₁ q f ∗ At c b S₂ q f ∗ At c b T₁ q f ∗ At c b T₂ q f) ⊢ (At c b U q f : sProp 𝕄) :=
  sep_assoc.2.trans ((BIClass.sep_mono (At_glue h₁) (At_glue h₂)).trans (At_glue h))
theorem Some_cut4 (h : Cuts S T U) (h₁ : Cuts S₁ S₂ S) (h₂ : Cuts T₁ T₂ T) :
    (Some c b U : sProp 𝕄) ⊢ iprop(Some c b S₁ ∗ Some c b S₂ ∗ Some c b T₁ ∗ Some c b T₂) :=
  (Some_cut h).trans ((BIClass.sep_mono (Some_cut h₁) (Some_cut h₂)).trans sep_assoc.1)
theorem Some_glue4 (h : Cuts S T U) (h₁ : Cuts S₁ S₂ S) (h₂ : Cuts T₁ T₂ T) :
    iprop(Some c b S₁ ∗ Some c b S₂ ∗ Some c b T₁ ∗ Some c b T₂) ⊢ (Some c b U : sProp 𝕄) :=
  sep_assoc.2.trans ((BIClass.sep_mono (Some_glue h₁) (Some_glue h₂)).trans (Some_glue h))
end Cuts

section Wholes
variable (c : Dev nD)

/-- The whole of a buffer of 1024 rows, in halves; of one of two slots, in slots. -/
theorem rows_all : Cuts (box (s := S1024x4096) ![0, 0] S512x4096.size) (box (s := S1024x4096) ![512, 0] S512x4096.size) Finset.univ :=
  box_univ (s := S1024x4096) ![0, 0] (by decide) ▸ cut2 0 512 512 4096 512 1024 rfl rfl
theorem rows_low : Cuts (box (s := S1024x4096) ![0, 0] S256x4096.size) (box (s := S1024x4096) ![256, 0] S256x4096.size) (box (s := S1024x4096) ![0, 0] S512x4096.size) :=
  cut2 0 256 256 4096 256 512 rfl rfl
theorem rows_high : Cuts (box (s := S1024x4096) ![512, 0] S256x4096.size) (box (s := S1024x4096) ![768, 0] S256x4096.size) (box (s := S1024x4096) ![512, 0] S512x4096.size) :=
  cut2 512 256 256 4096 768 512 rfl rfl
theorem xs_all : Cuts (box (s := S2x512x4096) ![0, 0, 0] ![1, 512, 4096]) (box (s := S2x512x4096) ![1, 0, 0] ![1, 512, 4096]) Finset.univ :=
  box_univ (s := S2x512x4096) ![0, 0, 0] (by decide) ▸ cutT 1 512 4096 2 rfl
theorem xs_slot (t : ℕ) : Cuts (box (s := S2x512x4096) ![t, 0, 0] S1x256x4096.size) (box (s := S2x512x4096) ![t, 256, 0] S1x256x4096.size) (box (s := S2x512x4096) ![t, 0, 0] ![1, 512, 4096]) :=
  cut3 t 0 256 256 4096 256 512 rfl rfl
theorem ws_all : Cuts (box (s := S2x4096x256) ![0, 0, 0] S1x4096x256.size) (box (s := S2x4096x256) ![1, 0, 0] S1x4096x256.size) Finset.univ :=
  box_univ (s := S2x4096x256) ![0, 0, 0] (by decide) ▸ cutT 1 4096 256 2 rfl
theorem os_all : Cuts (box (s := S2x512x2048) ![0, 0, 0] S1x512x2048.size) (box (s := S2x512x2048) ![1, 0, 0] S1x512x2048.size) Finset.univ :=
  box_univ (s := S2x512x2048) ![0, 0, 0] (by decide) ▸ cutT 1 512 2048 2 rfl
theorem g_two : Cuts (box (s := S3x1024x4096) ![0, 0, 0] ![1, 1024, 4096]) (box (s := S3x1024x4096) ![1, 0, 0] ![1, 1024, 4096]) (box (s := S3x1024x4096) ![0, 0, 0] ![2, 1024, 4096]) :=
  cutT 1 1024 4096 2 rfl
theorem g_all : Cuts (box (s := S3x1024x4096) ![0, 0, 0] ![2, 1024, 4096]) (box (s := S3x1024x4096) ![2, 0, 0] ![1, 1024, 4096]) Finset.univ :=
  box_univ (s := S3x1024x4096) ![0, 0, 0] (by decide) ▸ cutT 2 1024 4096 3 rfl
theorem g_slot (t : ℕ) : Cuts (box (s := S3x1024x4096) ![t, 0, 0] S1x512x4096.size) (box (s := S3x1024x4096) ![t, 512, 0] S1x512x4096.size) (box (s := S3x1024x4096) ![t, 0, 0] ![1, 1024, 4096]) :=
  cut3 t 0 512 512 4096 512 1024 rfl rfl
theorem g_half (t r r' : ℕ) (h : r' = r + 256) : Cuts (box (s := S3x1024x4096) ![t, r, 0] S1x256x4096.size) (box (s := S3x1024x4096) ![t, r', 0] S1x256x4096.size) (box (s := S3x1024x4096) ![t, r, 0] S1x512x4096.size) :=
  cut3 t r 256 256 4096 r' 512 h rfl

theorem open_x : At c main_arg0 Finset.univ fullShare (X m c) ⊢ iprop(PX m c 0 ∗ PX m c 256 ∗ PX m c 512 ∗ PX m c 768) := At_cut4 rows_all rows_low rows_high
theorem close_x : iprop(PX m c 0 ∗ PX m c 256 ∗ PX m c 512 ∗ PX m c 768) ⊢ At c main_arg0 Finset.univ fullShare (X m c) := At_glue4 rows_all rows_low rows_high
theorem open_w : At c main_arg1 Finset.univ fullShare (W m c) ⊢ iprop(PW m c fullShare.left ∗ PW m c fullShare.right) := At_halve _
theorem close_w : iprop(PW m c fullShare.left ∗ PW m c fullShare.right) ⊢ At c main_arg1 Finset.univ fullShare (W m c) := At_unhalve _
theorem open_xs : Some (F := F) c cc0_scratch0 Finset.univ ⊢ iprop(PXS (F := F) c 0 0 ∗ PXS (F := F) c 0 256 ∗ PXS (F := F) c 1 0 ∗ PXS (F := F) c 1 256) := Some_cut4 xs_all (xs_slot 0) (xs_slot 1)
theorem close_xs : iprop(FXS m c 0 0 ∗ FXS m c 0 256 ∗ FXS m c 1 0 ∗ FXS m c 1 256) ⊢ Some (F := F) c cc0_scratch0 Finset.univ :=
  (At_glue4 xs_all (xs_slot 0) (xs_slot 1)).trans At_some
theorem open_q4 : Some (F := F) c cc0_scratch1 Finset.univ ⊢ iprop(PQ (F := F) c 0 ∗ PQ (F := F) c 256 ∗ PQ (F := F) c 512 ∗ PQ (F := F) c 768) := Some_cut4 rows_all rows_low rows_high
/-- Half of the quantized rows, from the shares its copies returned and the one the loads kept. -/
theorem close_qh (i j k : Fin 10) (b b' : ℕ) (hb : b' = b + 256) (hi : sendPay m c i = FQ m c b qA) (hj : sendPay m c j = FQ m c b' qA) (hk : sendPay m c k = FQQ m c b qB) :
    iprop(sendPay m c i ∗ sendPay m c j ∗ sendPay m c k ∗ FQQ m c b qC) ⊢ FQQ m c b fullShare := by
  rw [hi, hj, hk]
  exact sep_assoc.2.trans ((BIClass.sep_mono (At_glue (cut2 b 256 256 4096 b' 512 hb rfl)) (At_unhalve _)).trans (At_unhalve _))
theorem close_q : iprop(FQQ m c 0 fullShare ∗ FQQ m c 512 fullShare) ⊢ Some (F := F) c cc0_scratch1 Finset.univ := (At_glue rows_all).trans At_some
theorem open_g10 : Some (F := F) c cc0_scratch2 Finset.univ ⊢ iprop(((Place (F := F) c 0 ∗ Place (F := F) c 1) ∗ Place (F := F) c 2)
    ∗ (Place (F := F) c 5 ∗ Place (F := F) c 3 ∗ Place (F := F) c 4) ∗ ((Place (F := F) c 6 ∗ Place (F := F) c 7) ∗ Place (F := F) c 8 ∗ Place (F := F) c 9)) :=
  ((Some_cut g_all).trans (sep_mono_left (Some_cut g_two))).trans (sep_assoc.1.trans (BIClass.sep_mono
    ((Some_cut (g_slot 0)).trans (sep_mono_left (Some_cut (g_half 0 0 256 rfl))))
    (BIClass.sep_mono ((Some_cut (g_slot 1)).trans (BIClass.sep_mono .rfl (Some_cut (g_half 1 512 768 rfl))))
      ((Some_cut (g_slot 2)).trans (BIClass.sep_mono (Some_cut (g_half 2 0 256 rfl)) (Some_cut (g_half 2 512 768 rfl)))))))
/-- Half of a slot of the gathered rows, from the shares the copies passing it on returned and the one the loads kept. -/
theorem close_gh (i j : Fin 10) (t r r' : ℕ) (hr : r' = r + 256) (hi : sendPay m c i = FG m c t r fullShare.left) (hj : sendPay m c j = FG m c t r' fullShare.left) :
    iprop(sendPay m c i ∗ sendPay m c j ∗ FGG m c t r fullShare.right) ⊢ FGG m c t r fullShare := by
  rw [hi, hj]
  exact sep_assoc.2.trans ((sep_mono_left (At_glue (g_half t r r' hr))).trans (At_unhalve _))
theorem close_g : iprop((FGG m c 0 0 fullShare ∗ FGG m c 0 512 fullShare) ∗ (FGG m c 1 0 fullShare ∗ FGG m c 1 512 fullShare)
    ∗ ((FG m c 2 0 fullShare ∗ FG m c 2 256 fullShare) ∗ FG m c 2 512 fullShare ∗ FG m c 2 768 fullShare)) ⊢ Some (F := F) c cc0_scratch2 Finset.univ :=
  ((BIClass.sep_mono (At_glue (g_slot 0)) (BIClass.sep_mono (At_glue (g_slot 1))
      ((BIClass.sep_mono (At_glue (g_half 2 0 256 rfl)) (At_glue (g_half 2 512 768 rfl))).trans (At_glue (g_slot 2))))).trans
    (sep_assoc.2.trans ((sep_mono_left (At_glue g_two)).trans (At_glue g_all)))).trans At_some
theorem open_wq : Some (F := F) c cc0_scratch3 Finset.univ ⊢ WQP m c 0 := by
  unfold Some; iintro ⟨%f, H⟩; iapply (WQP_zero m c f); iexact H
theorem open_ws : Some (F := F) c cc0_scratch4 Finset.univ ⊢ iprop(PWS (F := F) c 0 ∗ PWS (F := F) c 1) := Some_cut ws_all
theorem close_ws : iprop(PWS (F := F) c 0 ∗ PWS (F := F) c 1) ⊢ Some (F := F) c cc0_scratch4 Finset.univ := Some_glue ws_all
theorem open_os : Some (F := F) c cc0_scratch5 Finset.univ ⊢ iprop(POO (F := F) c 0 0 ∗ POO (F := F) c 1 0) := Some_cut os_all
theorem close_os : iprop((PO (F := F) c 0 0 ∗ PO (F := F) c 0 256) ∗ (PO (F := F) c 1 0 ∗ PO (F := F) c 1 256)) ⊢ Some (F := F) c cc0_scratch5 Finset.univ :=
  (BIClass.sep_mono (glue_o c 0) (glue_o c 1)).trans (Some_glue os_all)

/-- The rows of the result that belong to device `d`. -/
def devRows (d : Dev nD) : Finset S4096x2048.Idx := box (s := S4096x2048) ![1024 * d.val + 0, 0] ![1024, 2048]
theorem devRows_disjoint (d d' : Dev nD) (h : d ≠ d') : Disjoint (devRows d) (devRows d') := by
  unfold devRows
  rw [Finset.disjoint_left]; intro i hi hj
  rw [mem_box2] at hi hj
  have h1 : 1024 * d.val + 0 ≤ (i 0).val := hi.1.1
  have h2 : (i 0).val < 1024 * d.val + 0 + 1024 := hi.1.2
  have h3 : 1024 * d'.val + 0 ≤ (i 0).val := hj.1.1
  have h4 : (i 0).val < 1024 * d'.val + 0 + 1024 := hj.1.2
  exact h (Fin.ext (by omega))
theorem devRows_all : (Finset.univ : Finset (Dev nD)).biUnion devRows = Finset.univ := by
  ext i
  refine ⟨fun _ => Finset.mem_univ i, fun _ => Finset.mem_biUnion.mpr ⟨devOf (i 0).val, Finset.mem_univ _, ?_⟩⟩
  unfold devRows
  rw [mem_box2]
  have h0 : (i 0).val < 4096 := (i 0).isLt
  have h1 : (i 1).val < 2048 := (i 1).isLt
  show (1024 * ((i 0).val / 1024 % 4) + 0 ≤ (i 0).val ∧ (i 0).val < 1024 * ((i 0).val / 1024 % 4) + 0 + 1024) ∧ (0 ≤ (i 1).val ∧ (i 1).val < 0 + 2048)
  omega
theorem devs_all : (Finset.univ : Finset (Dev nD)) = [c, lft c, rgt c, opp c].toFinset := by revert c; decide
theorem devs_nodup : [c, lft c, rgt c, opp c].Nodup := by revert c; decide

/-- The whole result, by the devices whose rows it holds. -/
theorem out_devs (f : (main_v1 : Ref sig .tc).ty.Contents (Elt F)) : (At c main_v1 Finset.univ fullShare f : sProp 𝕄)
    = iprop(At c main_v1 (devRows c) fullShare f ∗ At c main_v1 (devRows (lft c)) fullShare f ∗ At c main_v1 (devRows (rgt c)) fullShare f ∗ At c main_v1 (devRows (opp c)) fullShare f) := by
  unfold At
  rw [← devRows_all, pointsTo_biUnion _ _ (fun d _ d' _ h => devRows_disjoint d d' h), bigSep_univ_eq_bigSepL [c, lft c, rgt c, opp c] (devs_all c) (devs_nodup c)]
  rw [bigSepL_cons_cons, bigSepL_cons_cons, bigSepL_cons_cons, bigSepL_singleton]; rfl
theorem dev_halves (d : Dev nD) : Cuts (box (s := S4096x2048) ![1024 * d.val + 0, 0] S512x2048.size) (box (s := S4096x2048) ![1024 * d.val + 512, 0] S512x2048.size) (devRows d) :=
  cut2 (1024 * d.val + 0) 512 512 2048 (1024 * d.val + 512) 1024 rfl rfl
theorem dev_half_low (d : Dev nD) : Cuts (box (s := S4096x2048) ![1024 * d.val + 0, 0] S256x2048.size) (box (s := S4096x2048) ![1024 * d.val + 256, 0] S256x2048.size)
    (box (s := S4096x2048) ![1024 * d.val + 0, 0] S512x2048.size) := cut2 (1024 * d.val + 0) 256 256 2048 (1024 * d.val + 256) 512 rfl rfl
theorem dev_half_high (d : Dev nD) : Cuts (box (s := S4096x2048) ![1024 * d.val + 512, 0] S256x2048.size) (box (s := S4096x2048) ![1024 * d.val + 768, 0] S256x2048.size)
    (box (s := S4096x2048) ![1024 * d.val + 512, 0] S512x2048.size) := cut2 (1024 * d.val + 512) 256 256 2048 (1024 * d.val + 768) 512 rfl rfl

theorem open_out : Some (F := F) c main_v1 Finset.univ ⊢ iprop((PR5 (F := F) c c 0 ∗ PR5 (F := F) c c 512) ∗ (PR5 (F := F) c (lft c) 0 ∗ PR5 (F := F) c (lft c) 512)
    ∗ (PR5 (F := F) c (rgt c) 0 ∗ PR5 (F := F) c (rgt c) 512) ∗ (PR2 (F := F) c (opp c) 0 ∗ PR2 (F := F) c (opp c) 256 ∗ PR2 (F := F) c (opp c) 512 ∗ PR2 (F := F) c (opp c) 768)) := by
  refine BIBase.Entails.trans ?_ (BIClass.sep_mono (Some_cut (dev_halves c)) (BIClass.sep_mono (Some_cut (dev_halves (lft c))) (BIClass.sep_mono (Some_cut (dev_halves (rgt c)))
    (Some_cut4 (dev_halves (opp c)) (dev_half_low (opp c)) (dev_half_high (opp c))))))
  unfold Some
  iintro ⟨%f, H⟩
  ihave H := (Entails.of_eq (out_devs c f)) $$ H
  icases H with ⟨H1, H2, H3, H4⟩
  isplitl [H1]; · iexists f; iexact H1
  isplitl [H2]; · iexists f; iexact H2
  isplitl [H3]; · iexists f; iexact H3
  iexists f; iexact H4
theorem close_out : iprop((FR5 m c c 0 ∗ FR5 m c c 512) ∗ (FR5 m c (lft c) 0 ∗ FR5 m c (lft c) 512)
    ∗ (FR5 m c (rgt c) 0 ∗ FR5 m c (rgt c) 512) ∗ (FR2 m c (opp c) 0 ∗ FR2 m c (opp c) 256 ∗ FR2 m c (opp c) 512 ∗ FR2 m c (opp c) 768))
    ⊢ At c main_v1 Finset.univ fullShare (OUT m c) :=
  (BIClass.sep_mono (At_glue (dev_halves c)) (BIClass.sep_mono (At_glue (dev_halves (lft c))) (BIClass.sep_mono (At_glue (dev_halves (rgt c)))
    (At_glue4 (dev_halves (opp c)) (dev_half_low (opp c)) (dev_half_high (opp c)))))).trans (Entails.of_eq (out_devs c _).symm)

/-- The ten copies' numbers. -/
abbrev ten : List (Fin 10) := [0, 1, 2, 3, 4, 5, 6, 7, 8, 9]
omit [FloatOps F] in
theorem bigSep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL ten (by decide) (by decide) Φ

/-- The local semaphores, at zero. -/
def Zlocal : sProp 𝕄 := iprop(Z (F := F) c (xSem 0) ∗ Z (F := F) c (xSem 1) ∗ Z (F := F) c (xSem 2) ∗ Z (F := F) c (xSem 3)
  ∗ Z (F := F) c (wSem 0) ∗ Z (F := F) c (wSem 1) ∗ Z (F := F) c (oSem 0) ∗ Z (F := F) c (oSem 1))
/-- The kernel's own buffers, at some contents. -/
def Scratch : sProp 𝕄 := iprop(Some (F := F) c cc0_scratch0 Finset.univ ∗ Some (F := F) c cc0_scratch1 Finset.univ ∗ Some (F := F) c cc0_scratch2 Finset.univ
  ∗ Some (F := F) c cc0_scratch3 Finset.univ ∗ Some (F := F) c cc0_scratch4 Finset.univ ∗ Some (F := F) c cc0_scratch5 Finset.univ)
/-- The tokens and credits of device `c`. -/
def Tokens : sProp 𝕄 := iprop(dutyTok ER (barCell (lft c)) 0 true ∗ dutyTok ER (barCell (rgt c)) 0 false ∗ AwaitBar (F := F) c
  ∗ (bigSep Finset.univ fun i : Fin 10 => Unsent (F := F) c i) ∗ (bigSep Finset.univ fun i : Fin 10 => Await (F := F) c i))

set_option maxHeartbeats 1000000 in
/-- What the program starts from, out of whole buffers. -/
theorem begin_intro : iprop(At c main_arg0 Finset.univ fullShare (X m c) ∗ At c main_arg1 Finset.univ fullShare (W m c) ∗ Some (F := F) c main_v1 Finset.univ
    ∗ Scratch (F := F) c ∗ Zlocal (F := F) c ∗ Tokens (F := F) c ∗ Ow2 (F := F) c ∗ PSX m c ∗ PSW m c) ⊢ Begin m c := by
  unfold Scratch Zlocal Tokens Begin
  iintro ⟨HX, HW, HO, ⟨H0, H1, H2, H3, H4, H5⟩, ⟨ZX0, ZX1, ZX2, ZX3, ZW0, ZW1, ZO0, ZO1⟩, ⟨BL, BR, AB, HU, HA⟩, OW, SX, SW⟩
  ihave HT := (open_x m c) $$ HX
  icases HT with ⟨X0, X1, X2, X3⟩
  ihave HT := (open_w m c) $$ HW
  icases HT with ⟨WL, WR⟩
  ihave HT := (open_xs c) $$ H0
  icases HT with ⟨XS0, XS1, XS2, XS3⟩
  ihave HT := (open_q4 c) $$ H1
  icases HT with ⟨Q0, Q1, Q2, Q3⟩
  ihave HT := (open_wq m c) $$ H3
  icases HT with WQ
  ihave HT := (open_ws c) $$ H4
  icases HT with ⟨WS0, WS1⟩
  ihave HT := (open_os c) $$ H5
  icases HT with ⟨OS0, OS1⟩
  ihave HT := (open_g10 c) $$ H2
  icases HT with ⟨⟨⟨P0, P1⟩, P2⟩, ⟨P5, P3, P4⟩, ⟨⟨P6, P7⟩, P8, P9⟩⟩
  ihave HT := (open_out c) $$ HO
  icases HT with ⟨⟨Rc0, Rc512⟩, ⟨Rl0, Rl512⟩, ⟨Rr0, Rr512⟩, ⟨Ro0, Ro1, Ro2, Ro3⟩⟩
  ihave HT := (Entails.of_eq (bigSep_ten fun i => Unsent (F := F) c i)) $$ HU
  icases HT with ⟨U0, U1, U2, U3, U4, U5, U6, U7, U8, U9⟩
  ihave HT := (Entails.of_eq (bigSep_ten fun i => Await (F := F) c i)) $$ HA
  icases HT with ⟨A0, A1, A2, A3, A4, A5, A6, A7, A8, A9⟩
  isplitl [OW]
  · iexact OW
  isplitl [BL]
  · iexact BL
  isplitl [BR]
  · iexact BR
  isplitl [AB]
  · iexact AB
  isplitl [P0]
  · iexact P0
  isplitl [U0]
  · iexact U0
  isplitl [A0]
  · iexact A0
  isplitl [P1]
  · iexact P1
  isplitl [U1]
  · iexact U1
  isplitl [A1]
  · iexact A1
  isplitl [P2]
  · iexact P2
  isplitl [U2]
  · iexact U2
  isplitl [A2]
  · iexact A2
  isplitl [P3]
  · iexact P3
  isplitl [U3]
  · iexact U3
  isplitl [A3]
  · iexact A3
  isplitl [P4]
  · iexact P4
  isplitl [U4]
  · iexact U4
  isplitl [A4]
  · iexact A4
  isplitl [P5]
  · iexact P5
  isplitl [U5]
  · iexact U5
  isplitl [A5]
  · iexact A5
  isplitl [P6]
  · iexact P6
  isplitl [U6]
  · iexact U6
  isplitl [A6]
  · iexact A6
  isplitl [P7]
  · iexact P7
  isplitl [U7]
  · iexact U7
  isplitl [A7]
  · iexact A7
  isplitl [P8]
  · iexact P8
  isplitl [U8]
  · iexact U8
  isplitl [A8]
  · iexact A8
  isplitl [P9]
  · iexact P9
  isplitl [U9]
  · iexact U9
  isplitl [A9]
  · iexact A9
  isplitl [ZX0]
  · iexact ZX0
  isplitl [ZX1]
  · iexact ZX1
  isplitl [ZX2]
  · iexact ZX2
  isplitl [ZX3]
  · iexact ZX3
  isplitl [ZW0]
  · iexact ZW0
  isplitl [ZO0]
  · iexact ZO0
  isplitl [WS0]
  · iexact WS0
  isplitl [OS0]
  · iexact OS0
  isplitl [ZW1]
  · iexact ZW1
  isplitl [ZO1]
  · iexact ZO1
  isplitl [WS1]
  · iexact WS1
  isplitl [OS1]
  · iexact OS1
  isplitl [X0]
  · iexact X0
  isplitl [XS0]
  · iexact XS0
  isplitl [Q0]
  · iexact Q0
  isplitl [X1]
  · iexact X1
  isplitl [XS1]
  · iexact XS1
  isplitl [Q1]
  · iexact Q1
  isplitl [X2]
  · iexact X2
  isplitl [XS2]
  · iexact XS2
  isplitl [Q2]
  · iexact Q2
  isplitl [X3]
  · iexact X3
  isplitl [XS3]
  · iexact XS3
  isplitl [Q3]
  · iexact Q3
  isplitl [WL]
  · iexact WL
  isplitl [WR]
  · iexact WR
  isplitl [WQ]
  · iexact WQ
  isplitl [SX]
  · iexact SX
  isplitl [SW]
  · iexact SW
  isplitl [Rc0]
  · iexact Rc0
  isplitl [Rc512]
  · iexact Rc512
  isplitl [Rl0]
  · iexact Rl0
  isplitl [Rl512]
  · iexact Rl512
  isplitl [Rr0]
  · iexact Rr0
  isplitl [Rr512]
  · iexact Rr512
  isplitl [Ro0]
  · iexact Ro0
  isplitl [Ro1]
  · iexact Ro1
  isplitl [Ro2]
  · iexact Ro2
  iexact Ro3

set_option maxHeartbeats 1000000 in
/-- What the program ends with, as whole buffers. -/
theorem finish_elim : Finish m c ⊢ iprop(At c main_arg0 Finset.univ fullShare (X m c) ∗ At c main_arg1 Finset.univ fullShare (W m c) ∗ At c main_v1 Finset.univ fullShare (OUT m c)
    ∗ Scratch (F := F) c ∗ Zlocal (F := F) c ∗ semVal (barCell c) 0 ∗ (bigSep Finset.univ fun i : Fin 10 => Zs (F := F) c i) ∗ (bigSep Finset.univ fun i : Fin 10 => Zr (F := F) c i)
    ∗ Ow (F := F) c [] ∗ PSX m c ∗ PSW m c) := by
  unfold Scratch Zlocal Finish
  iintro ⟨ZB, X0, ZX0, XS0, X2, ZX2, XS2, X1, ZX1, XS1, X3, ZX3, XS3, WL, ZW0, WS0, WR, ZW1, WS1, SX, SW, QQ0, QQ1, Y0, Y1, Y3, Y4, GG0, Rc0, GG1, Rc512, Y2, G2, Rl0, Y5, G5, Rr512, Y6, G6, Rl512, OT0, Y8, G8, Rr0, OT1, Y7, G7, Ro0, Y9, G9, Ro2, WQ, Ro1, OS0, ZO0, Ro3, OS1, ZO1, S0, ZS0, S1, ZS1, S2, ZS2, S3, ZS3, S4, ZS4, S5, ZS5, S6, ZS6, S7, ZS7, S8, ZS8, S9, ZS9, OW⟩
  ihave HX := (close_x m c) $$ [X0 X1 X2 X3]
  · isplitl [X0]
    · iexact X0
    isplitl [X1]
    · iexact X1
    isplitl [X2]
    · iexact X2
    iexact X3
  ihave HW := (close_w m c) $$ [WL WR]
  · isplitl [WL]
    · iexact WL
    iexact WR
  ihave H0 := (close_xs m c) $$ [XS0 XS1 XS2 XS3]
  · isplitl [XS0]
    · iexact XS0
    isplitl [XS1]
    · iexact XS1
    isplitl [XS2]
    · iexact XS2
    iexact XS3
  ihave HQ0 := (close_qh m c 0 1 5 0 256 rfl rfl rfl rfl) $$ [S0 S1 S5 QQ0]
  · isplitl [S0]
    · iexact S0
    isplitl [S1]
    · iexact S1
    isplitl [S5]
    · iexact S5
    iexact QQ0
  ihave HQ1 := (close_qh m c 3 4 2 512 768 rfl rfl rfl rfl) $$ [S3 S4 S2 QQ1]
  · isplitl [S3]
    · iexact S3
    isplitl [S4]
    · iexact S4
    isplitl [S2]
    · iexact S2
    iexact QQ1
  ihave H1 := (close_q m c) $$ [HQ0 HQ1]
  · isplitl [HQ0]
    · iexact HQ0
    iexact HQ1
  ihave HG0 := (close_gh m c 6 7 0 0 256 rfl rfl rfl) $$ [S6 S7 GG0]
  · isplitl [S6]
    · iexact S6
    isplitl [S7]
    · iexact S7
    iexact GG0
  ihave HG1 := (close_gh m c 8 9 1 512 768 rfl rfl rfl) $$ [S8 S9 GG1]
  · isplitl [S8]
    · iexact S8
    isplitl [S9]
    · iexact S9
    iexact GG1
  ihave H2 := (close_g m c) $$ [HG0 G2 G5 HG1 G6 G7 G8 G9]
  · isplitl [HG0 G2]
    · isplitl [HG0]
      · iexact HG0
      iexact G2
    isplitl [G5 HG1]
    · isplitl [G5]
      · iexact G5
      iexact HG1
    isplitl [G6 G7]
    · isplitl [G6]
      · iexact G6
      iexact G7
    isplitl [G8]
    · iexact G8
    iexact G9
  ihave H3 := (At_some) $$ WQ
  ihave H4 := (close_ws c) $$ [WS0 WS1]
  · isplitl [WS0]
    · iexact WS0
    iexact WS1
  ihave H5 := (close_os c) $$ [OS0 OT0 OS1 OT1]
  · isplitl [OS0 OT0]
    · isplitl [OS0]
      · iexact OS0
      iexact OT0
    isplitl [OS1]
    · iexact OS1
    iexact OT1
  ihave HO := (close_out m c) $$ [Rc0 Rc512 Rl0 Rl512 Rr0 Rr512 Ro0 Ro1 Ro2 Ro3]
  · isplitl [Rc0 Rc512]
    · isplitl [Rc0]
      · iexact Rc0
      iexact Rc512
    isplitl [Rl0 Rl512]
    · isplitl [Rl0]
      · iexact Rl0
      iexact Rl512
    isplitl [Rr0 Rr512]
    · isplitl [Rr0]
      · iexact Rr0
      iexact Rr512
    isplitl [Ro0]
    · iexact Ro0
    isplitl [Ro1]
    · iexact Ro1
    isplitl [Ro2]
    · iexact Ro2
    iexact Ro3
  ihave HZs := (Entails.of_eq (bigSep_ten fun i => Zs (F := F) c i).symm) $$ [ZS0 ZS1 ZS2 ZS3 ZS4 ZS5 ZS6 ZS7 ZS8 ZS9]
  · isplitl [ZS0]
    · iexact ZS0
    isplitl [ZS1]
    · iexact ZS1
    isplitl [ZS2]
    · iexact ZS2
    isplitl [ZS3]
    · iexact ZS3
    isplitl [ZS4]
    · iexact ZS4
    isplitl [ZS5]
    · iexact ZS5
    isplitl [ZS6]
    · iexact ZS6
    isplitl [ZS7]
    · iexact ZS7
    isplitl [ZS8]
    · iexact ZS8
    iexact ZS9
  ihave HZr := (Entails.of_eq (bigSep_ten fun i => Zr (F := F) c i).symm) $$ [Y0 Y1 Y2 Y3 Y4 Y5 Y6 Y7 Y8 Y9]
  · isplitl [Y0]
    · iexact Y0
    isplitl [Y1]
    · iexact Y1
    isplitl [Y2]
    · iexact Y2
    isplitl [Y3]
    · iexact Y3
    isplitl [Y4]
    · iexact Y4
    isplitl [Y5]
    · iexact Y5
    isplitl [Y6]
    · iexact Y6
    isplitl [Y7]
    · iexact Y7
    isplitl [Y8]
    · iexact Y8
    iexact Y9
  isplitl [HX]
  · iexact HX
  isplitl [HW]
  · iexact HW
  isplitl [HO]
  · iexact HO
  isplitl [H0 H1 H2 H3 H4 H5]
  · isplitl [H0]
    · iexact H0
    isplitl [H1]
    · iexact H1
    isplitl [H2]
    · iexact H2
    isplitl [H3]
    · iexact H3
    isplitl [H4]
    · iexact H4
    iexact H5
  isplitl [ZX0 ZX1 ZX2 ZX3 ZW0 ZW1 ZO0 ZO1]
  · isplitl [ZX0]
    · iexact ZX0
    isplitl [ZX1]
    · iexact ZX1
    isplitl [ZX2]
    · iexact ZX2
    isplitl [ZX3]
    · iexact ZX3
    isplitl [ZW0]
    · iexact ZW0
    isplitl [ZW1]
    · iexact ZW1
    isplitl [ZO0]
    · iexact ZO0
    iexact ZO1
  isplitl [ZB]
  · iexact ZB
  isplitl [HZs]
  · iexact HZs
  isplitl [HZr]
  · iexact HZr
  isplitl [OW]
  · iexact OW
  isplitl [SX]
  · iexact SX
  iexact SW

end Wholes

end Cert.RunKernelIdeal

end
-- ==== Proof.RunKernelIdeal.Point.lean ====
/-
The program as the body of the one-point pipeline that stages the two scales.
-/
module

public import proofs.«01_k».proof.Proof.RunKernelIdeal.Wholes

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The state at launch: the memory given, no counter raised. -/
def s₀ : MemSt nD τ sig (Elt F) := ⟨m, fun _ => 0, ρ⟩

def pt : Fin cfg0.N := ⟨0, by rw [show cfg0.N = 1 from by decide]; decide⟩
theorem one_pt (t : Fin cfg0.N) : t = pt := by
  obtain ⟨t, ht⟩ := t; have h : cfg0.N = 1 := by decide
  exact Fin.ext (by simp only [pt]; omega)

section Wholes
variable (c : Dev nD)

/-- What device `c` holds of the tokens, with everyone's records. -/
def Dealt : sProp 𝕄 := iprop(∃ K, Rec m K ∗ Tokens (F := F) c)
/-- The three arrays that stay in memory, as launched and as left. -/
def Arrays₀ : sProp 𝕄 := iprop(At c main_arg0 Finset.univ fullShare (X m c) ∗ At c main_arg1 Finset.univ fullShare (W m c) ∗ At c main_v1 Finset.univ fullShare (m ((c : Thread nD τ).loc main_v1)))
def Arrays₁ : sProp 𝕄 := iprop(At c main_arg0 Finset.univ fullShare (X m c) ∗ At c main_arg1 Finset.univ fullShare (W m c) ∗ At c main_v1 Finset.univ fullShare (OUT m c))
/-- The kernel's own semaphores but the local ones, at zero. -/
def Zremote : sProp 𝕄 := iprop((bigSep Finset.univ fun i : Fin 10 => Zs (F := F) c i) ∗ (bigSep Finset.univ fun i : Fin 10 => Zr (F := F) c i))

def Φ₀ : sProp 𝕄 := iprop(Dealt m c ∗ Arrays₀ m c ∗ Scratch (F := F) c ∗ Zlocal (F := F) c)
def Φ₁ : sProp 𝕄 := iprop(Arrays₁ m c ∗ Scratch (F := F) c ∗ Zlocal (F := F) c ∗ Zremote (F := F) c ∗ semVal (barCell c) 0)
end Wholes

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => SX m c
    | ⟨1, _⟩ => SW m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_two (Φ : Fin cfg0.W → sProp 𝕄) : bigSep Finset.univ Φ = iprop(Φ (0 : Fin 2) ∗ Φ (1 : Fin 2)) := bigSep_W0 Φ

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : b.ty.Contents (Elt F), ⌜f = Y⌝ ∗ At c b Finset.univ fullShare f) := by
  unfold owns At; simp only [Memref.view_whole, View.read_whole, View.set_whole]

abbrev stg (c : Dev nD) (b : Ref sig .tc) (Y : b.ty.Contents (Elt F)) : sProp 𝕄 :=
  iprop(∃ f : b.ty.Contents (Elt F), ⌜f = Y⌝ ∗ At c b Finset.univ fullShare f)

/-- The two scales' staging buffers hold the scales. -/
theorem before_x (c : Dev nD) (d) : (dats m ρ 0 c).before (0 : Fin 2) pt d = SX m c := by
  unfold Dat.before; rw [if_pos (fetch0_0 pt)]
  funext i
  exact congrArg (m ((c : Thread nD τ).loc main_arg2)) (funext fun a => Fin.ext (by fin_cases a <;> exact (Nat.lt_one_iff.mp (Fin.isLt _)).trans (Nat.lt_one_iff.mp (Fin.isLt _)).symm))
theorem before_w (c : Dev nD) (d) : (dats m ρ 0 c).before (1 : Fin 2) pt d = SW m c := by
  unfold Dat.before; rw [if_pos (fetch0_1 pt)]
  funext i
  exact congrArg (m ((c : Thread nD τ).loc main_arg3)) (funext fun a => Fin.ext (by fin_cases a <;> exact (Nat.lt_one_iff.mp (Fin.isLt _)).trans (Nat.lt_one_iff.mp (Fin.isLt _)).symm))

def bodyPre (c : Dev nD) : sProp 𝕄 :=
  iprop(Φ₀ m c ∗ (dats m ρ 0 c).owesAt () pt.castSucc
    ∗ (∃ d, stg c cc0_stg0_0 ((dats m ρ 0 c).before (0 : Fin 2) pt d))
    ∗ (∃ d, stg c cc0_stg1_0 ((dats m ρ 0 c).before (1 : Fin 2) pt d)))
def bodyPost (c : Dev nD) : sProp 𝕄 :=
  iprop(Φ₁ m c ∗ (dats m ρ 0 c).owesAt () pt.succ ∗ stg c cc0_stg0_0 (SX m c) ∗ stg c cc0_stg1_0 (SW m c))

/-- What the program starts from, at the pipeline's one point. -/
theorem pre_begin (c : Dev nD) : bodyPre m ρ c ⊢ iprop(∃ K, Rec m K ∗ Begin m c) := by
  unfold bodyPre Φ₀ Dealt Arrays₀ Dat.owesAt Pipeline.owesWithin
  rw [show (dats m ρ 0 c).owed pt.castSucc = O₀ c from rfl]
  iintro ⟨⟨⟨%K, HR, HT⟩, ⟨HX, HW, HO⟩, HS, HZ⟩, ⟨%W', %hW, Ho⟩, ⟨%d0, %g0, %hg0, H0⟩, ⟨%d1, %g1, %hg1, H1⟩⟩
  obtain rfl := hg0.trans (before_x m ρ c d0)
  obtain rfl := hg1.trans (before_w m ρ c d1)
  iexists K
  isplitl [HR]; · iexact HR
  iapply (begin_intro m c)
  isplitl [HX]; · iexact HX
  isplitl [HW]; · iexact HW
  isplitl [HO]; · iapply At_some; iexact HO
  isplitl [HS]; · iexact HS
  isplitl [HZ]; · iexact HZ
  isplitl [HT]; · iexact HT
  isplitl [Ho]; · unfold Ow2; iexists W'; iexact Ho
  isplitl [H0]; · iexact H0
  iexact H1

/-- What it leaves there. -/
theorem finish_post (c : Dev nD) : Finish m c ⊢ bodyPost m ρ c := by
  refine (finish_elim m c).trans ?_
  unfold bodyPost Φ₁ Arrays₁ Zremote Dat.owesAt Pipeline.owesWithin Ow
  rw [show (dats m ρ 0 c).owed pt.succ = 0 from rfl]
  iintro ⟨HX, HW, HO, HS, HZ, HB, HZs, HZr, ⟨%W', Ho⟩, H0, H1⟩
  isplitl [HX HW HO HS HZ HB HZs HZr]
  · isplitl [HX HW HO]
    · isplitl [HX]; · iexact HX
      isplitl [HW]; · iexact HW
      iexact HO
    isplitl [HS]; · iexact HS
    isplitl [HZ]; · iexact HZ
    isplitl [HZs HZr]
    · isplitl [HZs]; · iexact HZs
      iexact HZr
    iexact HB
  isplitl [Ho]
  · iexists W'
    isplitr; · ipureintro; exact fun _ _ => Or.inl trivial
    iexact Ho
  isplitl [H0]
  · iexists _; isplitr; · (ipureintro; rfl)
    iexact H0
  iexists _; isplitr; · (ipureintro; rfl)
  iexact H1

set_option maxRecDepth 8000 in
/-- The program on device `c`, at the pipeline's one point. -/
theorem body_obligation (c : Dev nD) : BodyObligation (dats (F := F) m ρ 0 c) (defs₀ (F := F)) 𝒱₀ () Set.univ := fun t => by
  rw [one_pt t]
  rw [bigSep_two, bigSep_two]
  simp only [owns_whole_eq]
  show bodyPre m ρ c ⊢ Wp c (bodyAt0 (F := F) pt) (fun _ => bodyPost m ρ c)
  refine (pre_begin m ρ c).trans ?_
  iintro ⟨%K, HR, HB⟩
  iapply (program m K c fun _ => bodyPost m ρ c) $$ [HR HB]
  · isplitl [HR]; · iexact HR
    iexact HB
  iintro HF
  iapply (finish_post m ρ c); iexact HF

end Cert.RunKernelIdeal

end
-- ==== Proof.RunKernelIdeal.Launch.lean ====
/-
The launch: the records and tokens dealt to the devices, and the run of the whole program.
-/
module

public import Idealize.ShloMosaic.Lib.Pipeline.CollectiveSegs
public import proofs.«01_k».proof.Proof.RunKernelIdeal.Point

@[expose] public section

noncomputable section

namespace Cert.RunKernelIdeal

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The semaphores -/

/-- The kernel's own semaphores: all but the two the pipeline stages the scales with. -/
abbrev osem (i : Fin 28) : SemLoc sig := .dma ⟨2 + i.val, Nat.lt_of_lt_of_le (Nat.add_lt_add_left i.isLt 2) (by decide)⟩
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  revert k k'
  decide
theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens of a device's own cells: its barrier's second, and the first of each of its cells. -/
abbrev tokOf (cj : Dev nD × Option KI) : GSem nD τ sig × ℕ × Bool := match cj with
  | (c, none) => (barCell c, 0, true) | (c, some k) => (kcell (c, k), 0, false)
theorem tokOf_injective : Function.Injective (tokOf : Dev nD × Option KI → GSem nD τ sig × ℕ × Bool) := by
  rintro ⟨c, j⟩ ⟨c', j'⟩ h
  have h1 := congrArg (fun x : GSem nD τ sig × ℕ × Bool => x.1) h
  have h2 := congrArg (fun x : GSem nD τ sig × ℕ × Bool => x.2.2) h
  rcases j with _ | k <;> rcases j' with _ | k'
  · have h3 : ((c, none) : Dev nD × KI) = (c', none) := kcell_injective h1
    exact congrArg (fun x : Dev nD × KI => (x.1, (none : Option KI))) h3
  · cases h2
  · cases h2
  · have h3 : ((c, k) : Dev nD × KI) = (c', k') := kcell_injective h1
    exact congrArg (fun x : Dev nD × KI => (x.1, some x.2)) h3
def allToks : Finset (GSem nD τ sig × ℕ × Bool) := Finset.univ.map ⟨tokOf, tokOf_injective⟩

def u₀ : UU := (initOf (Pipeline.cells cfgs cellOf_inj) (Pipeline.launchToks cfgs cellOf_inj), (initOf allCells allToks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

theorem bigSep_opt {A : Type} [Fintype A] [DecidableEq A] (Φ : Option A → sProp 𝕄) :
    bigSep Finset.univ Φ = iprop(Φ none ∗ bigSep Finset.univ fun a => Φ (some a)) := by
  rw [bigSep_univ_at Φ none]
  have h : (Finset.univ : Finset (Option A)).erase none = Finset.univ.map Function.Embedding.some := by
    ext x; cases x <;> simp
  rw [h, bigSep_map]
  rfl
theorem bigSep_bool (Φ : Bool → sProp 𝕄) : bigSep Finset.univ Φ = iprop(Φ false ∗ Φ true) := bigSep_univ_eq_bigSepL [false, true] (by decide) (by decide) Φ
/-- Over a device's cells: the barrier's, the send cells, the receive cells. -/
theorem bigSep_cells (Φ : KI → sProp 𝕄) : bigSep Finset.univ Φ
    = iprop(Φ none ∗ (bigSep Finset.univ fun i : Fin 10 => Φ (some (false, i))) ∗ bigSep Finset.univ fun i : Fin 10 => Φ (some (true, i))) := by
  rw [bigSep_opt, bigSep_univ_prod, bigSep_bool]

/-- The duty tokens of device `c`'s own cells. -/
def toks (c : Dev nD) : sProp 𝕄 := iprop(dutyTok ER (barCell c) 0 true ∗ dutyTok ER (barCell c) 0 false
  ∗ (bigSep Finset.univ fun i : Fin 10 => dutyTok ER (sendCell c i) 0 false) ∗ bigSep Finset.univ fun i : Fin 10 => dutyTok ER (recvCell c i) 0 false)

/-- What the launch element deals device `c`. -/
def G (c : Dev nD) : sProp 𝕄 :=
  iprop((bigSep Finset.univ fun k : KI => roundState ER (rd m) (kcell (c, k)) 0)
    ∗ (bigSep Finset.univ fun k : KI => iprop(atPos ER (kcell (c, k)) 0 ∅ 0 ∗ reached ER (kcell (c, k)) 0)) ∗ toks (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_opt, bigSep_cells]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores by what they serve. -/
theorem ownSems0_eq (c : Dev nD) : (Pipeline.ownSems0 (Ix := Unit) (Name := ℕ) (U := UU) (Lvl := ℕ) (Val := Elt F) (τ := τ) osem c : sProp 𝕄)
    = iprop(Zs (F := F) c 0 ∗ Zs (F := F) c 1 ∗ Zs (F := F) c 2 ∗ Zs (F := F) c 3 ∗ Zs (F := F) c 4 ∗ Zs (F := F) c 5 ∗ Zs (F := F) c 6 ∗ Zs (F := F) c 7 ∗ Zs (F := F) c 8 ∗ Zs (F := F) c 9 ∗ Zr (F := F) c 0 ∗ Zr (F := F) c 1 ∗ Zr (F := F) c 2 ∗ Zr (F := F) c 3 ∗ Zr (F := F) c 4 ∗ Zr (F := F) c 5 ∗ Zr (F := F) c 6 ∗ Zr (F := F) c 7 ∗ Zr (F := F) c 8 ∗ Zr (F := F) c 9 ∗ Z (F := F) c (xSem 0) ∗ Z (F := F) c (xSem 1) ∗ Z (F := F) c (xSem 2) ∗ Z (F := F) c (xSem 3) ∗ Z (F := F) c (wSem 0) ∗ Z (F := F) c (wSem 1) ∗ Z (F := F) c (oSem 0) ∗ Z (F := F) c (oSem 1)) := by
  rw [Pipeline.ownSems0_eq_of_list c osem [0, 1, 2, 3, 4, 5, 6, 7, 8, 9, 10, 11, 12, 13, 14, 15, 16, 17, 18, 19, 20, 21, 22, 23, 24, 25, 26, 27] (by decide) (by decide)]; rfl
theorem own_split (c : Dev nD) : (Pipeline.ownSems0 (Ix := Unit) (Name := ℕ) (U := UU) (Lvl := ℕ) (Val := Elt F) (τ := τ) osem c : sProp 𝕄)
    ⊢ iprop(Zremote (F := F) c ∗ Zlocal (F := F) c) := by
  rw [ownSems0_eq]
  unfold Zremote Zlocal
  rw [bigSep_ten, bigSep_ten]
  iintro ⟨S0, S1, S2, S3, S4, S5, S6, S7, S8, S9, R0, R1, R2, R3, R4, R5, R6, R7, R8, R9, L0, L1, L2, L3, L4, L5, L6, L7⟩
  isplitl [S0 S1 S2 S3 S4 S5 S6 S7 S8 S9 R0 R1 R2 R3 R4 R5 R6 R7 R8 R9]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  isplitl [L0]; · iexact L0
  isplitl [L1]; · iexact L1
  isplitl [L2]; · iexact L2
  isplitl [L3]; · iexact L3
  isplitl [L4]; · iexact L4
  isplitl [L5]; · iexact L5
  isplitl [L6]; · iexact L6
  iexact L7
theorem own_join (c : Dev nD) : iprop(Zremote (F := F) c ∗ Zlocal (F := F) c)
    ⊢ (Pipeline.ownSems0 (Ix := Unit) (Name := ℕ) (U := UU) (Lvl := ℕ) (Val := Elt F) (τ := τ) osem c : sProp 𝕄) := by
  rw [ownSems0_eq]
  unfold Zremote Zlocal
  rw [bigSep_ten, bigSep_ten]
  iintro ⟨⟨⟨S0, S1, S2, S3, S4, S5, S6, S7, S8, S9⟩, ⟨R0, R1, R2, R3, R4, R5, R6, R7, R8, R9⟩⟩, ⟨L0, L1, L2, L3, L4, L5, L6, L7⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [L0]; · iexact L0
  isplitl [L1]; · iexact L1
  isplitl [L2]; · iexact L2
  isplitl [L3]; · iexact L3
  isplitl [L4]; · iexact L4
  isplitl [L5]; · iexact L5
  isplitl [L6]; · iexact L6
  iexact L7
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : KI => semVal (kcell (c, k)) 0) ∗ Zlocal (F := F) c) := by
  rw [unscopedSems0_eq, bigSep_cells]
  iintro ⟨HO, HB⟩
  ihave H := (own_split (F := F) c) $$ HO
  unfold Zremote
  icases H with ⟨⟨HS, HR⟩, HL⟩
  isplitr [HL]
  · isplitl [HB]; · iexact HB
    isplitl [HS]; · iexact HS
    iexact HR
  iexact HL

/-! ## The records -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ iprop(toks (F := F) c ∗ Zlocal (F := F) c)) := by
  unfold G
  iintro ⟨Hos, Hus, Hst, Hat, Htok⟩
  ihave H := (sems0 (F := F) c) $$ [Hos Hus]
  · isplitl [Hos] <;> iassumption
  icases H with ⟨Hv, HL⟩
  imod (show iprop((bigSep Finset.univ fun k : KI => semVal (kcell (c, k)) 0) ∗ bigSep Finset.univ fun k : KI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The records but for the levels. -/
def Rec₀ (K : Dev nD × KI → ℕ) : sProp 𝕄 :=
  iprop((bigSep Finset.univ fun ck : Dev nD × KI => cellInv ER (rd m) (K ck) (kcell ck))
    ∗ bigSep Finset.univ fun ck : Dev nD × KI => reached ER (kcell ck) 0)
instance Rec₀_persistent (K : Dev nD × KI → ℕ) : BI.Persistent (Rec₀ m K) := by unfold Rec₀; infer_instance

/-- The tokens device `c` pays with: its neighbours' barriers', its send cells', those of the places its copies land. -/
def payToks (c : Dev nD) : sProp 𝕄 := iprop(dutyTok ER (barCell (lft c)) 0 true ∗ dutyTok ER (barCell (rgt c)) 0 false
  ∗ (bigSep Finset.univ fun i : Fin 10 => dutyTok ER (sendCell c i) 0 false) ∗ bigSep Finset.univ fun i : Fin 10 => dutyTok ER (recvCell (tgt i c) i) 0 false)
def Linear (c : Dev nD) : sProp 𝕄 := iprop((bigSep Finset.univ fun k : KI => atPos ER (kcell (c, k)) 0 ∅ 0) ∗ payToks (F := F) c ∗ Zlocal (F := F) c)
/-- What the global step makes of the deal. -/
def G' (c : Dev nD) : sProp 𝕄 := iprop(∃ K, Rec₀ m K ∗ Linear (F := F) c)

def ringE : Dev nD ≃ Dev nD := ⟨lft, rgt, rgt_lft, lft_rgt⟩
def tgtE (i : Fin 10) : Dev nD ≃ Dev nD := ⟨tgt i, org i, org_tgt i, tgt_org i⟩

/-- The tokens dealt around the ring. -/
theorem toks_around : (bigSep Finset.univ fun c : Dev nD => (toks (F := F) c : sProp 𝕄)) ⊢ bigSep Finset.univ fun c : Dev nD => payToks (F := F) c := by
  have hr : (bigSep Finset.univ fun c : Dev nD => bigSep Finset.univ fun i : Fin 10 => (dutyTok ER (recvCell c i) 0 false : sProp 𝕄))
      = bigSep Finset.univ fun c : Dev nD => bigSep Finset.univ fun i : Fin 10 => (dutyTok ER (recvCell (tgt i c) i) 0 false : sProp 𝕄) := by
    rw [bigSep_univ_comm, bigSep_univ_comm (fun (c : Dev nD) (i : Fin 10) => (dutyTok ER (recvCell (tgt i c) i) 0 false : sProp 𝕄))]
    exact bigSep_congr fun i _ => bigSep_univ_equiv (tgtE i) (fun c : Dev nD => (dutyTok ER (recvCell c i) 0 false : sProp 𝕄))
  unfold toks payToks
  rw [bigSep_sep', bigSep_sep', bigSep_sep', bigSep_sep', bigSep_sep', bigSep_sep',
    bigSep_univ_equiv ringE (fun c : Dev nD => (dutyTok ER (barCell c) 0 true : sProp 𝕄)),
    bigSep_univ_equiv ringE.symm (fun c : Dev nD => (dutyTok ER (barCell c) 0 false : sProp 𝕄)), hr]
  exact .rfl

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ iprop(toks (F := F) c ∗ Zlocal (F := F) c)) : sProp 𝕄)
      ⊢ bigSep Finset.univ (G' m) := by
  rw [bigSep_sep', bigSep_sep', bigSep_sep', ← bigSep_univ_prod (fun ck : Dev nD × KI => iprop(∃ κ : ℕ, cellInv ER (rd m) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok, HL⟩
  ihave HK := (BI.bigSep_exists_pi Finset.univ (fun (ck : Dev nD × KI) (κ : ℕ) => (cellInv ER (rd m) κ (kcell ck) : sProp 𝕄))) $$ HI
  icases HK with ⟨%K, #HI⟩
  ihave Htk := (toks_around (F := F)) $$ Htok
  iapply (bigSep_beside (R := Rec₀ m K) (Φ := fun c => Linear (F := F) c) (Ψ := G' m) fun c _ => by
    unfold G'; iintro ⟨H1, H2⟩; iexists K; isplitl [H1] <;> iassumption)
  isplitr
  · unfold Rec₀; isplitl; · iexact HI
    iexact HR
  · unfold Linear
    rw [bigSep_sep', bigSep_sep']
    isplitl [Hat]; · iexact Hat
    isplitl [Htk]; · iexact Htk
    iexact HL

/-- The global step: the own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem cell_eq {c c' : Dev nD} {k k' : KI} (h : kcell (c, k) = kcell (c', k')) : c = c' ∧ k = k' :=
  ⟨congrArg Prod.fst (kcell_injective h), congrArg Prod.snd (kcell_injective h)⟩

theorem owedL_bar (d c : Dev nD) (l : List (Fin 10)) : owedL d l (barCell c) () = 0 := by
  induction l with
  | nil => rfl
  | cons i l ih =>
    unfold owedL
    rw [Pi.add_apply, Finsupp.add_apply, ih, tallyAt_ne_cell (fun h => by cases (cell_eq (k := none) (k' := some (true, i)) h).2), Finsupp.zero_apply, Nat.add_zero]
theorem owedL_recv (d c : Dev nD) (i : Fin 10) (l : List (Fin 10)) : owedL d l (recvCell c i) () = l.count i * (if d = org i c then NN i else 0) := by
  induction l with
  | nil => rw [List.count_nil, Nat.zero_mul]; rfl
  | cons j l ih =>
    unfold owedL
    rw [Pi.add_apply, Finsupp.add_apply, ih, List.count_cons, Nat.add_mul, tallyAt_apply]
    congr 1
    by_cases hj : j = i
    · subst hj
      rw [if_pos (beq_self_eq_true j), Nat.one_mul]
      by_cases h : d = org j c
      · rw [if_pos h, if_pos ⟨by rw [h, tgt_org], rfl⟩]
      · rw [if_neg h, if_neg fun ⟨h1, _⟩ => h (by have h2 := (cell_eq (c := c) (c' := tgt j d) (k := some (true, j)) (k' := some (true, j)) h1).1; rw [h2, org_tgt])]
    · rw [if_neg (fun h => hj (eq_of_beq h)), Nat.zero_mul, if_neg fun ⟨h1, _⟩ => hj (by
        have h2 := (cell_eq (k := some (true, i)) (k' := some (true, j)) h1).2
        cases h2; rfl)]

theorem owed_bar (d c : Dev nD) : O₀ d (barCell c) () = (if d = lft c then 1 else 0) + (if d = rgt c then 1 else 0) := by
  unfold O₀ O₁
  rw [Pi.add_apply, Finsupp.add_apply, Pi.add_apply, Finsupp.add_apply, owedL_bar, Nat.zero_add, tallyAt_apply, tallyAt_apply]
  congr 1
  · by_cases h : d = lft c
    · rw [if_pos h, if_pos ⟨by rw [h, rgt_lft], rfl⟩]
    · rw [if_neg h, if_neg fun ⟨h1, _⟩ => h (by have h2 := (cell_eq (c := c) (c' := rgt d) (k := none) (k' := none) h1).1; rw [h2, lft_rgt])]
  · by_cases h : d = rgt c
    · rw [if_pos h, if_pos ⟨by rw [h, lft_rgt], rfl⟩]
    · rw [if_neg h, if_neg fun ⟨h1, _⟩ => h (by have h2 := (cell_eq (c := c) (c' := lft d) (k := none) (k' := none) h1).1; rw [h2, rgt_lft])]
theorem owed_recv (d c : Dev nD) (i : Fin 10) : O₀ d (recvCell c i) () = if d = org i c then NN i else 0 := by
  unfold O₀ O₁
  rw [Pi.add_apply, Finsupp.add_apply, Pi.add_apply, Finsupp.add_apply, owedL_recv, show sends.count i = 1 from by revert i; decide, Nat.one_mul,
    tallyAt_ne_cell (fun h => by cases (cell_eq (k := some (true, i)) (k' := none) h).2),
    tallyAt_ne_cell (fun h => by cases (cell_eq (k := some (true, i)) (k' := none) h).2), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
theorem launch_recv (c : Dev nD) (i : Fin 10) :
    tallyOn (recvCell c i) (launchCredit (Pipeline.owing O₀) 0 (recvCell c i)) = (tallyAt (recvCell c i) () (NN i) : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (org i c) fun _ => NN i,
    if_pos (Finset.mem_univ _)]

theorem creds (c : Dev nD) :
    (Pipeline.launchCred O₀ c : sProp 𝕄) ⊢ iprop(cred (tallyAt (barCell c) () 2) ∗ bigSep Finset.univ fun i : Fin 10 => cred (tallyAt (recvCell c i) () (NN i))) := by
  have h : (Pipeline.launchCred O₀ c : sProp 𝕄) ⊢ bigSep Finset.univ fun k : KI => cred (tallyOn (kcell (c, k)) (launchCredit (Pipeline.owing O₀) 0 (kcell (c, k)))) := by
    unfold Pipeline.launchCred
    exact (show _ ⊢ bigSep (Finset.univ.map ⟨csem, csem_injective⟩) _ from BI.bigSep_subset (Finset.subset_univ _)).trans
      (Entails.of_eq (bigSep_map ⟨csem, csem_injective⟩))
  refine h.trans ?_
  rw [bigSep_cells]
  iintro ⟨HB, -, HR⟩
  isplitl [HB]
  · iapply (Entails.of_eq (congrArg cred (launch_bar c))); iexact HB
  · iapply (Entails.of_eq (bigSep_congr fun i _ => congrArg cred (launch_recv c i))); iexact HR

/-! ## The launch's side conditions -/

/-- What device `c` has when its kernel is called. -/
def atStart (c : Dev nD) : sProp 𝕄 := iprop(Dealt m c ∗ Arrays₀ m c ∗ Zlocal (F := F) c)

theorem dealt_intro (c : Dev nD) : iprop(levAts L lv ∗ Pipeline.launchCred O₀ c ∗ G' m c) ⊢ iprop(Dealt m c ∗ Zlocal (F := F) c) := by
  unfold G' Linear Rec₀ payToks Dealt Rec
  rw [bigSep_cells]
  iintro ⟨HL, HC, ⟨%K, ⟨HI, HR⟩, ⟨HaB, HaS, HaR⟩, ⟨HtL, HtR, HtS, HtV⟩, HZ⟩⟩
  ihave HC := (creds (F := F) c) $$ HC
  icases HC with ⟨HcB, HcR⟩
  isplitr [HZ]
  · iexists K
    isplitl [HI HR HL]
    · isplitl [HI]; · iexact HI
      isplitl [HR]; · iexact HR
      iexact HL
    unfold Tokens AwaitBar Unsent Await
    rw [bigSep_sep', bigSep_sep', bigSep_sep']
    isplitl [HtL]; · iexact HtL
    isplitl [HtR]; · iexact HtR
    isplitl [HcB HaB]
    · isplitl [HcB] <;> iassumption
    isplitl [HtS HtV HaS]
    · isplitl [HtS]; · iexact HtS
      isplitl [HtV] <;> iassumption
    isplitl [HcR] <;> iassumption
  iexact HZ

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(atStart m c ∗ emp) := by
  have hu : (Pipeline.unscopedRestP Pipeline.Prefetch.none cfg0.spec c (fun b => m ((c : Thread nD τ).loc b)) : sProp 𝕄) ⊢ Arrays₀ m c :=
    (Entails.of_eq (unscopedRest0_eq c fun b => m ((c : Thread nD τ).loc b))).trans (by unfold Arrays₀ At; exact .rfl)
  iintro ⟨Hu, HL, HC, -, HG⟩
  ihave HA := hu $$ Hu
  ihave HD := (dealt_intro m c) $$ [HL HC HG]
  · isplitl [HL]; · iexact HL
    isplitl [HC] <;> iassumption
  icases HD with ⟨HD, HZ⟩
  imodintro
  unfold atStart
  isplitl
  · isplitl [HD]; · iexact HD
    isplitl [HA] <;> iassumption
  · iempintro

theorem scratch_eq (c : Dev nD) : (Pipeline.scopedRest (Ix := Unit) (Name := ℕ) (U := UU) (Lvl := ℕ) (Val := Elt F) cfg0.spec c : sProp 𝕄) = Scratch (F := F) c := by
  refine (scopedRest0_eq c).trans ?_
  unfold Scratch Some At
  rfl

theorem phi0_intro (c : Dev nD) :
    iprop(atStart m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold atStart Φ₀
  iintro ⟨⟨HD, HA, HZ⟩, -, HS⟩
  isplitl [HD]; · iexact HD
  isplitl [HA]; · iexact HA
  isplitl [HS] <;> iassumption

theorem phi1_exit (c : Dev nD) :
    (dats m ρ 0 c).Φ (Fin.last cfg0.N) ⊢ iprop(iprop(unscopedSems0 c ∗ Arrays₁ m c) ∗ Pipeline.ownSems0 osem c ∗ Pipeline.scopedRest cfg0.spec c) := by
  rw [show (dats m ρ 0 c).Φ (Fin.last cfg0.N) = Φ₁ m c from rfl, scratch_eq, unscopedSems0_eq]
  unfold Φ₁
  iintro ⟨HA, HS, HL, HR, HB⟩
  isplitl [HA HB]
  · isplitl [HB] <;> iassumption
  isplitl [HL HR]
  · iapply (own_join (F := F) c)
    isplitl [HR] <;> iassumption
  iexact HS

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- After the run, on every device: the arguments as they were, the result as computed. -/
def Done (s : MemSt nD τ sig (Elt F)) : Prop := ∀ c : Dev nD,
  s.mem ((c : Thread nD τ).loc main_arg0) = X m c ∧ s.mem ((c : Thread nD τ).loc main_arg1) = W m c
    ∧ s.mem ((c : Thread nD τ).loc main_arg2) = SX m c ∧ s.mem ((c : Thread nD τ).loc main_arg3) = SW m c
    ∧ s.mem ((c : Thread nD τ).loc main_v1) = OUT m c

/-- What is read of one device's memory when its kernel has returned. -/
def Read (c : Dev nD) (s : MemSt nD τ sig (Elt F)) : Prop :=
  (∀ sm : SemLoc sig, sm.isScoped .tc = false → s.sem ((c.tc : Thread nD τ), sm) = 0)
    ∧ s.mem ((c : Thread nD τ).loc main_arg0) = X m c ∧ s.mem ((c : Thread nD τ).loc main_arg1) = W m c ∧ s.mem ((c : Thread nD τ).loc main_v1) = OUT m c

theorem read_exit (c : Dev nD) (s' : Phys nD τ sig (Elt F)) :
    iprop(iprop(unscopedSems0 c ∗ Arrays₁ m c) ∗ emp ∗ SI s') ⊢ (|={Set.univ}=> iprop(⌜Read m c s'.mem⌝ ∗ SI s') : sProp 𝕄) := by
  unfold Arrays₁ At
  iintro ⟨⟨Hu, HX, HW, HO⟩, -, HSI⟩
  icombine HSI HX gives %hx
  icombine HSI HW gives %hw
  icombine HSI HO gives %ho
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ hx, Buf.eq_of_forall_mem_univ hw, Buf.eq_of_forall_mem_univ ho⟩
  iexact HSI

theorem final_x (c : Dev nD) : (dats m ρ 0 c).arrAt (0 : Fin 2) cfg0.N = SX m c := (dats (F := F) m ρ 0 c).arrAt_in (0 : Fin 2) rfl _
theorem final_w (c : Dev nD) : (dats m ρ 0 c).arrAt (1 : Fin 2) cfg0.N = SW m c := (dats (F := F) m ρ 0 c).arrAt_in (1 : Fin 2) rfl _

set_option maxRecDepth 8000 in
/-- On four devices, for any float values, from any memory with no counter raised: every fair execution of the program terminates, and
    every final state has each device's arguments as they were, its result as computed and every semaphore at zero. -/
theorem run_main : θ_run defs (onTc (τ := τ) (main (F := F))) (s₀ m ρ) (fun r => Done m r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ _ => rfl) (hpf := fun _ k => k.elim0)
    (X := atStart m) (Y := fun c => iprop(unscopedSems0 c ∗ Arrays₁ m c)) (Z := fun _ => iprop(emp))
    (hX := start_intro m ρ) (hin := phi0_intro m ρ) (hout := phi1_exit m ρ)
    (QY := Read m) (hY := read_exit m)
    (hQ := fun _ h hs => ⟨fun c => ⟨(h c).2.2.2.1, (h c).2.2.2.2.1, ((h c).1 (0 : Fin 2)).trans (final_x m ρ c), ((h c).1 (1 : Fin 2)).trans (final_w m ρ c), (h c).2.2.2.2.2⟩,
      sem_eq_zero hs fun c => (h c).2.2.1⟩)

end Cert.RunKernelIdeal

end
-- ==== Proof.Value.lean ====
/-
The kernel's result at the ideal instance, element by element, and its equality with the two references.

At the ideal values a change of float format is the identity and a product of matrices is a sum, so both the kernel's
result and each reference's are one function (`sig`) of the scaled product (`pre`) at the element's row and column.
-/
module

public import proofs.«01_k».proof.Proof.RunKernelIdeal.Launch
public import proofs.«01_k».proof.Proof.Gen.ReferenceIdeal.Read
public import proofs.«01_k».proof.Proof.Gen.UnclippedIdeal.Read
public import proofs.«01_k».proof.Proof.Gen.On_in_clip_range
public import proofs.«01_k».proof.On_in_clip_range
public import Idealize.ShloMosaic.Lib.ValueIdx
public import Idealize.ShloMosaic.Lib.IdealHost
public import Idealize.ShloMosaic.Lib.Layout
public import Idealize.ShloMosaic.PureOps.Ideal.Laws

@[expose] public section

noncomputable section

namespace Cert.Values

open Idealize.ShloMosaic Idealize.ShloMosaic.ValueIdx Cert.RunKernelIdeal
open scoped BigOperators

abbrev A0 : Shape := ⟨2, ![4096, 4096]⟩
abbrev B0 : Shape := ⟨2, ![4096, 8192]⟩
abbrev V1 : Shape := ⟨1, ![1]⟩

/-- The reference's activation: `y / (1 + exp (-y))`. -/
def sig (y : EReal) : EReal := Ideal.div y (1 + Ideal.exp (-y))

/-- One plus an exponential is not zero. -/
theorem den_ne (y : EReal) : 1 + Ideal.exp y ≠ 0 := by
  have h : (0 : EReal) ≤ Ideal.exp y := by
    induction y with
    | bot => simp
    | top => simp
    | coe r => rw [Ideal.exp_coe]; exact_mod_cast (Real.exp_pos r).le
  have h1 : (0 : EReal) < 1 + Ideal.exp y := lt_of_lt_of_le zero_lt_one (le_add_of_nonneg_right h)
  exact h1.ne'

/-- Multiplying by the reciprocal is dividing, at every extended real. -/
theorem sig_eq (y : EReal) : y * Ideal.div 1 (1 + Ideal.exp (0 - y)) = sig y := by
  rw [zero_sub, sig, Ideal.div, Ideal.div, if_neg (den_ne _), if_neg (den_ne _), one_mul]

/-- The kernel's activation at an index. -/
theorem act_apply {s : Shape} (y : FVec Ideal s .f32) (i : s.Idx) : act y i = sig (y i) := by
  rw [← sig_eq]
  show y i * Ideal.div (Ideal.ofBits .f32 0x3F800000#32) (Ideal.ofBits .f32 0x3F800000#32 + Ideal.exp (Ideal.ofBits .f32 0x00000000#32 - y i)) = _
  rw [Ideal.ofBits_one_f32, Ideal.ofBits_zero_f32]

/-- A product of matrices into zero, at an index. -/
theorem plain_apply {M K N : ℕ} {φ₁ φ₂ : FTy} (x : FVec Ideal ⟨2, ![M, K]⟩ φ₁) (w : FVec Ideal ⟨2, ![K, N]⟩ φ₂) (j : (⟨2, ![M, N]⟩ : Shape).Idx) :
    matmul (DotDims.plain M K N) none x w (constant ⟨2, ![M, N]⟩ .f32 0x00000000#32) j = ∑ k : Fin K, x (ix2 (j 0) k) * w (ix2 k (j 1)) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2
  · funext a; apply Fin.ext
    match a with
    | ⟨0, _⟩ => rfl
    | ⟨1, _⟩ => exact hk
  · funext a; apply Fin.ext
    match a with
    | ⟨0, _⟩ => exact hk
    | ⟨1, _⟩ => rfl

section Kernel

variable (m : (ℓ : Loc Cert.KernelIdeal.nD Cert.KernelIdeal.τ Cert.KernelIdeal.sig) → Buf (Elt Ideal) ℓ)

/-- A block of 512 rows at an index, -/
theorem blk512_apply (s : EReal) (x : FVec Ideal ⟨2, ![512, 4096]⟩ .fp8e4m3) (w : FVec Ideal ⟨2, ![4096, 2048]⟩ .fp8e5m2) (j : (⟨2, ![512, 2048]⟩ : Shape).Idx) :
    blk512 (F := Ideal) s x w j = sig ((∑ k : Fin 4096, x (ix2 (j 0) k) * w (ix2 k (j 1))) * s) :=
  (act_apply _ _).trans (congrArg (fun t => sig (t * s)) (plain_apply x w j))

/-- and one of 256 rows. -/
theorem blk256_apply (s : EReal) (x : FVec Ideal ⟨2, ![256, 4096]⟩ .fp8e4m3) (w : FVec Ideal ⟨2, ![4096, 2048]⟩ .fp8e5m2) (j : (⟨2, ![256, 2048]⟩ : Shape).Idx) :
    blk256 (F := Ideal) s x w j = sig ((∑ k : Fin 4096, x (ix2 (j 0) k) * w (ix2 k (j 1))) * s) :=
  (act_apply _ _).trans (congrArg (fun t => sig (t * s)) (plain_apply x w j))

/-- A device's rows of `x`, and its `w`, as extended reals. -/
abbrev XE (c : Dev Cert.KernelIdeal.nD) : (⟨2, ![1024, 4096]⟩ : Shape).Idx → EReal := X m c
abbrev WE (c : Dev Cert.KernelIdeal.nD) : B0.Idx → EReal := W m c

/-- Device `c`'s result at row `r` and column `n`: the activation of the scaled product of row `r` of all devices' rows
    and column `n` of the device's columns, whatever the block it was computed in. -/
theorem OUT_apply (c : Dev Cert.KernelIdeal.nD) (i : (⟨2, ![4096, 2048]⟩ : Shape).Idx) :
    OUT m c i = sig ((∑ k : Fin 4096, XE m (devOf (i 0).val) (xIdx ((i 0).val % 1024) k.val) * WE m c (wIdx k.val (2048 * c.val + (i 1).val))) * scale m c) := by
  have h1 : (i 1).val % 2048 = (i 1).val := Nat.mod_eq_of_lt (idx2_lt1 i)
  unfold OUT
  split
  · rw [blk256_apply]
    refine congrArg (fun t => sig (t * _)) (Finset.sum_congr rfl fun k _ => ?_)
    show XE m _ (xIdx ((i 0).val % 1024 / 256 * 256 + (i 0).val % 256 % 256) k.val) * WE m c (wIdx k.val (2048 * c.val + (i 1).val % 2048)) = _
    rw [h1, show (i 0).val % 1024 / 256 * 256 + (i 0).val % 256 % 256 = (i 0).val % 1024 by omega]
  · rw [blk512_apply]
    refine congrArg (fun t => sig (t * _)) (Finset.sum_congr rfl fun k _ => ?_)
    show XE m _ (xIdx ((i 0).val % 1024 / 512 * 512 + (i 0).val % 512 % 512) k.val) * WE m c (wIdx k.val (2048 * c.val + (i 1).val % 2048)) = _
    rw [h1, show (i 0).val % 1024 / 512 * 512 + (i 0).val % 512 % 512 = (i 0).val % 1024 by omega]

end Kernel

/-- The scaled product of the whole arrays, at an element. -/
def pre (a : A0.Idx → EReal) (b : B0.Idx → EReal) (s t : V1.Idx → EReal) (j : B0.Idx) : EReal :=
  (∑ k : Fin 4096, a (ix2 (j 0) k) * b (ix2 k (j 1))) * (s (ix1 0) * t (ix1 0))

/-- Device `c`'s result is its 2048 columns of the activation of the scaled product of the whole arrays, when each
    device's rows are its 1024 of the whole array's and the other arguments are copies. -/
theorem OUT_block (m : (ℓ : Loc Cert.KernelIdeal.nD Cert.KernelIdeal.τ Cert.KernelIdeal.sig) → Buf (Elt Ideal) ℓ)
    (a : A0.Idx → EReal) (b : B0.Idx → EReal) (s t : V1.Idx → EReal)
    (h0 : ∀ c, X m c = Layout.block ⟨2, ![1024, 4096]⟩ A0 0 4 c a) (h1 : ∀ c, W m c = b) (h2 : ∀ c, SX m c = s) (h3 : ∀ c, SW m c = t)
    (c : Dev Cert.KernelIdeal.nD) :
    OUT m c = Layout.block ⟨2, ![4096, 2048]⟩ B0 1 4 c (fun j => sig (pre a b s t j)) := by
  funext i
  have hr := idx2_lt0 i
  have hc : c.val < 4 := c.isLt
  have hn := idx2_lt1 i
  rw [OUT_apply, Layout.block_apply]
  refine congrArg sig (congrArg₂ (· * ·) (Finset.sum_congr rfl fun k _ => congrArg₂ (· * ·) ?_ ?_) ?_)
  · refine (congrFun (h0 _) _).trans (congrArg a (funext fun e => Fin.ext ?_))
    match e with
    | ⟨0, _⟩ => show (i 0).val / 1024 % 4 * 1024 + (i 0).val % 1024 % 1024 = (i 0).val; omega
    | ⟨1, _⟩ => exact Nat.mod_eq_of_lt k.isLt
  · refine (congrFun (h1 _) _).trans (congrArg b (funext fun e => Fin.ext ?_))
    match e with
    | ⟨0, _⟩ => exact Nat.mod_eq_of_lt k.isLt
    | ⟨1, _⟩ => show (2048 * c.val + (i 1).val) % 8192 = c.val * 2048 + (i 1).val; omega
  · exact congrArg₂ (fun u v : EReal => u * v) ((congrFun (h2 _) _).trans (congrArg s ((eq_ix1 _).trans (congrArg ix1 (Subsingleton.elim _ _)))))
      ((congrFun (h3 _) _).trans (congrArg t ((eq_ix1 _).trans (congrArg ix1 (Subsingleton.elim _ _)))))

/-! ## The references -/

/-- The scaled product, as each reference computes it, at an element. -/
theorem unclipped_pre (a : A0.Idx → EReal) (b : B0.Idx → EReal) (s t : V1.Idx → EReal) (j : B0.Idx) :
    Cert.UnclippedIdeal.Read.val_main_v4 (F := Ideal) a b s t j = pre a b s t j := by
  rw [Cert.UnclippedIdeal.Read.val_main_v4_apply, Cert.UnclippedIdeal.Read.val_main_v0_apply, Cert.UnclippedIdeal.Read.val_main_v3_apply,
    Cert.UnclippedIdeal.Read.val_main_v2_apply]
  exact congrArg₂ (· * ·) (Finset.sum_congr rfl fun k _ => congrArg₂ (· * ·) (congrArg a (eq_ix2 _)) (congrArg b (eq_ix2 _)))
    (congrArg₂ (· * ·) (congrArg s (eq_ix1 _)) (congrArg t (eq_ix1 _)))
theorem clipped_pre (a : A0.Idx → EReal) (b : B0.Idx → EReal) (s t : V1.Idx → EReal) (j : B0.Idx) :
    Cert.ReferenceIdeal.Read.val_main_v4 (F := Ideal) a b s t j = pre a b s t j := by
  rw [Cert.ReferenceIdeal.Read.val_main_v4_apply, Cert.ReferenceIdeal.Read.val_main_v0_apply, Cert.ReferenceIdeal.Read.val_main_v3_apply,
    Cert.ReferenceIdeal.Read.val_main_v2_apply]
  exact congrArg₂ (· * ·) (Finset.sum_congr rfl fun k _ => congrArg₂ (· * ·) (congrArg a (eq_ix2 _)) (congrArg b (eq_ix2 _)))
    (congrArg₂ (· * ·) (congrArg s (eq_ix1 _)) (congrArg t (eq_ix1 _)))

/-- The reference without the clip, at an element. -/
theorem unclipped_apply (a : A0.Idx → EReal) (b : B0.Idx → EReal) (s t : V1.Idx → EReal) (j : B0.Idx) :
    Cert.UnclippedIdeal.Read.val_main_v10 (F := Ideal) a b s t j = sig (pre a b s t j) := by
  show Ideal.div (Cert.UnclippedIdeal.Read.val_main_v4 (F := Ideal) a b s t j)
    (Cert.UnclippedIdeal.Read.val_main_v7 (F := Ideal) j + Ideal.exp (-(Cert.UnclippedIdeal.Read.val_main_v4 (F := Ideal) a b s t j))) = _
  rw [Cert.UnclippedIdeal.Read.val_main_v7_apply, unclipped_pre]
  show Ideal.div _ (Ideal.ofBits .f32 0x3F800000#32 + _) = _
  rw [Ideal.ofBits_one_f32, sig]

/-- The reference with the clip, at an element: the clip is on the exponent. -/
theorem clipped_apply (a : A0.Idx → EReal) (b : B0.Idx → EReal) (s t : V1.Idx → EReal) (j : B0.Idx) :
    Cert.ReferenceIdeal.Read.val_main_v11 (F := Ideal) a b s t j
      = Ideal.div (pre a b s t j) (1 + Ideal.exp (-(min (Ideal.ofBits .f32 0x42700000#32) (max (Ideal.ofBits .f32 0xC2700000#32) (pre a b s t j))))) := by
  show Ideal.div (Cert.ReferenceIdeal.Read.val_main_v4 (F := Ideal) a b s t j)
    (Cert.ReferenceIdeal.Read.val_main_v8 (F := Ideal) j + Ideal.exp (-(min (Cert.ReferenceIdeal.Read.val_main_call0_v4 (F := Ideal) j)
      (max (Cert.ReferenceIdeal.Read.val_main_call0_v1 (F := Ideal) j) (Cert.ReferenceIdeal.Read.val_main_v4 (F := Ideal) a b s t j))))) = _
  rw [Cert.ReferenceIdeal.Read.val_main_v8_apply, Cert.ReferenceIdeal.Read.val_main_call0_v4_apply,
    Cert.ReferenceIdeal.Read.val_main_call0_v1_apply, clipped_pre]
  show Ideal.div _ (Ideal.ofBits .f32 0x3F800000#32 + _) = _
  rw [Ideal.ofBits_one_f32]
  rfl

/-- The clip's two bounds are a number's two signs. -/
theorem bound_neg : Ideal.ofBits .f32 0xC2700000#32 = -(Ideal.ofBits .f32 0x42700000#32) := by
  simp [Ideal.ofBits, Ideal.ieee]

/-- Where the mask is set, the scaled product is within the bounds, -/
theorem mask_le (a : A0.Idx → EReal) (b : B0.Idx → EReal) (s t : V1.Idx → EReal) (j : B0.Idx)
    (h : Cert.On_in_clip_range.fn (F := Ideal) a b s t j = 1#1) :
    max (pre a b s t j) (-(pre a b s t j)) ≤ Ideal.ofBits .f32 0x42700000#32 := by
  rw [← clipped_pre]
  by_contra hn
  have h' : BitVec.ofBool (decide (max (Cert.ReferenceIdeal.Read.val_main_v4 (F := Ideal) a b s t j) (-(Cert.ReferenceIdeal.Read.val_main_v4 (F := Ideal) a b s t j))
      ≤ Cert.ReferenceIdeal.Read.val_main_call0_v4 (F := Ideal) j)) = 1#1 := h
  rw [Cert.ReferenceIdeal.Read.val_main_call0_v4_apply] at h'
  have h2 : BitVec.ofBool (decide (max (Cert.ReferenceIdeal.Read.val_main_v4 (F := Ideal) a b s t j) (-(Cert.ReferenceIdeal.Read.val_main_v4 (F := Ideal) a b s t j))
      ≤ Ideal.ofBits .f32 0x42700000#32)) = 1#1 := h'
  rw [decide_eq_false hn] at h2
  exact absurd h2 (by decide)

/-- so that the two references agree there. -/
theorem clipped_eq (a : A0.Idx → EReal) (b : B0.Idx → EReal) (s t : V1.Idx → EReal) (j : B0.Idx)
    (h : Cert.On_in_clip_range.fn (F := Ideal) a b s t j = 1#1) :
    Cert.ReferenceIdeal.Read.val_main_v11 (F := Ideal) a b s t j = sig (pre a b s t j) := by
  have hm := mask_le a b s t j h
  have h1 := (le_max_left _ _).trans hm
  have h2 : -(Ideal.ofBits .f32 0x42700000#32) ≤ pre a b s t j := EReal.neg_le.mp ((le_max_right _ _).trans hm)
  rw [clipped_apply, bound_neg, max_eq_right h2, min_eq_right h1, sig]

end Cert.Values

end
-- ==== Proof.lean ====
/-
The proof of the claim: the four programs run and end with their arguments unchanged and every counter at zero, the
idealized kernel is the kernel's own text, and at the ideal values the kernel's result on each device is its columns of
each reference's — of the clipped one where the scaled product is within the clip's bounds, of the unclipped one
everywhere.

The kernel's run is in Proof/RunKernel and, the same text over the idealized program, in Proof/RunKernelIdeal; the
result's values are in Proof/Value.lean.
-/
module

public import proofs.«01_k».proof.Defs
public import proofs.«01_k».proof.Proof.RunKernel.Launch
public import proofs.«01_k».proof.Proof.RunKernelIdeal.Launch
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Read
public import proofs.«01_k».proof.Proof.Gen.UnclippedIdeal
public import proofs.«01_k».proof.Proof.Gen.UnclippedIdeal.Read
public import proofs.«01_k».proof.Proof.Gen.On_in_clip_range
public import Idealize.ShloMosaic.Adequacy
public import Idealize.ShloMosaic.Init

@[expose] public section

noncomputable section

namespace Cert.Proof

open Idealize.ShloMosaic Idealize.SL.Sem Cert.Values

/-- The kernel runs and keeps its arguments: its run (RunKernel/Launch.lean) with the result dropped. -/
theorem frame_kernel : Cert.quiescent_Kernel := fun m ρ _ =>
  (θ_run Cert.Kernel.defs _ _).mono (fun _ h => ⟨fun c => ⟨(h.1 c).1, (h.1 c).2.1, (h.1 c).2.2.1, (h.1 c).2.2.2.1⟩, h.2⟩)
    (Cert.RunKernel.run_main (F := Bits) m ρ)

/-- So does the idealized kernel. -/
theorem frame_kernelIdeal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩)
    (Cert.RunKernelIdeal.run_main (F := Ideal) m ρ)

/-- The clipped reference runs and keeps its arguments; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- So does the unclipped one. -/
theorem frame_unclipped : Cert.quiescent_UnclippedIdeal := fun m ρ _ =>
  (θ_run Cert.UnclippedIdeal.defs _ _).mono (fun r h => ⟨fun c => (h c).2, Idealize.ShloMosaic.sem_eq_zero_of_no_sems (by decide) r.2⟩)
    (Cert.UnclippedIdeal.Value.run (F := Ideal) m ρ)

/-- The kernel against the unclipped formula: every element of every device's result. -/
theorem algebraic_unclipped : Cert.algebraic_KernelIdeal_UnclippedIdeal := by
  intro m ρ m' ρ' _ hagree
  refine ⟨fun j => sig (pre (m' (((0 : Dev Cert.UnclippedIdeal.nD).tc : Thread Cert.UnclippedIdeal.nD Cert.UnclippedIdeal.τ).loc Cert.UnclippedIdeal.main_arg0)) (m' (((0 : Dev Cert.UnclippedIdeal.nD).tc : Thread Cert.UnclippedIdeal.nD Cert.UnclippedIdeal.τ).loc Cert.UnclippedIdeal.main_arg1))
      (m' (((0 : Dev Cert.UnclippedIdeal.nD).tc : Thread Cert.UnclippedIdeal.nD Cert.UnclippedIdeal.τ).loc Cert.UnclippedIdeal.main_arg2)) (m' (((0 : Dev Cert.UnclippedIdeal.nD).tc : Thread Cert.UnclippedIdeal.nD Cert.UnclippedIdeal.τ).loc Cert.UnclippedIdeal.main_arg3)) j), ?_, ?_⟩
  · refine (θ_run Cert.KernelIdeal.defs _ _).mono (fun _ h c => ⟨(h.1 c).2.2.2.2.trans ?_, (h.1 c).1, (h.1 c).2.1, (h.1 c).2.2.1, (h.1 c).2.2.2.1⟩)
      (Cert.RunKernelIdeal.run_main (F := Ideal) m ρ)
    exact OUT_block m _ _ _ _ (fun c => (hagree c).1) (fun c => (hagree c).2.1) (fun c => (hagree c).2.2.1) (fun c => (hagree c).2.2.2) c
  · exact (θ_run Cert.UnclippedIdeal.defs _ _).mono
      (fun _ h => ⟨(h 0).1.trans ((Cert.UnclippedIdeal.Read.val_main_v10_eq _ _ _ _).trans (funext fun j => unclipped_apply _ _ _ _ j)), (h 0).2⟩)
      (Cert.UnclippedIdeal.Value.run (F := Ideal) m' ρ')

/-- The kernel against the clipped formula: every element whose scaled product is within the clip's bounds. -/
theorem algebraic_clipped : Cert.algebraic_KernelIdeal_ReferenceIdeal_on_in_clip_range := by
  intro m ρ m' ρ' _ hagree
  refine ⟨fun j => sig (pre (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) j), ?_, ?_⟩
  · refine (θ_run Cert.KernelIdeal.defs _ _).mono
      (fun _ h c => ⟨fun i _ => congrFun ((h.1 c).2.2.2.2.trans ?_) i, (h.1 c).1, (h.1 c).2.1, (h.1 c).2.2.1, (h.1 c).2.2.2.1⟩)
      (Cert.RunKernelIdeal.run_main (F := Ideal) m ρ)
    exact OUT_block m _ _ _ _ (fun c => (hagree c).1) (fun c => (hagree c).2.1) (fun c => (hagree c).2.2.1) (fun c => (hagree c).2.2.2) c
  · exact (θ_run Cert.ReferenceIdeal.defs _ _).mono
      (fun _ h => ⟨fun j hj => (congrFun ((h 0).1.trans (Cert.ReferenceIdeal.Read.val_main_v11_eq _ _ _ _)) j).trans (clipped_eq _ _ _ _ j hj), (h 0).2⟩)
      (Cert.ReferenceIdeal.Value.run (F := Ideal) m' ρ')

/-- The claims together. -/
theorem claim : Cert.Claim :=
  ⟨Cert.Kernel.Gen.facts, Cert.KernelIdeal.Gen.facts, Cert.ReferenceIdeal.Gen.facts, Cert.UnclippedIdeal.Gen.facts, Cert.On_in_clip_range.Gen.facts,
    frame_kernel, frame_kernelIdeal, frame_reference, frame_unclipped, trivial, algebraic_clipped, algebraic_unclipped⟩

end Cert.Proof

end
